-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S16x512 : Shape := ⟨2, ![16, 512]⟩
abbrev S2x32x16x256 : Shape := ⟨4, ![2, 32, 16, 256]⟩
abbrev S2 : Shape := ⟨1, ![2]⟩
abbrev S4 : Shape := ⟨1, ![4]⟩
abbrev S_ : Shape := ⟨0, ![]⟩
abbrev S1 : Shape := ⟨1, ![1]⟩
abbrev S1x1x16x256 : Shape := ⟨4, ![1, 1, 16, 256]⟩
abbrev S16x256 : Shape := ⟨2, ![16, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .bf16⟩
  | .local _ .vmem, ⟨0, _⟩ => ⟨S512x256, .bf16⟩
  | .local _ .vmem, ⟨1, _⟩ => ⟨S256x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S2x32x16x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c16_i32_285 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v416 : BitVec 32 := Scalar.addi v2 c16_i32_285
  let c32_i32_286 : BitVec 32 := 32#32
  let c0_i32_287 : BitVec 32 := 0#32
  let v417 : BitVec 1 := Scalar.cmpi .eq c32_i32_286 c0_i32_287
  let c1_i32_288 : BitVec 32 := 1#32
  let v418 : BitVec 32 := Scalar.select v417 c1_i32_288 c32_i32_286
  let v419 : BitVec 32 := Scalar.remsi v416 v418
  let c0_i32_290 : BitVec 32 := 0#32
  let v421 : BitVec 1 := Scalar.cmpi .slt v419 c0_i32_290
  let c0_i32_291 : BitVec 32 := 0#32
  let v422 : BitVec 1 := Scalar.cmpi .slt v418 c0_i32_291
  let v423 : BitVec 1 := Scalar.xori v421 v422
  let c0_i32_289 : BitVec 32 := 0#32
  let v420 : BitVec 1 := Scalar.cmpi .ne v419 c0_i32_289
  let v424 : BitVec 1 := Scalar.andi v423 v420
  let v425 : BitVec 32 := Scalar.addi v419 v418
  let v426 : BitVec 32 := Scalar.select v424 v425 v419
  let c16_i32_292 : BitVec 32 := 16#32
  let v427 : BitVec 32 := Scalar.muli v426 c16_i32_292
  let c0_i32_301 : BitVec 32 := 0#32
  ![v427.toNat, 0]
def k0_dev32 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_285 : BitVec 32 := 16#32
  let v416 : BitVec 32 := Scalar.addi v2 c16_i32_285
  let c32_i32_286 : BitVec 32 := 32#32
  let c0_i32_287 : BitVec 32 := 0#32
  let v417 : BitVec 1 := Scalar.cmpi .eq c32_i32_286 c0_i32_287
  let c1_i32_288 : BitVec 32 := 1#32
  let v418 : BitVec 32 := Scalar.select v417 c1_i32_288 c32_i32_286
  let v419 : BitVec 32 := Scalar.remsi v416 v418
  let c0_i32_290 : BitVec 32 := 0#32
  let v421 : BitVec 1 := Scalar.cmpi .slt v419 c0_i32_290
  let c0_i32_291 : BitVec 32 := 0#32
  let v422 : BitVec 1 := Scalar.cmpi .slt v418 c0_i32_291
  let v423 : BitVec 1 := Scalar.xori v421 v422
  let c0_i32_289 : BitVec 32 := 0#32
  let v420 : BitVec 1 := Scalar.cmpi .ne v419 c0_i32_289
  let v424 : BitVec 1 := Scalar.andi v423 v420
  let v425 : BitVec 32 := Scalar.addi v419 v418
  let v426 : BitVec 32 := Scalar.select v424 v425 v419
  let c1_i32_297 : BitVec 32 := 1#32
  let v428 : BitVec 32 := Scalar.muli v426 c1_i32_297
  let v429 : BitVec 32 := Scalar.addi c0_i32_298 v428
  v429.toNat
def k0_dev33 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_302 : BitVec 32 := 15#32
  let v437 : BitVec 32 := Scalar.addi v2 c15_i32_302
  let c32_i32_303 : BitVec 32 := 32#32
  let c0_i32_304 : BitVec 32 := 0#32
  let v438 : BitVec 1 := Scalar.cmpi .eq c32_i32_303 c0_i32_304
  let c1_i32_305 : BitVec 32 := 1#32
  let v439 : BitVec 32 := Scalar.select v438 c1_i32_305 c32_i32_303
  let v440 : BitVec 32 := Scalar.remsi v437 v439
  let c0_i32_307 : BitVec 32 := 0#32
  let v442 : BitVec 1 := Scalar.cmpi .slt v440 c0_i32_307
  let c0_i32_308 : BitVec 32 := 0#32
  let v443 : BitVec 1 := Scalar.cmpi .slt v439 c0_i32_308
  let v444 : BitVec 1 := Scalar.xori v442 v443
  let c0_i32_306 : BitVec 32 := 0#32
  let v441 : BitVec 1 := Scalar.cmpi .ne v440 c0_i32_306
  let v445 : BitVec 1 := Scalar.andi v444 v441
  let v446 : BitVec 32 := Scalar.addi v440 v439
  let v447 : BitVec 32 := Scalar.select v445 v446 v440
  let c1_i32_314 : BitVec 32 := 1#32
  let v449 : BitVec 32 := Scalar.muli v447 c1_i32_314
  let v450 : BitVec 32 := Scalar.addi c0_i32_315 v449
  v450.toNat
def k0_dev34 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_319 : BitVec 32 := 17#32
  let v458 : BitVec 32 := Scalar.addi v2 c17_i32_319
  let c32_i32_320 : BitVec 32 := 32#32
  let c0_i32_321 : BitVec 32 := 0#32
  let v459 : BitVec 1 := Scalar.cmpi .eq c32_i32_320 c0_i32_321
  let c1_i32_322 : BitVec 32 := 1#32
  let v460 : BitVec 32 := Scalar.select v459 c1_i32_322 c32_i32_320
  let v461 : BitVec 32 := Scalar.remsi v458 v460
  let c0_i32_324 : BitVec 32 := 0#32
  let v463 : BitVec 1 := Scalar.cmpi .slt v461 c0_i32_324
  let c0_i32_325 : BitVec 32 := 0#32
  let v464 : BitVec 1 := Scalar.cmpi .slt v460 c0_i32_325
  let v465 : BitVec 1 := Scalar.xori v463 v464
  let c0_i32_323 : BitVec 32 := 0#32
  let v462 : BitVec 1 := Scalar.cmpi .ne v461 c0_i32_323
  let v466 : BitVec 1 := Scalar.andi v465 v462
  let v467 : BitVec 32 := Scalar.addi v461 v460
  let v468 : BitVec 32 := Scalar.select v466 v467 v461
  let c1_i32_331 : BitVec 32 := 1#32
  let v470 : BitVec 32 := Scalar.muli v468 c1_i32_331
  let v471 : BitVec 32 := Scalar.addi c0_i32_332 v470
  v471.toNat
def k0_dev35 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_336 : BitVec 32 := 14#32
  let v479 : BitVec 32 := Scalar.addi v2 c14_i32_336
  let c32_i32_337 : BitVec 32 := 32#32
  let c0_i32_338 : BitVec 32 := 0#32
  let v480 : BitVec 1 := Scalar.cmpi .eq c32_i32_337 c0_i32_338
  let c1_i32_339 : BitVec 32 := 1#32
  let v481 : BitVec 32 := Scalar.select v480 c1_i32_339 c32_i32_337
  let v482 : BitVec 32 := Scalar.remsi v479 v481
  let c0_i32_341 : BitVec 32 := 0#32
  let v484 : BitVec 1 := Scalar.cmpi .slt v482 c0_i32_341
  let c0_i32_342 : BitVec 32 := 0#32
  let v485 : BitVec 1 := Scalar.cmpi .slt v481 c0_i32_342
  let v486 : BitVec 1 := Scalar.xori v484 v485
  let c0_i32_340 : BitVec 32 := 0#32
  let v483 : BitVec 1 := Scalar.cmpi .ne v482 c0_i32_340
  let v487 : BitVec 1 := Scalar.andi v486 v483
  let v488 : BitVec 32 := Scalar.addi v482 v481
  let v489 : BitVec 32 := Scalar.select v487 v488 v482
  let c1_i32_348 : BitVec 32 := 1#32
  let v491 : BitVec 32 := Scalar.muli v489 c1_i32_348
  let v492 : BitVec 32 := Scalar.addi c0_i32_349 v491
  v492.toNat
def k0_dev36 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_353 : BitVec 32 := 18#32
  let v500 : BitVec 32 := Scalar.addi v2 c18_i32_353
  let c32_i32_354 : BitVec 32 := 32#32
  let c0_i32_355 : BitVec 32 := 0#32
  let v501 : BitVec 1 := Scalar.cmpi .eq c32_i32_354 c0_i32_355
  let c1_i32_356 : BitVec 32 := 1#32
  let v502 : BitVec 32 := Scalar.select v501 c1_i32_356 c32_i32_354
  let v503 : BitVec 32 := Scalar.remsi v500 v502
  let c0_i32_358 : BitVec 32 := 0#32
  let v505 : BitVec 1 := Scalar.cmpi .slt v503 c0_i32_358
  let c0_i32_359 : BitVec 32 := 0#32
  let v506 : BitVec 1 := Scalar.cmpi .slt v502 c0_i32_359
  let v507 : BitVec 1 := Scalar.xori v505 v506
  let c0_i32_357 : BitVec 32 := 0#32
  let v504 : BitVec 1 := Scalar.cmpi .ne v503 c0_i32_357
  let v508 : BitVec 1 := Scalar.andi v507 v504
  let v509 : BitVec 32 := Scalar.addi v503 v502
  let v510 : BitVec 32 := Scalar.select v508 v509 v503
  let c1_i32_365 : BitVec 32 := 1#32
  let v512 : BitVec 32 := Scalar.muli v510 c1_i32_365
  let v513 : BitVec 32 := Scalar.addi c0_i32_366 v512
  v513.toNat
def k0_dev37 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_370 : BitVec 32 := 13#32
  let v521 : BitVec 32 := Scalar.addi v2 c13_i32_370
  let c32_i32_371 : BitVec 32 := 32#32
  let c0_i32_372 : BitVec 32 := 0#32
  let v522 : BitVec 1 := Scalar.cmpi .eq c32_i32_371 c0_i32_372
  let c1_i32_373 : BitVec 32 := 1#32
  let v523 : BitVec 32 := Scalar.select v522 c1_i32_373 c32_i32_371
  let v524 : BitVec 32 := Scalar.remsi v521 v523
  let c0_i32_375 : BitVec 32 := 0#32
  let v526 : BitVec 1 := Scalar.cmpi .slt v524 c0_i32_375
  let c0_i32_376 : BitVec 32 := 0#32
  let v527 : BitVec 1 := Scalar.cmpi .slt v523 c0_i32_376
  let v528 : BitVec 1 := Scalar.xori v526 v527
  let c0_i32_374 : BitVec 32 := 0#32
  let v525 : BitVec 1 := Scalar.cmpi .ne v524 c0_i32_374
  let v529 : BitVec 1 := Scalar.andi v528 v525
  let v530 : BitVec 32 := Scalar.addi v524 v523
  let v531 : BitVec 32 := Scalar.select v529 v530 v524
  let c1_i32_382 : BitVec 32 := 1#32
  let v533 : BitVec 32 := Scalar.muli v531 c1_i32_382
  let v534 : BitVec 32 := Scalar.addi c0_i32_383 v533
  v534.toNat
def k0_dev38 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_387 : BitVec 32 := 19#32
  let v542 : BitVec 32 := Scalar.addi v2 c19_i32_387
  let c32_i32_388 : BitVec 32 := 32#32
  let c0_i32_389 : BitVec 32 := 0#32
  let v543 : BitVec 1 := Scalar.cmpi .eq c32_i32_388 c0_i32_389
  let c1_i32_390 : BitVec 32 := 1#32
  let v544 : BitVec 32 := Scalar.select v543 c1_i32_390 c32_i32_388
  let v545 : BitVec 32 := Scalar.remsi v542 v544
  let c0_i32_392 : BitVec 32 := 0#32
  let v547 : BitVec 1 := Scalar.cmpi .slt v545 c0_i32_392
  let c0_i32_393 : BitVec 32 := 0#32
  let v548 : BitVec 1 := Scalar.cmpi .slt v544 c0_i32_393
  let v549 : BitVec 1 := Scalar.xori v547 v548
  let c0_i32_391 : BitVec 32 := 0#32
  let v546 : BitVec 1 := Scalar.cmpi .ne v545 c0_i32_391
  let v550 : BitVec 1 := Scalar.andi v549 v546
  let v551 : BitVec 32 := Scalar.addi v545 v544
  let v552 : BitVec 32 := Scalar.select v550 v551 v545
  let c1_i32_399 : BitVec 32 := 1#32
  let v554 : BitVec 32 := Scalar.muli v552 c1_i32_399
  let v555 : BitVec 32 := Scalar.addi c0_i32_400 v554
  v555.toNat
def k0_dev39 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_404 : BitVec 32 := 12#32
  let v563 : BitVec 32 := Scalar.addi v2 c12_i32_404
  let c32_i32_405 : BitVec 32 := 32#32
  let c0_i32_406 : BitVec 32 := 0#32
  let v564 : BitVec 1 := Scalar.cmpi .eq c32_i32_405 c0_i32_406
  let c1_i32_407 : BitVec 32 := 1#32
  let v565 : BitVec 32 := Scalar.select v564 c1_i32_407 c32_i32_405
  let v566 : BitVec 32 := Scalar.remsi v563 v565
  let c0_i32_409 : BitVec 32 := 0#32
  let v568 : BitVec 1 := Scalar.cmpi .slt v566 c0_i32_409
  let c0_i32_410 : BitVec 32 := 0#32
  let v569 : BitVec 1 := Scalar.cmpi .slt v565 c0_i32_410
  let v570 : BitVec 1 := Scalar.xori v568 v569
  let c0_i32_408 : BitVec 32 := 0#32
  let v567 : BitVec 1 := Scalar.cmpi .ne v566 c0_i32_408
  let v571 : BitVec 1 := Scalar.andi v570 v567
  let v572 : BitVec 32 := Scalar.addi v566 v565
  let v573 : BitVec 32 := Scalar.select v571 v572 v566
  let c1_i32_416 : BitVec 32 := 1#32
  let v575 : BitVec 32 := Scalar.muli v573 c1_i32_416
  let v576 : BitVec 32 := Scalar.addi c0_i32_417 v575
  v576.toNat
def k0_dev40 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_421 : BitVec 32 := 20#32
  let v584 : BitVec 32 := Scalar.addi v2 c20_i32_421
  let c32_i32_422 : BitVec 32 := 32#32
  let c0_i32_423 : BitVec 32 := 0#32
  let v585 : BitVec 1 := Scalar.cmpi .eq c32_i32_422 c0_i32_423
  let c1_i32_424 : BitVec 32 := 1#32
  let v586 : BitVec 32 := Scalar.select v585 c1_i32_424 c32_i32_422
  let v587 : BitVec 32 := Scalar.remsi v584 v586
  let c0_i32_426 : BitVec 32 := 0#32
  let v589 : BitVec 1 := Scalar.cmpi .slt v587 c0_i32_426
  let c0_i32_427 : BitVec 32 := 0#32
  let v590 : BitVec 1 := Scalar.cmpi .slt v586 c0_i32_427
  let v591 : BitVec 1 := Scalar.xori v589 v590
  let c0_i32_425 : BitVec 32 := 0#32
  let v588 : BitVec 1 := Scalar.cmpi .ne v587 c0_i32_425
  let v592 : BitVec 1 := Scalar.andi v591 v588
  let v593 : BitVec 32 := Scalar.addi v587 v586
  let v594 : BitVec 32 := Scalar.select v592 v593 v587
  let c1_i32_433 : BitVec 32 := 1#32
  let v596 : BitVec 32 := Scalar.muli v594 c1_i32_433
  let v597 : BitVec 32 := Scalar.addi c0_i32_434 v596
  v597.toNat
def k0_dev41 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_438 : BitVec 32 := 11#32
  let v605 : BitVec 32 := Scalar.addi v2 c11_i32_438
  let c32_i32_439 : BitVec 32 := 32#32
  let c0_i32_440 : BitVec 32 := 0#32
  let v606 : BitVec 1 := Scalar.cmpi .eq c32_i32_439 c0_i32_440
  let c1_i32_441 : BitVec 32 := 1#32
  let v607 : BitVec 32 := Scalar.select v606 c1_i32_441 c32_i32_439
  let v608 : BitVec 32 := Scalar.remsi v605 v607
  let c0_i32_443 : BitVec 32 := 0#32
  let v610 : BitVec 1 := Scalar.cmpi .slt v608 c0_i32_443
  let c0_i32_444 : BitVec 32 := 0#32
  let v611 : BitVec 1 := Scalar.cmpi .slt v607 c0_i32_444
  let v612 : BitVec 1 := Scalar.xori v610 v611
  let c0_i32_442 : BitVec 32 := 0#32
  let v609 : BitVec 1 := Scalar.cmpi .ne v608 c0_i32_442
  let v613 : BitVec 1 := Scalar.andi v612 v609
  let v614 : BitVec 32 := Scalar.addi v608 v607
  let v615 : BitVec 32 := Scalar.select v613 v614 v608
  let c1_i32_450 : BitVec 32 := 1#32
  let v617 : BitVec 32 := Scalar.muli v615 c1_i32_450
  let v618 : BitVec 32 := Scalar.addi c0_i32_451 v617
  v618.toNat
def k0_dev42 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_455 : BitVec 32 := 21#32
  let v626 : BitVec 32 := Scalar.addi v2 c21_i32_455
  let c32_i32_456 : BitVec 32 := 32#32
  let c0_i32_457 : BitVec 32 := 0#32
  let v627 : BitVec 1 := Scalar.cmpi .eq c32_i32_456 c0_i32_457
  let c1_i32_458 : BitVec 32 := 1#32
  let v628 : BitVec 32 := Scalar.select v627 c1_i32_458 c32_i32_456
  let v629 : BitVec 32 := Scalar.remsi v626 v628
  let c0_i32_460 : BitVec 32 := 0#32
  let v631 : BitVec 1 := Scalar.cmpi .slt v629 c0_i32_460
  let c0_i32_461 : BitVec 32 := 0#32
  let v632 : BitVec 1 := Scalar.cmpi .slt v628 c0_i32_461
  let v633 : BitVec 1 := Scalar.xori v631 v632
  let c0_i32_459 : BitVec 32 := 0#32
  let v630 : BitVec 1 := Scalar.cmpi .ne v629 c0_i32_459
  let v634 : BitVec 1 := Scalar.andi v633 v630
  let v635 : BitVec 32 := Scalar.addi v629 v628
  let v636 : BitVec 32 := Scalar.select v634 v635 v629
  let c1_i32_467 : BitVec 32 := 1#32
  let v638 : BitVec 32 := Scalar.muli v636 c1_i32_467
  let v639 : BitVec 32 := Scalar.addi c0_i32_468 v638
  v639.toNat
def k0_dev43 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_472 : BitVec 32 := 10#32
  let v647 : BitVec 32 := Scalar.addi v2 c10_i32_472
  let c32_i32_473 : BitVec 32 := 32#32
  let c0_i32_474 : BitVec 32 := 0#32
  let v648 : BitVec 1 := Scalar.cmpi .eq c32_i32_473 c0_i32_474
  let c1_i32_475 : BitVec 32 := 1#32
  let v649 : BitVec 32 := Scalar.select v648 c1_i32_475 c32_i32_473
  let v650 : BitVec 32 := Scalar.remsi v647 v649
  let c0_i32_477 : BitVec 32 := 0#32
  let v652 : BitVec 1 := Scalar.cmpi .slt v650 c0_i32_477
  let c0_i32_478 : BitVec 32 := 0#32
  let v653 : BitVec 1 := Scalar.cmpi .slt v649 c0_i32_478
  let v654 : BitVec 1 := Scalar.xori v652 v653
  let c0_i32_476 : BitVec 32 := 0#32
  let v651 : BitVec 1 := Scalar.cmpi .ne v650 c0_i32_476
  let v655 : BitVec 1 := Scalar.andi v654 v651
  let v656 : BitVec 32 := Scalar.addi v650 v649
  let v657 : BitVec 32 := Scalar.select v655 v656 v650
  let c1_i32_484 : BitVec 32 := 1#32
  let v659 : BitVec 32 := Scalar.muli v657 c1_i32_484
  let v660 : BitVec 32 := Scalar.addi c0_i32_485 v659
  v660.toNat
def k0_dev44 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_489 : BitVec 32 := 22#32
  let v668 : BitVec 32 := Scalar.addi v2 c22_i32_489
  let c32_i32_490 : BitVec 32 := 32#32
  let c0_i32_491 : BitVec 32 := 0#32
  let v669 : BitVec 1 := Scalar.cmpi .eq c32_i32_490 c0_i32_491
  let c1_i32_492 : BitVec 32 := 1#32
  let v670 : BitVec 32 := Scalar.select v669 c1_i32_492 c32_i32_490
  let v671 : BitVec 32 := Scalar.remsi v668 v670
  let c0_i32_494 : BitVec 32 := 0#32
  let v673 : BitVec 1 := Scalar.cmpi .slt v671 c0_i32_494
  let c0_i32_495 : BitVec 32 := 0#32
  let v674 : BitVec 1 := Scalar.cmpi .slt v670 c0_i32_495
  let v675 : BitVec 1 := Scalar.xori v673 v674
  let c0_i32_493 : BitVec 32 := 0#32
  let v672 : BitVec 1 := Scalar.cmpi .ne v671 c0_i32_493
  let v676 : BitVec 1 := Scalar.andi v675 v672
  let v677 : BitVec 32 := Scalar.addi v671 v670
  let v678 : BitVec 32 := Scalar.select v676 v677 v671
  let c1_i32_501 : BitVec 32 := 1#32
  let v680 : BitVec 32 := Scalar.muli v678 c1_i32_501
  let v681 : BitVec 32 := Scalar.addi c0_i32_502 v680
  v681.toNat
def k0_dev45 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_506 : BitVec 32 := 9#32
  let v689 : BitVec 32 := Scalar.addi v2 c9_i32_506
  let c32_i32_507 : BitVec 32 := 32#32
  let c0_i32_508 : BitVec 32 := 0#32
  let v690 : BitVec 1 := Scalar.cmpi .eq c32_i32_507 c0_i32_508
  let c1_i32_509 : BitVec 32 := 1#32
  let v691 : BitVec 32 := Scalar.select v690 c1_i32_509 c32_i32_507
  let v692 : BitVec 32 := Scalar.remsi v689 v691
  let c0_i32_511 : BitVec 32 := 0#32
  let v694 : BitVec 1 := Scalar.cmpi .slt v692 c0_i32_511
  let c0_i32_512 : BitVec 32 := 0#32
  let v695 : BitVec 1 := Scalar.cmpi .slt v691 c0_i32_512
  let v696 : BitVec 1 := Scalar.xori v694 v695
  let c0_i32_510 : BitVec 32 := 0#32
  let v693 : BitVec 1 := Scalar.cmpi .ne v692 c0_i32_510
  let v697 : BitVec 1 := Scalar.andi v696 v693
  let v698 : BitVec 32 := Scalar.addi v692 v691
  let v699 : BitVec 32 := Scalar.select v697 v698 v692
  let c1_i32_518 : BitVec 32 := 1#32
  let v701 : BitVec 32 := Scalar.muli v699 c1_i32_518
  let v702 : BitVec 32 := Scalar.addi c0_i32_519 v701
  v702.toNat
def k0_dev46 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_523 : BitVec 32 := 23#32
  let v710 : BitVec 32 := Scalar.addi v2 c23_i32_523
  let c32_i32_524 : BitVec 32 := 32#32
  let c0_i32_525 : BitVec 32 := 0#32
  let v711 : BitVec 1 := Scalar.cmpi .eq c32_i32_524 c0_i32_525
  let c1_i32_526 : BitVec 32 := 1#32
  let v712 : BitVec 32 := Scalar.select v711 c1_i32_526 c32_i32_524
  let v713 : BitVec 32 := Scalar.remsi v710 v712
  let c0_i32_528 : BitVec 32 := 0#32
  let v715 : BitVec 1 := Scalar.cmpi .slt v713 c0_i32_528
  let c0_i32_529 : BitVec 32 := 0#32
  let v716 : BitVec 1 := Scalar.cmpi .slt v712 c0_i32_529
  let v717 : BitVec 1 := Scalar.xori v715 v716
  let c0_i32_527 : BitVec 32 := 0#32
  let v714 : BitVec 1 := Scalar.cmpi .ne v713 c0_i32_527
  let v718 : BitVec 1 := Scalar.andi v717 v714
  let v719 : BitVec 32 := Scalar.addi v713 v712
  let v720 : BitVec 32 := Scalar.select v718 v719 v713
  let c1_i32_535 : BitVec 32 := 1#32
  let v722 : BitVec 32 := Scalar.muli v720 c1_i32_535
  let v723 : BitVec 32 := Scalar.addi c0_i32_536 v722
  v723.toNat
def k0_dev47 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_540 : BitVec 32 := 8#32
  let v731 : BitVec 32 := Scalar.addi v2 c8_i32_540
  let c32_i32_541 : BitVec 32 := 32#32
  let c0_i32_542 : BitVec 32 := 0#32
  let v732 : BitVec 1 := Scalar.cmpi .eq c32_i32_541 c0_i32_542
  let c1_i32_543 : BitVec 32 := 1#32
  let v733 : BitVec 32 := Scalar.select v732 c1_i32_543 c32_i32_541
  let v734 : BitVec 32 := Scalar.remsi v731 v733
  let c0_i32_545 : BitVec 32 := 0#32
  let v736 : BitVec 1 := Scalar.cmpi .slt v734 c0_i32_545
  let c0_i32_546 : BitVec 32 := 0#32
  let v737 : BitVec 1 := Scalar.cmpi .slt v733 c0_i32_546
  let v738 : BitVec 1 := Scalar.xori v736 v737
  let c0_i32_544 : BitVec 32 := 0#32
  let v735 : BitVec 1 := Scalar.cmpi .ne v734 c0_i32_544
  let v739 : BitVec 1 := Scalar.andi v738 v735
  let v740 : BitVec 32 := Scalar.addi v734 v733
  let v741 : BitVec 32 := Scalar.select v739 v740 v734
  let c1_i32_552 : BitVec 32 := 1#32
  let v743 : BitVec 32 := Scalar.muli v741 c1_i32_552
  let v744 : BitVec 32 := Scalar.addi c0_i32_553 v743
  v744.toNat
def k0_dev48 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_557 : BitVec 32 := 24#32
  let v752 : BitVec 32 := Scalar.addi v2 c24_i32_557
  let c32_i32_558 : BitVec 32 := 32#32
  let c0_i32_559 : BitVec 32 := 0#32
  let v753 : BitVec 1 := Scalar.cmpi .eq c32_i32_558 c0_i32_559
  let c1_i32_560 : BitVec 32 := 1#32
  let v754 : BitVec 32 := Scalar.select v753 c1_i32_560 c32_i32_558
  let v755 : BitVec 32 := Scalar.remsi v752 v754
  let c0_i32_562 : BitVec 32 := 0#32
  let v757 : BitVec 1 := Scalar.cmpi .slt v755 c0_i32_562
  let c0_i32_563 : BitVec 32 := 0#32
  let v758 : BitVec 1 := Scalar.cmpi .slt v754 c0_i32_563
  let v759 : BitVec 1 := Scalar.xori v757 v758
  let c0_i32_561 : BitVec 32 := 0#32
  let v756 : BitVec 1 := Scalar.cmpi .ne v755 c0_i32_561
  let v760 : BitVec 1 := Scalar.andi v759 v756
  let v761 : BitVec 32 := Scalar.addi v755 v754
  let v762 : BitVec 32 := Scalar.select v760 v761 v755
  let c1_i32_569 : BitVec 32 := 1#32
  let v764 : BitVec 32 := Scalar.muli v762 c1_i32_569
  let v765 : BitVec 32 := Scalar.addi c0_i32_570 v764
  v765.toNat
def k0_dev49 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_574 : BitVec 32 := 7#32
  let v773 : BitVec 32 := Scalar.addi v2 c7_i32_574
  let c32_i32_575 : BitVec 32 := 32#32
  let c0_i32_576 : BitVec 32 := 0#32
  let v774 : BitVec 1 := Scalar.cmpi .eq c32_i32_575 c0_i32_576
  let c1_i32_577 : BitVec 32 := 1#32
  let v775 : BitVec 32 := Scalar.select v774 c1_i32_577 c32_i32_575
  let v776 : BitVec 32 := Scalar.remsi v773 v775
  let c0_i32_579 : BitVec 32 := 0#32
  let v778 : BitVec 1 := Scalar.cmpi .slt v776 c0_i32_579
  let c0_i32_580 : BitVec 32 := 0#32
  let v779 : BitVec 1 := Scalar.cmpi .slt v775 c0_i32_580
  let v780 : BitVec 1 := Scalar.xori v778 v779
  let c0_i32_578 : BitVec 32 := 0#32
  let v777 : BitVec 1 := Scalar.cmpi .ne v776 c0_i32_578
  let v781 : BitVec 1 := Scalar.andi v780 v777
  let v782 : BitVec 32 := Scalar.addi v776 v775
  let v783 : BitVec 32 := Scalar.select v781 v782 v776
  let c1_i32_586 : BitVec 32 := 1#32
  let v785 : BitVec 32 := Scalar.muli v783 c1_i32_586
  let v786 : BitVec 32 := Scalar.addi c0_i32_587 v785
  v786.toNat
def k0_dev50 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_591 : BitVec 32 := 25#32
  let v794 : BitVec 32 := Scalar.addi v2 c25_i32_591
  let c32_i32_592 : BitVec 32 := 32#32
  let c0_i32_593 : BitVec 32 := 0#32
  let v795 : BitVec 1 := Scalar.cmpi .eq c32_i32_592 c0_i32_593
  let c1_i32_594 : BitVec 32 := 1#32
  let v796 : BitVec 32 := Scalar.select v795 c1_i32_594 c32_i32_592
  let v797 : BitVec 32 := Scalar.remsi v794 v796
  let c0_i32_596 : BitVec 32 := 0#32
  let v799 : BitVec 1 := Scalar.cmpi .slt v797 c0_i32_596
  let c0_i32_597 : BitVec 32 := 0#32
  let v800 : BitVec 1 := Scalar.cmpi .slt v796 c0_i32_597
  let v801 : BitVec 1 := Scalar.xori v799 v800
  let c0_i32_595 : BitVec 32 := 0#32
  let v798 : BitVec 1 := Scalar.cmpi .ne v797 c0_i32_595
  let v802 : BitVec 1 := Scalar.andi v801 v798
  let v803 : BitVec 32 := Scalar.addi v797 v796
  let v804 : BitVec 32 := Scalar.select v802 v803 v797
  let c1_i32_603 : BitVec 32 := 1#32
  let v806 : BitVec 32 := Scalar.muli v804 c1_i32_603
  let v807 : BitVec 32 := Scalar.addi c0_i32_604 v806
  v807.toNat
def k0_dev51 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_608 : BitVec 32 := 6#32
  let v815 : BitVec 32 := Scalar.addi v2 c6_i32_608
  let c32_i32_609 : BitVec 32 := 32#32
  let c0_i32_610 : BitVec 32 := 0#32
  let v816 : BitVec 1 := Scalar.cmpi .eq c32_i32_609 c0_i32_610
  let c1_i32_611 : BitVec 32 := 1#32
  let v817 : BitVec 32 := Scalar.select v816 c1_i32_611 c32_i32_609
  let v818 : BitVec 32 := Scalar.remsi v815 v817
  let c0_i32_613 : BitVec 32 := 0#32
  let v820 : BitVec 1 := Scalar.cmpi .slt v818 c0_i32_613
  let c0_i32_614 : BitVec 32 := 0#32
  let v821 : BitVec 1 := Scalar.cmpi .slt v817 c0_i32_614
  let v822 : BitVec 1 := Scalar.xori v820 v821
  let c0_i32_612 : BitVec 32 := 0#32
  let v819 : BitVec 1 := Scalar.cmpi .ne v818 c0_i32_612
  let v823 : BitVec 1 := Scalar.andi v822 v819
  let v824 : BitVec 32 := Scalar.addi v818 v817
  let v825 : BitVec 32 := Scalar.select v823 v824 v818
  let c1_i32_620 : BitVec 32 := 1#32
  let v827 : BitVec 32 := Scalar.muli v825 c1_i32_620
  let v828 : BitVec 32 := Scalar.addi c0_i32_621 v827
  v828.toNat
def k0_dev52 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_625 : BitVec 32 := 26#32
  let v836 : BitVec 32 := Scalar.addi v2 c26_i32_625
  let c32_i32_626 : BitVec 32 := 32#32
  let c0_i32_627 : BitVec 32 := 0#32
  let v837 : BitVec 1 := Scalar.cmpi .eq c32_i32_626 c0_i32_627
  let c1_i32_628 : BitVec 32 := 1#32
  let v838 : BitVec 32 := Scalar.select v837 c1_i32_628 c32_i32_626
  let v839 : BitVec 32 := Scalar.remsi v836 v838
  let c0_i32_630 : BitVec 32 := 0#32
  let v841 : BitVec 1 := Scalar.cmpi .slt v839 c0_i32_630
  let c0_i32_631 : BitVec 32 := 0#32
  let v842 : BitVec 1 := Scalar.cmpi .slt v838 c0_i32_631
  let v843 : BitVec 1 := Scalar.xori v841 v842
  let c0_i32_629 : BitVec 32 := 0#32
  let v840 : BitVec 1 := Scalar.cmpi .ne v839 c0_i32_629
  let v844 : BitVec 1 := Scalar.andi v843 v840
  let v845 : BitVec 32 := Scalar.addi v839 v838
  let v846 : BitVec 32 := Scalar.select v844 v845 v839
  let c1_i32_637 : BitVec 32 := 1#32
  let v848 : BitVec 32 := Scalar.muli v846 c1_i32_637
  let v849 : BitVec 32 := Scalar.addi c0_i32_638 v848
  v849.toNat
def k0_dev53 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_642 : BitVec 32 := 5#32
  let v857 : BitVec 32 := Scalar.addi v2 c5_i32_642
  let c32_i32_643 : BitVec 32 := 32#32
  let c0_i32_644 : BitVec 32 := 0#32
  let v858 : BitVec 1 := Scalar.cmpi .eq c32_i32_643 c0_i32_644
  let c1_i32_645 : BitVec 32 := 1#32
  let v859 : BitVec 32 := Scalar.select v858 c1_i32_645 c32_i32_643
  let v860 : BitVec 32 := Scalar.remsi v857 v859
  let c0_i32_647 : BitVec 32 := 0#32
  let v862 : BitVec 1 := Scalar.cmpi .slt v860 c0_i32_647
  let c0_i32_648 : BitVec 32 := 0#32
  let v863 : BitVec 1 := Scalar.cmpi .slt v859 c0_i32_648
  let v864 : BitVec 1 := Scalar.xori v862 v863
  let c0_i32_646 : BitVec 32 := 0#32
  let v861 : BitVec 1 := Scalar.cmpi .ne v860 c0_i32_646
  let v865 : BitVec 1 := Scalar.andi v864 v861
  let v866 : BitVec 32 := Scalar.addi v860 v859
  let v867 : BitVec 32 := Scalar.select v865 v866 v860
  let c1_i32_654 : BitVec 32 := 1#32
  let v869 : BitVec 32 := Scalar.muli v867 c1_i32_654
  let v870 : BitVec 32 := Scalar.addi c0_i32_655 v869
  v870.toNat
def k0_dev54 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_659 : BitVec 32 := 27#32
  let v878 : BitVec 32 := Scalar.addi v2 c27_i32_659
  let c32_i32_660 : BitVec 32 := 32#32
  let c0_i32_661 : BitVec 32 := 0#32
  let v879 : BitVec 1 := Scalar.cmpi .eq c32_i32_660 c0_i32_661
  let c1_i32_662 : BitVec 32 := 1#32
  let v880 : BitVec 32 := Scalar.select v879 c1_i32_662 c32_i32_660
  let v881 : BitVec 32 := Scalar.remsi v878 v880
  let c0_i32_664 : BitVec 32 := 0#32
  let v883 : BitVec 1 := Scalar.cmpi .slt v881 c0_i32_664
  let c0_i32_665 : BitVec 32 := 0#32
  let v884 : BitVec 1 := Scalar.cmpi .slt v880 c0_i32_665
  let v885 : BitVec 1 := Scalar.xori v883 v884
  let c0_i32_663 : BitVec 32 := 0#32
  let v882 : BitVec 1 := Scalar.cmpi .ne v881 c0_i32_663
  let v886 : BitVec 1 := Scalar.andi v885 v882
  let v887 : BitVec 32 := Scalar.addi v881 v880
  let v888 : BitVec 32 := Scalar.select v886 v887 v881
  let c1_i32_671 : BitVec 32 := 1#32
  let v890 : BitVec 32 := Scalar.muli v888 c1_i32_671
  let v891 : BitVec 32 := Scalar.addi c0_i32_672 v890
  v891.toNat
def k0_dev55 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_676 : BitVec 32 := 4#32
  let v899 : BitVec 32 := Scalar.addi v2 c4_i32_676
  let c32_i32_677 : BitVec 32 := 32#32
  let c0_i32_678 : BitVec 32 := 0#32
  let v900 : BitVec 1 := Scalar.cmpi .eq c32_i32_677 c0_i32_678
  let c1_i32_679 : BitVec 32 := 1#32
  let v901 : BitVec 32 := Scalar.select v900 c1_i32_679 c32_i32_677
  let v902 : BitVec 32 := Scalar.remsi v899 v901
  let c0_i32_681 : BitVec 32 := 0#32
  let v904 : BitVec 1 := Scalar.cmpi .slt v902 c0_i32_681
  let c0_i32_682 : BitVec 32 := 0#32
  let v905 : BitVec 1 := Scalar.cmpi .slt v901 c0_i32_682
  let v906 : BitVec 1 := Scalar.xori v904 v905
  let c0_i32_680 : BitVec 32 := 0#32
  let v903 : BitVec 1 := Scalar.cmpi .ne v902 c0_i32_680
  let v907 : BitVec 1 := Scalar.andi v906 v903
  let v908 : BitVec 32 := Scalar.addi v902 v901
  let v909 : BitVec 32 := Scalar.select v907 v908 v902
  let c1_i32_688 : BitVec 32 := 1#32
  let v911 : BitVec 32 := Scalar.muli v909 c1_i32_688
  let v912 : BitVec 32 := Scalar.addi c0_i32_689 v911
  v912.toNat
def k0_dev56 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_693 : BitVec 32 := 28#32
  let v920 : BitVec 32 := Scalar.addi v2 c28_i32_693
  let c32_i32_694 : BitVec 32 := 32#32
  let c0_i32_695 : BitVec 32 := 0#32
  let v921 : BitVec 1 := Scalar.cmpi .eq c32_i32_694 c0_i32_695
  let c1_i32_696 : BitVec 32 := 1#32
  let v922 : BitVec 32 := Scalar.select v921 c1_i32_696 c32_i32_694
  let v923 : BitVec 32 := Scalar.remsi v920 v922
  let c0_i32_698 : BitVec 32 := 0#32
  let v925 : BitVec 1 := Scalar.cmpi .slt v923 c0_i32_698
  let c0_i32_699 : BitVec 32 := 0#32
  let v926 : BitVec 1 := Scalar.cmpi .slt v922 c0_i32_699
  let v927 : BitVec 1 := Scalar.xori v925 v926
  let c0_i32_697 : BitVec 32 := 0#32
  let v924 : BitVec 1 := Scalar.cmpi .ne v923 c0_i32_697
  let v928 : BitVec 1 := Scalar.andi v927 v924
  let v929 : BitVec 32 := Scalar.addi v923 v922
  let v930 : BitVec 32 := Scalar.select v928 v929 v923
  let c1_i32_705 : BitVec 32 := 1#32
  let v932 : BitVec 32 := Scalar.muli v930 c1_i32_705
  let v933 : BitVec 32 := Scalar.addi c0_i32_706 v932
  v933.toNat
def k0_dev57 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_710 : BitVec 32 := 3#32
  let v941 : BitVec 32 := Scalar.addi v2 c3_i32_710
  let c32_i32_711 : BitVec 32 := 32#32
  let c0_i32_712 : BitVec 32 := 0#32
  let v942 : BitVec 1 := Scalar.cmpi .eq c32_i32_711 c0_i32_712
  let c1_i32_713 : BitVec 32 := 1#32
  let v943 : BitVec 32 := Scalar.select v942 c1_i32_713 c32_i32_711
  let v944 : BitVec 32 := Scalar.remsi v941 v943
  let c0_i32_715 : BitVec 32 := 0#32
  let v946 : BitVec 1 := Scalar.cmpi .slt v944 c0_i32_715
  let c0_i32_716 : BitVec 32 := 0#32
  let v947 : BitVec 1 := Scalar.cmpi .slt v943 c0_i32_716
  let v948 : BitVec 1 := Scalar.xori v946 v947
  let c0_i32_714 : BitVec 32 := 0#32
  let v945 : BitVec 1 := Scalar.cmpi .ne v944 c0_i32_714
  let v949 : BitVec 1 := Scalar.andi v948 v945
  let v950 : BitVec 32 := Scalar.addi v944 v943
  let v951 : BitVec 32 := Scalar.select v949 v950 v944
  let c1_i32_722 : BitVec 32 := 1#32
  let v953 : BitVec 32 := Scalar.muli v951 c1_i32_722
  let v954 : BitVec 32 := Scalar.addi c0_i32_723 v953
  v954.toNat
def k0_dev58 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_727 : BitVec 32 := 29#32
  let v962 : BitVec 32 := Scalar.addi v2 c29_i32_727
  let c32_i32_728 : BitVec 32 := 32#32
  let c0_i32_729 : BitVec 32 := 0#32
  let v963 : BitVec 1 := Scalar.cmpi .eq c32_i32_728 c0_i32_729
  let c1_i32_730 : BitVec 32 := 1#32
  let v964 : BitVec 32 := Scalar.select v963 c1_i32_730 c32_i32_728
  let v965 : BitVec 32 := Scalar.remsi v962 v964
  let c0_i32_732 : BitVec 32 := 0#32
  let v967 : BitVec 1 := Scalar.cmpi .slt v965 c0_i32_732
  let c0_i32_733 : BitVec 32 := 0#32
  let v968 : BitVec 1 := Scalar.cmpi .slt v964 c0_i32_733
  let v969 : BitVec 1 := Scalar.xori v967 v968
  let c0_i32_731 : BitVec 32 := 0#32
  let v966 : BitVec 1 := Scalar.cmpi .ne v965 c0_i32_731
  let v970 : BitVec 1 := Scalar.andi v969 v966
  let v971 : BitVec 32 := Scalar.addi v965 v964
  let v972 : BitVec 32 := Scalar.select v970 v971 v965
  let c1_i32_739 : BitVec 32 := 1#32
  let v974 : BitVec 32 := Scalar.muli v972 c1_i32_739
  let v975 : BitVec 32 := Scalar.addi c0_i32_740 v974
  v975.toNat
def k0_dev59 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_744 : BitVec 32 := 2#32
  let v983 : BitVec 32 := Scalar.addi v2 c2_i32_744
  let c32_i32_745 : BitVec 32 := 32#32
  let c0_i32_746 : BitVec 32 := 0#32
  let v984 : BitVec 1 := Scalar.cmpi .eq c32_i32_745 c0_i32_746
  let c1_i32_747 : BitVec 32 := 1#32
  let v985 : BitVec 32 := Scalar.select v984 c1_i32_747 c32_i32_745
  let v986 : BitVec 32 := Scalar.remsi v983 v985
  let c0_i32_749 : BitVec 32 := 0#32
  let v988 : BitVec 1 := Scalar.cmpi .slt v986 c0_i32_749
  let c0_i32_750 : BitVec 32 := 0#32
  let v989 : BitVec 1 := Scalar.cmpi .slt v985 c0_i32_750
  let v990 : BitVec 1 := Scalar.xori v988 v989
  let c0_i32_748 : BitVec 32 := 0#32
  let v987 : BitVec 1 := Scalar.cmpi .ne v986 c0_i32_748
  let v991 : BitVec 1 := Scalar.andi v990 v987
  let v992 : BitVec 32 := Scalar.addi v986 v985
  let v993 : BitVec 32 := Scalar.select v991 v992 v986
  let c1_i32_756 : BitVec 32 := 1#32
  let v995 : BitVec 32 := Scalar.muli v993 c1_i32_756
  let v996 : BitVec 32 := Scalar.addi c0_i32_757 v995
  v996.toNat
def k0_dev60 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_761 : BitVec 32 := 30#32
  let v1004 : BitVec 32 := Scalar.addi v2 c30_i32_761
  let c32_i32_762 : BitVec 32 := 32#32
  let c0_i32_763 : BitVec 32 := 0#32
  let v1005 : BitVec 1 := Scalar.cmpi .eq c32_i32_762 c0_i32_763
  let c1_i32_764 : BitVec 32 := 1#32
  let v1006 : BitVec 32 := Scalar.select v1005 c1_i32_764 c32_i32_762
  let v1007 : BitVec 32 := Scalar.remsi v1004 v1006
  let c0_i32_766 : BitVec 32 := 0#32
  let v1009 : BitVec 1 := Scalar.cmpi .slt v1007 c0_i32_766
  let c0_i32_767 : BitVec 32 := 0#32
  let v1010 : BitVec 1 := Scalar.cmpi .slt v1006 c0_i32_767
  let v1011 : BitVec 1 := Scalar.xori v1009 v1010
  let c0_i32_765 : BitVec 32 := 0#32
  let v1008 : BitVec 1 := Scalar.cmpi .ne v1007 c0_i32_765
  let v1012 : BitVec 1 := Scalar.andi v1011 v1008
  let v1013 : BitVec 32 := Scalar.addi v1007 v1006
  let v1014 : BitVec 32 := Scalar.select v1012 v1013 v1007
  let c1_i32_773 : BitVec 32 := 1#32
  let v1016 : BitVec 32 := Scalar.muli v1014 c1_i32_773
  let v1017 : BitVec 32 := Scalar.addi c0_i32_774 v1016
  v1017.toNat
def k0_dev61 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_778 : BitVec 32 := 1#32
  let v1025 : BitVec 32 := Scalar.addi v2 c1_i32_778
  let c32_i32_779 : BitVec 32 := 32#32
  let c0_i32_780 : BitVec 32 := 0#32
  let v1026 : BitVec 1 := Scalar.cmpi .eq c32_i32_779 c0_i32_780
  let c1_i32_781 : BitVec 32 := 1#32
  let v1027 : BitVec 32 := Scalar.select v1026 c1_i32_781 c32_i32_779
  let v1028 : BitVec 32 := Scalar.remsi v1025 v1027
  let c0_i32_783 : BitVec 32 := 0#32
  let v1030 : BitVec 1 := Scalar.cmpi .slt v1028 c0_i32_783
  let c0_i32_784 : BitVec 32 := 0#32
  let v1031 : BitVec 1 := Scalar.cmpi .slt v1027 c0_i32_784
  let v1032 : BitVec 1 := Scalar.xori v1030 v1031
  let c0_i32_782 : BitVec 32 := 0#32
  let v1029 : BitVec 1 := Scalar.cmpi .ne v1028 c0_i32_782
  let v1033 : BitVec 1 := Scalar.andi v1032 v1029
  let v1034 : BitVec 32 := Scalar.addi v1028 v1027
  let v1035 : BitVec 32 := Scalar.select v1033 v1034 v1028
  let c1_i32_790 : BitVec 32 := 1#32
  let v1037 : BitVec 32 := Scalar.muli v1035 c1_i32_790
  let v1038 : BitVec 32 := Scalar.addi c0_i32_791 v1037
  v1038.toNat
def k0_dev62 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_795 : BitVec 32 := 31#32
  let v1046 : BitVec 32 := Scalar.addi v2 c31_i32_795
  let c32_i32_796 : BitVec 32 := 32#32
  let c0_i32_797 : BitVec 32 := 0#32
  let v1047 : BitVec 1 := Scalar.cmpi .eq c32_i32_796 c0_i32_797
  let c1_i32_798 : BitVec 32 := 1#32
  let v1048 : BitVec 32 := Scalar.select v1047 c1_i32_798 c32_i32_796
  let v1049 : BitVec 32 := Scalar.remsi v1046 v1048
  let c0_i32_800 : BitVec 32 := 0#32
  let v1051 : BitVec 1 := Scalar.cmpi .slt v1049 c0_i32_800
  let c0_i32_801 : BitVec 32 := 0#32
  let v1052 : BitVec 1 := Scalar.cmpi .slt v1048 c0_i32_801
  let v1053 : BitVec 1 := Scalar.xori v1051 v1052
  let c0_i32_799 : BitVec 32 := 0#32
  let v1050 : BitVec 1 := Scalar.cmpi .ne v1049 c0_i32_799
  let v1054 : BitVec 1 := Scalar.andi v1053 v1050
  let v1055 : BitVec 32 := Scalar.addi v1049 v1048
  let v1056 : BitVec 32 := Scalar.select v1054 v1055 v1049
  let c1_i32_807 : BitVec 32 := 1#32
  let v1058 : BitVec 32 := Scalar.muli v1056 c1_i32_807
  let v1059 : BitVec 32 := Scalar.addi c0_i32_808 v1058
  v1059.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_812 : BitVec 32 := 16#32
  let v1067 : BitVec 32 := Scalar.muli v2 c16_i32_812
  let c0_i32_818 : BitVec 32 := 0#32
  ![v1067.toNat, 0]
def k0_off3 (d0 : Dev nD) (c16_i32_819 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1073 : BitVec 32 := Scalar.addi v2 c16_i32_819
  let c32_i32_820 : BitVec 32 := 32#32
  let c0_i32_821 : BitVec 32 := 0#32
  let v1074 : BitVec 1 := Scalar.cmpi .eq c32_i32_820 c0_i32_821
  let c1_i32_822 : BitVec 32 := 1#32
  let v1075 : BitVec 32 := Scalar.select v1074 c1_i32_822 c32_i32_820
  let v1076 : BitVec 32 := Scalar.remsi v1073 v1075
  let c0_i32_824 : BitVec 32 := 0#32
  let v1078 : BitVec 1 := Scalar.cmpi .slt v1076 c0_i32_824
  let c0_i32_825 : BitVec 32 := 0#32
  let v1079 : BitVec 1 := Scalar.cmpi .slt v1075 c0_i32_825
  let v1080 : BitVec 1 := Scalar.xori v1078 v1079
  let c0_i32_823 : BitVec 32 := 0#32
  let v1077 : BitVec 1 := Scalar.cmpi .ne v1076 c0_i32_823
  let v1081 : BitVec 1 := Scalar.andi v1080 v1077
  let v1082 : BitVec 32 := Scalar.addi v1076 v1075
  let v1083 : BitVec 32 := Scalar.select v1081 v1082 v1076
  let c16_i32_826 : BitVec 32 := 16#32
  let v1084 : BitVec 32 := Scalar.muli v1083 c16_i32_826
  let c256_i32 : BitVec 32 := 256#32
  ![v1084.toNat, 256]
def k0_dev63 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_819 : BitVec 32 := 16#32
  let v1073 : BitVec 32 := Scalar.addi v2 c16_i32_819
  let c32_i32_820 : BitVec 32 := 32#32
  let c0_i32_821 : BitVec 32 := 0#32
  let v1074 : BitVec 1 := Scalar.cmpi .eq c32_i32_820 c0_i32_821
  let c1_i32_822 : BitVec 32 := 1#32
  let v1075 : BitVec 32 := Scalar.select v1074 c1_i32_822 c32_i32_820
  let v1076 : BitVec 32 := Scalar.remsi v1073 v1075
  let c0_i32_824 : BitVec 32 := 0#32
  let v1078 : BitVec 1 := Scalar.cmpi .slt v1076 c0_i32_824
  let c0_i32_825 : BitVec 32 := 0#32
  let v1079 : BitVec 1 := Scalar.cmpi .slt v1075 c0_i32_825
  let v1080 : BitVec 1 := Scalar.xori v1078 v1079
  let c0_i32_823 : BitVec 32 := 0#32
  let v1077 : BitVec 1 := Scalar.cmpi .ne v1076 c0_i32_823
  let v1081 : BitVec 1 := Scalar.andi v1080 v1077
  let v1082 : BitVec 32 := Scalar.addi v1076 v1075
  let v1083 : BitVec 32 := Scalar.select v1081 v1082 v1076
  let c1_i32_831 : BitVec 32 := 1#32
  let v1085 : BitVec 32 := Scalar.muli v1083 c1_i32_831
  let v1086 : BitVec 32 := Scalar.addi c0_i32_832 v1085
  v1086.toNat
def k0_dev64 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_835 : BitVec 32 := 15#32
  let v1094 : BitVec 32 := Scalar.addi v2 c15_i32_835
  let c32_i32_836 : BitVec 32 := 32#32
  let c0_i32_837 : BitVec 32 := 0#32
  let v1095 : BitVec 1 := Scalar.cmpi .eq c32_i32_836 c0_i32_837
  let c1_i32_838 : BitVec 32 := 1#32
  let v1096 : BitVec 32 := Scalar.select v1095 c1_i32_838 c32_i32_836
  let v1097 : BitVec 32 := Scalar.remsi v1094 v1096
  let c0_i32_840 : BitVec 32 := 0#32
  let v1099 : BitVec 1 := Scalar.cmpi .slt v1097 c0_i32_840
  let c0_i32_841 : BitVec 32 := 0#32
  let v1100 : BitVec 1 := Scalar.cmpi .slt v1096 c0_i32_841
  let v1101 : BitVec 1 := Scalar.xori v1099 v1100
  let c0_i32_839 : BitVec 32 := 0#32
  let v1098 : BitVec 1 := Scalar.cmpi .ne v1097 c0_i32_839
  let v1102 : BitVec 1 := Scalar.andi v1101 v1098
  let v1103 : BitVec 32 := Scalar.addi v1097 v1096
  let v1104 : BitVec 32 := Scalar.select v1102 v1103 v1097
  let c1_i32_847 : BitVec 32 := 1#32
  let v1106 : BitVec 32 := Scalar.muli v1104 c1_i32_847
  let v1107 : BitVec 32 := Scalar.addi c0_i32_848 v1106
  v1107.toNat
def k0_dev65 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_852 : BitVec 32 := 17#32
  let v1115 : BitVec 32 := Scalar.addi v2 c17_i32_852
  let c32_i32_853 : BitVec 32 := 32#32
  let c0_i32_854 : BitVec 32 := 0#32
  let v1116 : BitVec 1 := Scalar.cmpi .eq c32_i32_853 c0_i32_854
  let c1_i32_855 : BitVec 32 := 1#32
  let v1117 : BitVec 32 := Scalar.select v1116 c1_i32_855 c32_i32_853
  let v1118 : BitVec 32 := Scalar.remsi v1115 v1117
  let c0_i32_857 : BitVec 32 := 0#32
  let v1120 : BitVec 1 := Scalar.cmpi .slt v1118 c0_i32_857
  let c0_i32_858 : BitVec 32 := 0#32
  let v1121 : BitVec 1 := Scalar.cmpi .slt v1117 c0_i32_858
  let v1122 : BitVec 1 := Scalar.xori v1120 v1121
  let c0_i32_856 : BitVec 32 := 0#32
  let v1119 : BitVec 1 := Scalar.cmpi .ne v1118 c0_i32_856
  let v1123 : BitVec 1 := Scalar.andi v1122 v1119
  let v1124 : BitVec 32 := Scalar.addi v1118 v1117
  let v1125 : BitVec 32 := Scalar.select v1123 v1124 v1118
  let c1_i32_864 : BitVec 32 := 1#32
  let v1127 : BitVec 32 := Scalar.muli v1125 c1_i32_864
  let v1128 : BitVec 32 := Scalar.addi c0_i32_865 v1127
  v1128.toNat
def k0_dev66 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_869 : BitVec 32 := 14#32
  let v1136 : BitVec 32 := Scalar.addi v2 c14_i32_869
  let c32_i32_870 : BitVec 32 := 32#32
  let c0_i32_871 : BitVec 32 := 0#32
  let v1137 : BitVec 1 := Scalar.cmpi .eq c32_i32_870 c0_i32_871
  let c1_i32_872 : BitVec 32 := 1#32
  let v1138 : BitVec 32 := Scalar.select v1137 c1_i32_872 c32_i32_870
  let v1139 : BitVec 32 := Scalar.remsi v1136 v1138
  let c0_i32_874 : BitVec 32 := 0#32
  let v1141 : BitVec 1 := Scalar.cmpi .slt v1139 c0_i32_874
  let c0_i32_875 : BitVec 32 := 0#32
  let v1142 : BitVec 1 := Scalar.cmpi .slt v1138 c0_i32_875
  let v1143 : BitVec 1 := Scalar.xori v1141 v1142
  let c0_i32_873 : BitVec 32 := 0#32
  let v1140 : BitVec 1 := Scalar.cmpi .ne v1139 c0_i32_873
  let v1144 : BitVec 1 := Scalar.andi v1143 v1140
  let v1145 : BitVec 32 := Scalar.addi v1139 v1138
  let v1146 : BitVec 32 := Scalar.select v1144 v1145 v1139
  let c1_i32_881 : BitVec 32 := 1#32
  let v1148 : BitVec 32 := Scalar.muli v1146 c1_i32_881
  let v1149 : BitVec 32 := Scalar.addi c0_i32_882 v1148
  v1149.toNat
def k0_dev67 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_886 : BitVec 32 := 18#32
  let v1157 : BitVec 32 := Scalar.addi v2 c18_i32_886
  let c32_i32_887 : BitVec 32 := 32#32
  let c0_i32_888 : BitVec 32 := 0#32
  let v1158 : BitVec 1 := Scalar.cmpi .eq c32_i32_887 c0_i32_888
  let c1_i32_889 : BitVec 32 := 1#32
  let v1159 : BitVec 32 := Scalar.select v1158 c1_i32_889 c32_i32_887
  let v1160 : BitVec 32 := Scalar.remsi v1157 v1159
  let c0_i32_891 : BitVec 32 := 0#32
  let v1162 : BitVec 1 := Scalar.cmpi .slt v1160 c0_i32_891
  let c0_i32_892 : BitVec 32 := 0#32
  let v1163 : BitVec 1 := Scalar.cmpi .slt v1159 c0_i32_892
  let v1164 : BitVec 1 := Scalar.xori v1162 v1163
  let c0_i32_890 : BitVec 32 := 0#32
  let v1161 : BitVec 1 := Scalar.cmpi .ne v1160 c0_i32_890
  let v1165 : BitVec 1 := Scalar.andi v1164 v1161
  let v1166 : BitVec 32 := Scalar.addi v1160 v1159
  let v1167 : BitVec 32 := Scalar.select v1165 v1166 v1160
  let c1_i32_898 : BitVec 32 := 1#32
  let v1169 : BitVec 32 := Scalar.muli v1167 c1_i32_898
  let v1170 : BitVec 32 := Scalar.addi c0_i32_899 v1169
  v1170.toNat
def k0_dev68 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_903 : BitVec 32 := 13#32
  let v1178 : BitVec 32 := Scalar.addi v2 c13_i32_903
  let c32_i32_904 : BitVec 32 := 32#32
  let c0_i32_905 : BitVec 32 := 0#32
  let v1179 : BitVec 1 := Scalar.cmpi .eq c32_i32_904 c0_i32_905
  let c1_i32_906 : BitVec 32 := 1#32
  let v1180 : BitVec 32 := Scalar.select v1179 c1_i32_906 c32_i32_904
  let v1181 : BitVec 32 := Scalar.remsi v1178 v1180
  let c0_i32_908 : BitVec 32 := 0#32
  let v1183 : BitVec 1 := Scalar.cmpi .slt v1181 c0_i32_908
  let c0_i32_909 : BitVec 32 := 0#32
  let v1184 : BitVec 1 := Scalar.cmpi .slt v1180 c0_i32_909
  let v1185 : BitVec 1 := Scalar.xori v1183 v1184
  let c0_i32_907 : BitVec 32 := 0#32
  let v1182 : BitVec 1 := Scalar.cmpi .ne v1181 c0_i32_907
  let v1186 : BitVec 1 := Scalar.andi v1185 v1182
  let v1187 : BitVec 32 := Scalar.addi v1181 v1180
  let v1188 : BitVec 32 := Scalar.select v1186 v1187 v1181
  let c1_i32_915 : BitVec 32 := 1#32
  let v1190 : BitVec 32 := Scalar.muli v1188 c1_i32_915
  let v1191 : BitVec 32 := Scalar.addi c0_i32_916 v1190
  v1191.toNat
def k0_dev69 (d0 : Dev nD) : Nat :=
  let c0_i32_933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_920 : BitVec 32 := 19#32
  let v1199 : BitVec 32 := Scalar.addi v2 c19_i32_920
  let c32_i32_921 : BitVec 32 := 32#32
  let c0_i32_922 : BitVec 32 := 0#32
  let v1200 : BitVec 1 := Scalar.cmpi .eq c32_i32_921 c0_i32_922
  let c1_i32_923 : BitVec 32 := 1#32
  let v1201 : BitVec 32 := Scalar.select v1200 c1_i32_923 c32_i32_921
  let v1202 : BitVec 32 := Scalar.remsi v1199 v1201
  let c0_i32_925 : BitVec 32 := 0#32
  let v1204 : BitVec 1 := Scalar.cmpi .slt v1202 c0_i32_925
  let c0_i32_926 : BitVec 32 := 0#32
  let v1205 : BitVec 1 := Scalar.cmpi .slt v1201 c0_i32_926
  let v1206 : BitVec 1 := Scalar.xori v1204 v1205
  let c0_i32_924 : BitVec 32 := 0#32
  let v1203 : BitVec 1 := Scalar.cmpi .ne v1202 c0_i32_924
  let v1207 : BitVec 1 := Scalar.andi v1206 v1203
  let v1208 : BitVec 32 := Scalar.addi v1202 v1201
  let v1209 : BitVec 32 := Scalar.select v1207 v1208 v1202
  let c1_i32_932 : BitVec 32 := 1#32
  let v1211 : BitVec 32 := Scalar.muli v1209 c1_i32_932
  let v1212 : BitVec 32 := Scalar.addi c0_i32_933 v1211
  v1212.toNat
def k0_dev70 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_937 : BitVec 32 := 12#32
  let v1220 : BitVec 32 := Scalar.addi v2 c12_i32_937
  let c32_i32_938 : BitVec 32 := 32#32
  let c0_i32_939 : BitVec 32 := 0#32
  let v1221 : BitVec 1 := Scalar.cmpi .eq c32_i32_938 c0_i32_939
  let c1_i32_940 : BitVec 32 := 1#32
  let v1222 : BitVec 32 := Scalar.select v1221 c1_i32_940 c32_i32_938
  let v1223 : BitVec 32 := Scalar.remsi v1220 v1222
  let c0_i32_942 : BitVec 32 := 0#32
  let v1225 : BitVec 1 := Scalar.cmpi .slt v1223 c0_i32_942
  let c0_i32_943 : BitVec 32 := 0#32
  let v1226 : BitVec 1 := Scalar.cmpi .slt v1222 c0_i32_943
  let v1227 : BitVec 1 := Scalar.xori v1225 v1226
  let c0_i32_941 : BitVec 32 := 0#32
  let v1224 : BitVec 1 := Scalar.cmpi .ne v1223 c0_i32_941
  let v1228 : BitVec 1 := Scalar.andi v1227 v1224
  let v1229 : BitVec 32 := Scalar.addi v1223 v1222
  let v1230 : BitVec 32 := Scalar.select v1228 v1229 v1223
  let c1_i32_949 : BitVec 32 := 1#32
  let v1232 : BitVec 32 := Scalar.muli v1230 c1_i32_949
  let v1233 : BitVec 32 := Scalar.addi c0_i32_950 v1232
  v1233.toNat
def k0_dev71 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_954 : BitVec 32 := 20#32
  let v1241 : BitVec 32 := Scalar.addi v2 c20_i32_954
  let c32_i32_955 : BitVec 32 := 32#32
  let c0_i32_956 : BitVec 32 := 0#32
  let v1242 : BitVec 1 := Scalar.cmpi .eq c32_i32_955 c0_i32_956
  let c1_i32_957 : BitVec 32 := 1#32
  let v1243 : BitVec 32 := Scalar.select v1242 c1_i32_957 c32_i32_955
  let v1244 : BitVec 32 := Scalar.remsi v1241 v1243
  let c0_i32_959 : BitVec 32 := 0#32
  let v1246 : BitVec 1 := Scalar.cmpi .slt v1244 c0_i32_959
  let c0_i32_960 : BitVec 32 := 0#32
  let v1247 : BitVec 1 := Scalar.cmpi .slt v1243 c0_i32_960
  let v1248 : BitVec 1 := Scalar.xori v1246 v1247
  let c0_i32_958 : BitVec 32 := 0#32
  let v1245 : BitVec 1 := Scalar.cmpi .ne v1244 c0_i32_958
  let v1249 : BitVec 1 := Scalar.andi v1248 v1245
  let v1250 : BitVec 32 := Scalar.addi v1244 v1243
  let v1251 : BitVec 32 := Scalar.select v1249 v1250 v1244
  let c1_i32_966 : BitVec 32 := 1#32
  let v1253 : BitVec 32 := Scalar.muli v1251 c1_i32_966
  let v1254 : BitVec 32 := Scalar.addi c0_i32_967 v1253
  v1254.toNat
def k0_dev72 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_971 : BitVec 32 := 11#32
  let v1262 : BitVec 32 := Scalar.addi v2 c11_i32_971
  let c32_i32_972 : BitVec 32 := 32#32
  let c0_i32_973 : BitVec 32 := 0#32
  let v1263 : BitVec 1 := Scalar.cmpi .eq c32_i32_972 c0_i32_973
  let c1_i32_974 : BitVec 32 := 1#32
  let v1264 : BitVec 32 := Scalar.select v1263 c1_i32_974 c32_i32_972
  let v1265 : BitVec 32 := Scalar.remsi v1262 v1264
  let c0_i32_976 : BitVec 32 := 0#32
  let v1267 : BitVec 1 := Scalar.cmpi .slt v1265 c0_i32_976
  let c0_i32_977 : BitVec 32 := 0#32
  let v1268 : BitVec 1 := Scalar.cmpi .slt v1264 c0_i32_977
  let v1269 : BitVec 1 := Scalar.xori v1267 v1268
  let c0_i32_975 : BitVec 32 := 0#32
  let v1266 : BitVec 1 := Scalar.cmpi .ne v1265 c0_i32_975
  let v1270 : BitVec 1 := Scalar.andi v1269 v1266
  let v1271 : BitVec 32 := Scalar.addi v1265 v1264
  let v1272 : BitVec 32 := Scalar.select v1270 v1271 v1265
  let c1_i32_983 : BitVec 32 := 1#32
  let v1274 : BitVec 32 := Scalar.muli v1272 c1_i32_983
  let v1275 : BitVec 32 := Scalar.addi c0_i32_984 v1274
  v1275.toNat
def k0_dev73 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_988 : BitVec 32 := 21#32
  let v1283 : BitVec 32 := Scalar.addi v2 c21_i32_988
  let c32_i32_989 : BitVec 32 := 32#32
  let c0_i32_990 : BitVec 32 := 0#32
  let v1284 : BitVec 1 := Scalar.cmpi .eq c32_i32_989 c0_i32_990
  let c1_i32_991 : BitVec 32 := 1#32
  let v1285 : BitVec 32 := Scalar.select v1284 c1_i32_991 c32_i32_989
  let v1286 : BitVec 32 := Scalar.remsi v1283 v1285
  let c0_i32_993 : BitVec 32 := 0#32
  let v1288 : BitVec 1 := Scalar.cmpi .slt v1286 c0_i32_993
  let c0_i32_994 : BitVec 32 := 0#32
  let v1289 : BitVec 1 := Scalar.cmpi .slt v1285 c0_i32_994
  let v1290 : BitVec 1 := Scalar.xori v1288 v1289
  let c0_i32_992 : BitVec 32 := 0#32
  let v1287 : BitVec 1 := Scalar.cmpi .ne v1286 c0_i32_992
  let v1291 : BitVec 1 := Scalar.andi v1290 v1287
  let v1292 : BitVec 32 := Scalar.addi v1286 v1285
  let v1293 : BitVec 32 := Scalar.select v1291 v1292 v1286
  let c1_i32_1000 : BitVec 32 := 1#32
  let v1295 : BitVec 32 := Scalar.muli v1293 c1_i32_1000
  let v1296 : BitVec 32 := Scalar.addi c0_i32_1001 v1295
  v1296.toNat
def k0_dev74 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1005 : BitVec 32 := 10#32
  let v1304 : BitVec 32 := Scalar.addi v2 c10_i32_1005
  let c32_i32_1006 : BitVec 32 := 32#32
  let c0_i32_1007 : BitVec 32 := 0#32
  let v1305 : BitVec 1 := Scalar.cmpi .eq c32_i32_1006 c0_i32_1007
  let c1_i32_1008 : BitVec 32 := 1#32
  let v1306 : BitVec 32 := Scalar.select v1305 c1_i32_1008 c32_i32_1006
  let v1307 : BitVec 32 := Scalar.remsi v1304 v1306
  let c0_i32_1010 : BitVec 32 := 0#32
  let v1309 : BitVec 1 := Scalar.cmpi .slt v1307 c0_i32_1010
  let c0_i32_1011 : BitVec 32 := 0#32
  let v1310 : BitVec 1 := Scalar.cmpi .slt v1306 c0_i32_1011
  let v1311 : BitVec 1 := Scalar.xori v1309 v1310
  let c0_i32_1009 : BitVec 32 := 0#32
  let v1308 : BitVec 1 := Scalar.cmpi .ne v1307 c0_i32_1009
  let v1312 : BitVec 1 := Scalar.andi v1311 v1308
  let v1313 : BitVec 32 := Scalar.addi v1307 v1306
  let v1314 : BitVec 32 := Scalar.select v1312 v1313 v1307
  let c1_i32_1017 : BitVec 32 := 1#32
  let v1316 : BitVec 32 := Scalar.muli v1314 c1_i32_1017
  let v1317 : BitVec 32 := Scalar.addi c0_i32_1018 v1316
  v1317.toNat
def k0_dev75 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1022 : BitVec 32 := 22#32
  let v1325 : BitVec 32 := Scalar.addi v2 c22_i32_1022
  let c32_i32_1023 : BitVec 32 := 32#32
  let c0_i32_1024 : BitVec 32 := 0#32
  let v1326 : BitVec 1 := Scalar.cmpi .eq c32_i32_1023 c0_i32_1024
  let c1_i32_1025 : BitVec 32 := 1#32
  let v1327 : BitVec 32 := Scalar.select v1326 c1_i32_1025 c32_i32_1023
  let v1328 : BitVec 32 := Scalar.remsi v1325 v1327
  let c0_i32_1027 : BitVec 32 := 0#32
  let v1330 : BitVec 1 := Scalar.cmpi .slt v1328 c0_i32_1027
  let c0_i32_1028 : BitVec 32 := 0#32
  let v1331 : BitVec 1 := Scalar.cmpi .slt v1327 c0_i32_1028
  let v1332 : BitVec 1 := Scalar.xori v1330 v1331
  let c0_i32_1026 : BitVec 32 := 0#32
  let v1329 : BitVec 1 := Scalar.cmpi .ne v1328 c0_i32_1026
  let v1333 : BitVec 1 := Scalar.andi v1332 v1329
  let v1334 : BitVec 32 := Scalar.addi v1328 v1327
  let v1335 : BitVec 32 := Scalar.select v1333 v1334 v1328
  let c1_i32_1034 : BitVec 32 := 1#32
  let v1337 : BitVec 32 := Scalar.muli v1335 c1_i32_1034
  let v1338 : BitVec 32 := Scalar.addi c0_i32_1035 v1337
  v1338.toNat
def k0_dev76 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1039 : BitVec 32 := 9#32
  let v1346 : BitVec 32 := Scalar.addi v2 c9_i32_1039
  let c32_i32_1040 : BitVec 32 := 32#32
  let c0_i32_1041 : BitVec 32 := 0#32
  let v1347 : BitVec 1 := Scalar.cmpi .eq c32_i32_1040 c0_i32_1041
  let c1_i32_1042 : BitVec 32 := 1#32
  let v1348 : BitVec 32 := Scalar.select v1347 c1_i32_1042 c32_i32_1040
  let v1349 : BitVec 32 := Scalar.remsi v1346 v1348
  let c0_i32_1044 : BitVec 32 := 0#32
  let v1351 : BitVec 1 := Scalar.cmpi .slt v1349 c0_i32_1044
  let c0_i32_1045 : BitVec 32 := 0#32
  let v1352 : BitVec 1 := Scalar.cmpi .slt v1348 c0_i32_1045
  let v1353 : BitVec 1 := Scalar.xori v1351 v1352
  let c0_i32_1043 : BitVec 32 := 0#32
  let v1350 : BitVec 1 := Scalar.cmpi .ne v1349 c0_i32_1043
  let v1354 : BitVec 1 := Scalar.andi v1353 v1350
  let v1355 : BitVec 32 := Scalar.addi v1349 v1348
  let v1356 : BitVec 32 := Scalar.select v1354 v1355 v1349
  let c1_i32_1051 : BitVec 32 := 1#32
  let v1358 : BitVec 32 := Scalar.muli v1356 c1_i32_1051
  let v1359 : BitVec 32 := Scalar.addi c0_i32_1052 v1358
  v1359.toNat
def k0_dev77 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1056 : BitVec 32 := 23#32
  let v1367 : BitVec 32 := Scalar.addi v2 c23_i32_1056
  let c32_i32_1057 : BitVec 32 := 32#32
  let c0_i32_1058 : BitVec 32 := 0#32
  let v1368 : BitVec 1 := Scalar.cmpi .eq c32_i32_1057 c0_i32_1058
  let c1_i32_1059 : BitVec 32 := 1#32
  let v1369 : BitVec 32 := Scalar.select v1368 c1_i32_1059 c32_i32_1057
  let v1370 : BitVec 32 := Scalar.remsi v1367 v1369
  let c0_i32_1061 : BitVec 32 := 0#32
  let v1372 : BitVec 1 := Scalar.cmpi .slt v1370 c0_i32_1061
  let c0_i32_1062 : BitVec 32 := 0#32
  let v1373 : BitVec 1 := Scalar.cmpi .slt v1369 c0_i32_1062
  let v1374 : BitVec 1 := Scalar.xori v1372 v1373
  let c0_i32_1060 : BitVec 32 := 0#32
  let v1371 : BitVec 1 := Scalar.cmpi .ne v1370 c0_i32_1060
  let v1375 : BitVec 1 := Scalar.andi v1374 v1371
  let v1376 : BitVec 32 := Scalar.addi v1370 v1369
  let v1377 : BitVec 32 := Scalar.select v1375 v1376 v1370
  let c1_i32_1068 : BitVec 32 := 1#32
  let v1379 : BitVec 32 := Scalar.muli v1377 c1_i32_1068
  let v1380 : BitVec 32 := Scalar.addi c0_i32_1069 v1379
  v1380.toNat
def k0_dev78 (d0 : Dev nD) : Nat :=
  let c0_i32_1086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1073 : BitVec 32 := 8#32
  let v1388 : BitVec 32 := Scalar.addi v2 c8_i32_1073
  let c32_i32_1074 : BitVec 32 := 32#32
  let c0_i32_1075 : BitVec 32 := 0#32
  let v1389 : BitVec 1 := Scalar.cmpi .eq c32_i32_1074 c0_i32_1075
  let c1_i32_1076 : BitVec 32 := 1#32
  let v1390 : BitVec 32 := Scalar.select v1389 c1_i32_1076 c32_i32_1074
  let v1391 : BitVec 32 := Scalar.remsi v1388 v1390
  let c0_i32_1078 : BitVec 32 := 0#32
  let v1393 : BitVec 1 := Scalar.cmpi .slt v1391 c0_i32_1078
  let c0_i32_1079 : BitVec 32 := 0#32
  let v1394 : BitVec 1 := Scalar.cmpi .slt v1390 c0_i32_1079
  let v1395 : BitVec 1 := Scalar.xori v1393 v1394
  let c0_i32_1077 : BitVec 32 := 0#32
  let v1392 : BitVec 1 := Scalar.cmpi .ne v1391 c0_i32_1077
  let v1396 : BitVec 1 := Scalar.andi v1395 v1392
  let v1397 : BitVec 32 := Scalar.addi v1391 v1390
  let v1398 : BitVec 32 := Scalar.select v1396 v1397 v1391
  let c1_i32_1085 : BitVec 32 := 1#32
  let v1400 : BitVec 32 := Scalar.muli v1398 c1_i32_1085
  let v1401 : BitVec 32 := Scalar.addi c0_i32_1086 v1400
  v1401.toNat
def k0_dev79 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1090 : BitVec 32 := 24#32
  let v1409 : BitVec 32 := Scalar.addi v2 c24_i32_1090
  let c32_i32_1091 : BitVec 32 := 32#32
  let c0_i32_1092 : BitVec 32 := 0#32
  let v1410 : BitVec 1 := Scalar.cmpi .eq c32_i32_1091 c0_i32_1092
  let c1_i32_1093 : BitVec 32 := 1#32
  let v1411 : BitVec 32 := Scalar.select v1410 c1_i32_1093 c32_i32_1091
  let v1412 : BitVec 32 := Scalar.remsi v1409 v1411
  let c0_i32_1095 : BitVec 32 := 0#32
  let v1414 : BitVec 1 := Scalar.cmpi .slt v1412 c0_i32_1095
  let c0_i32_1096 : BitVec 32 := 0#32
  let v1415 : BitVec 1 := Scalar.cmpi .slt v1411 c0_i32_1096
  let v1416 : BitVec 1 := Scalar.xori v1414 v1415
  let c0_i32_1094 : BitVec 32 := 0#32
  let v1413 : BitVec 1 := Scalar.cmpi .ne v1412 c0_i32_1094
  let v1417 : BitVec 1 := Scalar.andi v1416 v1413
  let v1418 : BitVec 32 := Scalar.addi v1412 v1411
  let v1419 : BitVec 32 := Scalar.select v1417 v1418 v1412
  let c1_i32_1102 : BitVec 32 := 1#32
  let v1421 : BitVec 32 := Scalar.muli v1419 c1_i32_1102
  let v1422 : BitVec 32 := Scalar.addi c0_i32_1103 v1421
  v1422.toNat
def k0_dev80 (d0 : Dev nD) : Nat :=
  let c0_i32_1120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1107 : BitVec 32 := 7#32
  let v1430 : BitVec 32 := Scalar.addi v2 c7_i32_1107
  let c32_i32_1108 : BitVec 32 := 32#32
  let c0_i32_1109 : BitVec 32 := 0#32
  let v1431 : BitVec 1 := Scalar.cmpi .eq c32_i32_1108 c0_i32_1109
  let c1_i32_1110 : BitVec 32 := 1#32
  let v1432 : BitVec 32 := Scalar.select v1431 c1_i32_1110 c32_i32_1108
  let v1433 : BitVec 32 := Scalar.remsi v1430 v1432
  let c0_i32_1112 : BitVec 32 := 0#32
  let v1435 : BitVec 1 := Scalar.cmpi .slt v1433 c0_i32_1112
  let c0_i32_1113 : BitVec 32 := 0#32
  let v1436 : BitVec 1 := Scalar.cmpi .slt v1432 c0_i32_1113
  let v1437 : BitVec 1 := Scalar.xori v1435 v1436
  let c0_i32_1111 : BitVec 32 := 0#32
  let v1434 : BitVec 1 := Scalar.cmpi .ne v1433 c0_i32_1111
  let v1438 : BitVec 1 := Scalar.andi v1437 v1434
  let v1439 : BitVec 32 := Scalar.addi v1433 v1432
  let v1440 : BitVec 32 := Scalar.select v1438 v1439 v1433
  let c1_i32_1119 : BitVec 32 := 1#32
  let v1442 : BitVec 32 := Scalar.muli v1440 c1_i32_1119
  let v1443 : BitVec 32 := Scalar.addi c0_i32_1120 v1442
  v1443.toNat
def k0_dev81 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1124 : BitVec 32 := 25#32
  let v1451 : BitVec 32 := Scalar.addi v2 c25_i32_1124
  let c32_i32_1125 : BitVec 32 := 32#32
  let c0_i32_1126 : BitVec 32 := 0#32
  let v1452 : BitVec 1 := Scalar.cmpi .eq c32_i32_1125 c0_i32_1126
  let c1_i32_1127 : BitVec 32 := 1#32
  let v1453 : BitVec 32 := Scalar.select v1452 c1_i32_1127 c32_i32_1125
  let v1454 : BitVec 32 := Scalar.remsi v1451 v1453
  let c0_i32_1129 : BitVec 32 := 0#32
  let v1456 : BitVec 1 := Scalar.cmpi .slt v1454 c0_i32_1129
  let c0_i32_1130 : BitVec 32 := 0#32
  let v1457 : BitVec 1 := Scalar.cmpi .slt v1453 c0_i32_1130
  let v1458 : BitVec 1 := Scalar.xori v1456 v1457
  let c0_i32_1128 : BitVec 32 := 0#32
  let v1455 : BitVec 1 := Scalar.cmpi .ne v1454 c0_i32_1128
  let v1459 : BitVec 1 := Scalar.andi v1458 v1455
  let v1460 : BitVec 32 := Scalar.addi v1454 v1453
  let v1461 : BitVec 32 := Scalar.select v1459 v1460 v1454
  let c1_i32_1136 : BitVec 32 := 1#32
  let v1463 : BitVec 32 := Scalar.muli v1461 c1_i32_1136
  let v1464 : BitVec 32 := Scalar.addi c0_i32_1137 v1463
  v1464.toNat
def k0_dev82 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1141 : BitVec 32 := 6#32
  let v1472 : BitVec 32 := Scalar.addi v2 c6_i32_1141
  let c32_i32_1142 : BitVec 32 := 32#32
  let c0_i32_1143 : BitVec 32 := 0#32
  let v1473 : BitVec 1 := Scalar.cmpi .eq c32_i32_1142 c0_i32_1143
  let c1_i32_1144 : BitVec 32 := 1#32
  let v1474 : BitVec 32 := Scalar.select v1473 c1_i32_1144 c32_i32_1142
  let v1475 : BitVec 32 := Scalar.remsi v1472 v1474
  let c0_i32_1146 : BitVec 32 := 0#32
  let v1477 : BitVec 1 := Scalar.cmpi .slt v1475 c0_i32_1146
  let c0_i32_1147 : BitVec 32 := 0#32
  let v1478 : BitVec 1 := Scalar.cmpi .slt v1474 c0_i32_1147
  let v1479 : BitVec 1 := Scalar.xori v1477 v1478
  let c0_i32_1145 : BitVec 32 := 0#32
  let v1476 : BitVec 1 := Scalar.cmpi .ne v1475 c0_i32_1145
  let v1480 : BitVec 1 := Scalar.andi v1479 v1476
  let v1481 : BitVec 32 := Scalar.addi v1475 v1474
  let v1482 : BitVec 32 := Scalar.select v1480 v1481 v1475
  let c1_i32_1153 : BitVec 32 := 1#32
  let v1484 : BitVec 32 := Scalar.muli v1482 c1_i32_1153
  let v1485 : BitVec 32 := Scalar.addi c0_i32_1154 v1484
  v1485.toNat
def k0_dev83 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1158 : BitVec 32 := 26#32
  let v1493 : BitVec 32 := Scalar.addi v2 c26_i32_1158
  let c32_i32_1159 : BitVec 32 := 32#32
  let c0_i32_1160 : BitVec 32 := 0#32
  let v1494 : BitVec 1 := Scalar.cmpi .eq c32_i32_1159 c0_i32_1160
  let c1_i32_1161 : BitVec 32 := 1#32
  let v1495 : BitVec 32 := Scalar.select v1494 c1_i32_1161 c32_i32_1159
  let v1496 : BitVec 32 := Scalar.remsi v1493 v1495
  let c0_i32_1163 : BitVec 32 := 0#32
  let v1498 : BitVec 1 := Scalar.cmpi .slt v1496 c0_i32_1163
  let c0_i32_1164 : BitVec 32 := 0#32
  let v1499 : BitVec 1 := Scalar.cmpi .slt v1495 c0_i32_1164
  let v1500 : BitVec 1 := Scalar.xori v1498 v1499
  let c0_i32_1162 : BitVec 32 := 0#32
  let v1497 : BitVec 1 := Scalar.cmpi .ne v1496 c0_i32_1162
  let v1501 : BitVec 1 := Scalar.andi v1500 v1497
  let v1502 : BitVec 32 := Scalar.addi v1496 v1495
  let v1503 : BitVec 32 := Scalar.select v1501 v1502 v1496
  let c1_i32_1170 : BitVec 32 := 1#32
  let v1505 : BitVec 32 := Scalar.muli v1503 c1_i32_1170
  let v1506 : BitVec 32 := Scalar.addi c0_i32_1171 v1505
  v1506.toNat
def k0_dev84 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1175 : BitVec 32 := 5#32
  let v1514 : BitVec 32 := Scalar.addi v2 c5_i32_1175
  let c32_i32_1176 : BitVec 32 := 32#32
  let c0_i32_1177 : BitVec 32 := 0#32
  let v1515 : BitVec 1 := Scalar.cmpi .eq c32_i32_1176 c0_i32_1177
  let c1_i32_1178 : BitVec 32 := 1#32
  let v1516 : BitVec 32 := Scalar.select v1515 c1_i32_1178 c32_i32_1176
  let v1517 : BitVec 32 := Scalar.remsi v1514 v1516
  let c0_i32_1180 : BitVec 32 := 0#32
  let v1519 : BitVec 1 := Scalar.cmpi .slt v1517 c0_i32_1180
  let c0_i32_1181 : BitVec 32 := 0#32
  let v1520 : BitVec 1 := Scalar.cmpi .slt v1516 c0_i32_1181
  let v1521 : BitVec 1 := Scalar.xori v1519 v1520
  let c0_i32_1179 : BitVec 32 := 0#32
  let v1518 : BitVec 1 := Scalar.cmpi .ne v1517 c0_i32_1179
  let v1522 : BitVec 1 := Scalar.andi v1521 v1518
  let v1523 : BitVec 32 := Scalar.addi v1517 v1516
  let v1524 : BitVec 32 := Scalar.select v1522 v1523 v1517
  let c1_i32_1187 : BitVec 32 := 1#32
  let v1526 : BitVec 32 := Scalar.muli v1524 c1_i32_1187
  let v1527 : BitVec 32 := Scalar.addi c0_i32_1188 v1526
  v1527.toNat
def k0_dev85 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1192 : BitVec 32 := 27#32
  let v1535 : BitVec 32 := Scalar.addi v2 c27_i32_1192
  let c32_i32_1193 : BitVec 32 := 32#32
  let c0_i32_1194 : BitVec 32 := 0#32
  let v1536 : BitVec 1 := Scalar.cmpi .eq c32_i32_1193 c0_i32_1194
  let c1_i32_1195 : BitVec 32 := 1#32
  let v1537 : BitVec 32 := Scalar.select v1536 c1_i32_1195 c32_i32_1193
  let v1538 : BitVec 32 := Scalar.remsi v1535 v1537
  let c0_i32_1197 : BitVec 32 := 0#32
  let v1540 : BitVec 1 := Scalar.cmpi .slt v1538 c0_i32_1197
  let c0_i32_1198 : BitVec 32 := 0#32
  let v1541 : BitVec 1 := Scalar.cmpi .slt v1537 c0_i32_1198
  let v1542 : BitVec 1 := Scalar.xori v1540 v1541
  let c0_i32_1196 : BitVec 32 := 0#32
  let v1539 : BitVec 1 := Scalar.cmpi .ne v1538 c0_i32_1196
  let v1543 : BitVec 1 := Scalar.andi v1542 v1539
  let v1544 : BitVec 32 := Scalar.addi v1538 v1537
  let v1545 : BitVec 32 := Scalar.select v1543 v1544 v1538
  let c1_i32_1204 : BitVec 32 := 1#32
  let v1547 : BitVec 32 := Scalar.muli v1545 c1_i32_1204
  let v1548 : BitVec 32 := Scalar.addi c0_i32_1205 v1547
  v1548.toNat
def k0_dev86 (d0 : Dev nD) : Nat :=
  let c0_i32_1222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1209 : BitVec 32 := 4#32
  let v1556 : BitVec 32 := Scalar.addi v2 c4_i32_1209
  let c32_i32_1210 : BitVec 32 := 32#32
  let c0_i32_1211 : BitVec 32 := 0#32
  let v1557 : BitVec 1 := Scalar.cmpi .eq c32_i32_1210 c0_i32_1211
  let c1_i32_1212 : BitVec 32 := 1#32
  let v1558 : BitVec 32 := Scalar.select v1557 c1_i32_1212 c32_i32_1210
  let v1559 : BitVec 32 := Scalar.remsi v1556 v1558
  let c0_i32_1214 : BitVec 32 := 0#32
  let v1561 : BitVec 1 := Scalar.cmpi .slt v1559 c0_i32_1214
  let c0_i32_1215 : BitVec 32 := 0#32
  let v1562 : BitVec 1 := Scalar.cmpi .slt v1558 c0_i32_1215
  let v1563 : BitVec 1 := Scalar.xori v1561 v1562
  let c0_i32_1213 : BitVec 32 := 0#32
  let v1560 : BitVec 1 := Scalar.cmpi .ne v1559 c0_i32_1213
  let v1564 : BitVec 1 := Scalar.andi v1563 v1560
  let v1565 : BitVec 32 := Scalar.addi v1559 v1558
  let v1566 : BitVec 32 := Scalar.select v1564 v1565 v1559
  let c1_i32_1221 : BitVec 32 := 1#32
  let v1568 : BitVec 32 := Scalar.muli v1566 c1_i32_1221
  let v1569 : BitVec 32 := Scalar.addi c0_i32_1222 v1568
  v1569.toNat
def k0_dev87 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1226 : BitVec 32 := 28#32
  let v1577 : BitVec 32 := Scalar.addi v2 c28_i32_1226
  let c32_i32_1227 : BitVec 32 := 32#32
  let c0_i32_1228 : BitVec 32 := 0#32
  let v1578 : BitVec 1 := Scalar.cmpi .eq c32_i32_1227 c0_i32_1228
  let c1_i32_1229 : BitVec 32 := 1#32
  let v1579 : BitVec 32 := Scalar.select v1578 c1_i32_1229 c32_i32_1227
  let v1580 : BitVec 32 := Scalar.remsi v1577 v1579
  let c0_i32_1231 : BitVec 32 := 0#32
  let v1582 : BitVec 1 := Scalar.cmpi .slt v1580 c0_i32_1231
  let c0_i32_1232 : BitVec 32 := 0#32
  let v1583 : BitVec 1 := Scalar.cmpi .slt v1579 c0_i32_1232
  let v1584 : BitVec 1 := Scalar.xori v1582 v1583
  let c0_i32_1230 : BitVec 32 := 0#32
  let v1581 : BitVec 1 := Scalar.cmpi .ne v1580 c0_i32_1230
  let v1585 : BitVec 1 := Scalar.andi v1584 v1581
  let v1586 : BitVec 32 := Scalar.addi v1580 v1579
  let v1587 : BitVec 32 := Scalar.select v1585 v1586 v1580
  let c1_i32_1238 : BitVec 32 := 1#32
  let v1589 : BitVec 32 := Scalar.muli v1587 c1_i32_1238
  let v1590 : BitVec 32 := Scalar.addi c0_i32_1239 v1589
  v1590.toNat
def k0_dev88 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1243 : BitVec 32 := 3#32
  let v1598 : BitVec 32 := Scalar.addi v2 c3_i32_1243
  let c32_i32_1244 : BitVec 32 := 32#32
  let c0_i32_1245 : BitVec 32 := 0#32
  let v1599 : BitVec 1 := Scalar.cmpi .eq c32_i32_1244 c0_i32_1245
  let c1_i32_1246 : BitVec 32 := 1#32
  let v1600 : BitVec 32 := Scalar.select v1599 c1_i32_1246 c32_i32_1244
  let v1601 : BitVec 32 := Scalar.remsi v1598 v1600
  let c0_i32_1248 : BitVec 32 := 0#32
  let v1603 : BitVec 1 := Scalar.cmpi .slt v1601 c0_i32_1248
  let c0_i32_1249 : BitVec 32 := 0#32
  let v1604 : BitVec 1 := Scalar.cmpi .slt v1600 c0_i32_1249
  let v1605 : BitVec 1 := Scalar.xori v1603 v1604
  let c0_i32_1247 : BitVec 32 := 0#32
  let v1602 : BitVec 1 := Scalar.cmpi .ne v1601 c0_i32_1247
  let v1606 : BitVec 1 := Scalar.andi v1605 v1602
  let v1607 : BitVec 32 := Scalar.addi v1601 v1600
  let v1608 : BitVec 32 := Scalar.select v1606 v1607 v1601
  let c1_i32_1255 : BitVec 32 := 1#32
  let v1610 : BitVec 32 := Scalar.muli v1608 c1_i32_1255
  let v1611 : BitVec 32 := Scalar.addi c0_i32_1256 v1610
  v1611.toNat
def k0_dev89 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1260 : BitVec 32 := 29#32
  let v1619 : BitVec 32 := Scalar.addi v2 c29_i32_1260
  let c32_i32_1261 : BitVec 32 := 32#32
  let c0_i32_1262 : BitVec 32 := 0#32
  let v1620 : BitVec 1 := Scalar.cmpi .eq c32_i32_1261 c0_i32_1262
  let c1_i32_1263 : BitVec 32 := 1#32
  let v1621 : BitVec 32 := Scalar.select v1620 c1_i32_1263 c32_i32_1261
  let v1622 : BitVec 32 := Scalar.remsi v1619 v1621
  let c0_i32_1265 : BitVec 32 := 0#32
  let v1624 : BitVec 1 := Scalar.cmpi .slt v1622 c0_i32_1265
  let c0_i32_1266 : BitVec 32 := 0#32
  let v1625 : BitVec 1 := Scalar.cmpi .slt v1621 c0_i32_1266
  let v1626 : BitVec 1 := Scalar.xori v1624 v1625
  let c0_i32_1264 : BitVec 32 := 0#32
  let v1623 : BitVec 1 := Scalar.cmpi .ne v1622 c0_i32_1264
  let v1627 : BitVec 1 := Scalar.andi v1626 v1623
  let v1628 : BitVec 32 := Scalar.addi v1622 v1621
  let v1629 : BitVec 32 := Scalar.select v1627 v1628 v1622
  let c1_i32_1272 : BitVec 32 := 1#32
  let v1631 : BitVec 32 := Scalar.muli v1629 c1_i32_1272
  let v1632 : BitVec 32 := Scalar.addi c0_i32_1273 v1631
  v1632.toNat
def k0_dev90 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1277 : BitVec 32 := 2#32
  let v1640 : BitVec 32 := Scalar.addi v2 c2_i32_1277
  let c32_i32_1278 : BitVec 32 := 32#32
  let c0_i32_1279 : BitVec 32 := 0#32
  let v1641 : BitVec 1 := Scalar.cmpi .eq c32_i32_1278 c0_i32_1279
  let c1_i32_1280 : BitVec 32 := 1#32
  let v1642 : BitVec 32 := Scalar.select v1641 c1_i32_1280 c32_i32_1278
  let v1643 : BitVec 32 := Scalar.remsi v1640 v1642
  let c0_i32_1282 : BitVec 32 := 0#32
  let v1645 : BitVec 1 := Scalar.cmpi .slt v1643 c0_i32_1282
  let c0_i32_1283 : BitVec 32 := 0#32
  let v1646 : BitVec 1 := Scalar.cmpi .slt v1642 c0_i32_1283
  let v1647 : BitVec 1 := Scalar.xori v1645 v1646
  let c0_i32_1281 : BitVec 32 := 0#32
  let v1644 : BitVec 1 := Scalar.cmpi .ne v1643 c0_i32_1281
  let v1648 : BitVec 1 := Scalar.andi v1647 v1644
  let v1649 : BitVec 32 := Scalar.addi v1643 v1642
  let v1650 : BitVec 32 := Scalar.select v1648 v1649 v1643
  let c1_i32_1289 : BitVec 32 := 1#32
  let v1652 : BitVec 32 := Scalar.muli v1650 c1_i32_1289
  let v1653 : BitVec 32 := Scalar.addi c0_i32_1290 v1652
  v1653.toNat
def k0_dev91 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1294 : BitVec 32 := 30#32
  let v1661 : BitVec 32 := Scalar.addi v2 c30_i32_1294
  let c32_i32_1295 : BitVec 32 := 32#32
  let c0_i32_1296 : BitVec 32 := 0#32
  let v1662 : BitVec 1 := Scalar.cmpi .eq c32_i32_1295 c0_i32_1296
  let c1_i32_1297 : BitVec 32 := 1#32
  let v1663 : BitVec 32 := Scalar.select v1662 c1_i32_1297 c32_i32_1295
  let v1664 : BitVec 32 := Scalar.remsi v1661 v1663
  let c0_i32_1299 : BitVec 32 := 0#32
  let v1666 : BitVec 1 := Scalar.cmpi .slt v1664 c0_i32_1299
  let c0_i32_1300 : BitVec 32 := 0#32
  let v1667 : BitVec 1 := Scalar.cmpi .slt v1663 c0_i32_1300
  let v1668 : BitVec 1 := Scalar.xori v1666 v1667
  let c0_i32_1298 : BitVec 32 := 0#32
  let v1665 : BitVec 1 := Scalar.cmpi .ne v1664 c0_i32_1298
  let v1669 : BitVec 1 := Scalar.andi v1668 v1665
  let v1670 : BitVec 32 := Scalar.addi v1664 v1663
  let v1671 : BitVec 32 := Scalar.select v1669 v1670 v1664
  let c1_i32_1306 : BitVec 32 := 1#32
  let v1673 : BitVec 32 := Scalar.muli v1671 c1_i32_1306
  let v1674 : BitVec 32 := Scalar.addi c0_i32_1307 v1673
  v1674.toNat
def k0_dev92 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1311 : BitVec 32 := 1#32
  let v1682 : BitVec 32 := Scalar.addi v2 c1_i32_1311
  let c32_i32_1312 : BitVec 32 := 32#32
  let c0_i32_1313 : BitVec 32 := 0#32
  let v1683 : BitVec 1 := Scalar.cmpi .eq c32_i32_1312 c0_i32_1313
  let c1_i32_1314 : BitVec 32 := 1#32
  let v1684 : BitVec 32 := Scalar.select v1683 c1_i32_1314 c32_i32_1312
  let v1685 : BitVec 32 := Scalar.remsi v1682 v1684
  let c0_i32_1316 : BitVec 32 := 0#32
  let v1687 : BitVec 1 := Scalar.cmpi .slt v1685 c0_i32_1316
  let c0_i32_1317 : BitVec 32 := 0#32
  let v1688 : BitVec 1 := Scalar.cmpi .slt v1684 c0_i32_1317
  let v1689 : BitVec 1 := Scalar.xori v1687 v1688
  let c0_i32_1315 : BitVec 32 := 0#32
  let v1686 : BitVec 1 := Scalar.cmpi .ne v1685 c0_i32_1315
  let v1690 : BitVec 1 := Scalar.andi v1689 v1686
  let v1691 : BitVec 32 := Scalar.addi v1685 v1684
  let v1692 : BitVec 32 := Scalar.select v1690 v1691 v1685
  let c1_i32_1323 : BitVec 32 := 1#32
  let v1694 : BitVec 32 := Scalar.muli v1692 c1_i32_1323
  let v1695 : BitVec 32 := Scalar.addi c0_i32_1324 v1694
  v1695.toNat
def k0_dev93 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1328 : BitVec 32 := 31#32
  let v1703 : BitVec 32 := Scalar.addi v2 c31_i32_1328
  let c32_i32_1329 : BitVec 32 := 32#32
  let c0_i32_1330 : BitVec 32 := 0#32
  let v1704 : BitVec 1 := Scalar.cmpi .eq c32_i32_1329 c0_i32_1330
  let c1_i32_1331 : BitVec 32 := 1#32
  let v1705 : BitVec 32 := Scalar.select v1704 c1_i32_1331 c32_i32_1329
  let v1706 : BitVec 32 := Scalar.remsi v1703 v1705
  let c0_i32_1333 : BitVec 32 := 0#32
  let v1708 : BitVec 1 := Scalar.cmpi .slt v1706 c0_i32_1333
  let c0_i32_1334 : BitVec 32 := 0#32
  let v1709 : BitVec 1 := Scalar.cmpi .slt v1705 c0_i32_1334
  let v1710 : BitVec 1 := Scalar.xori v1708 v1709
  let c0_i32_1332 : BitVec 32 := 0#32
  let v1707 : BitVec 1 := Scalar.cmpi .ne v1706 c0_i32_1332
  let v1711 : BitVec 1 := Scalar.andi v1710 v1707
  let v1712 : BitVec 32 := Scalar.addi v1706 v1705
  let v1713 : BitVec 32 := Scalar.select v1711 v1712 v1706
  let c1_i32_1340 : BitVec 32 := 1#32
  let v1715 : BitVec 32 := Scalar.muli v1713 c1_i32_1340
  let v1716 : BitVec 32 := Scalar.addi c0_i32_1341 v1715
  v1716.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1345 : BitVec 32 := 16#32
  let v1724 : BitVec 32 := Scalar.muli v2 c16_i32_1345
  let c256_i32_1351 : BitVec 32 := 256#32
  ![v1724.toNat, 256]
def k0_dev94 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1745 : BitVec 32 := 16#32
  let v2101 : BitVec 32 := Scalar.addi v2 c16_i32_1745
  let c32_i32_1746 : BitVec 32 := 32#32
  let c0_i32_1747 : BitVec 32 := 0#32
  let v2102 : BitVec 1 := Scalar.cmpi .eq c32_i32_1746 c0_i32_1747
  let c1_i32_1748 : BitVec 32 := 1#32
  let v2103 : BitVec 32 := Scalar.select v2102 c1_i32_1748 c32_i32_1746
  let v2104 : BitVec 32 := Scalar.remsi v2101 v2103
  let c0_i32_1750 : BitVec 32 := 0#32
  let v2106 : BitVec 1 := Scalar.cmpi .slt v2104 c0_i32_1750
  let c0_i32_1751 : BitVec 32 := 0#32
  let v2107 : BitVec 1 := Scalar.cmpi .slt v2103 c0_i32_1751
  let v2108 : BitVec 1 := Scalar.xori v2106 v2107
  let c0_i32_1749 : BitVec 32 := 0#32
  let v2105 : BitVec 1 := Scalar.cmpi .ne v2104 c0_i32_1749
  let v2109 : BitVec 1 := Scalar.andi v2108 v2105
  let v2110 : BitVec 32 := Scalar.addi v2104 v2103
  let v2111 : BitVec 32 := Scalar.select v2109 v2110 v2104
  let c1_i32_1755 : BitVec 32 := 1#32
  let v2113 : BitVec 32 := Scalar.muli v2111 c1_i32_1755
  let v2114 : BitVec 32 := Scalar.addi c0_i32_1756 v2113
  v2114.toNat
def k0_dev95 (d0 : Dev nD) : Nat :=
  let c0_i32_1771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1760 : BitVec 32 := 15#32
  let v2121 : BitVec 32 := Scalar.addi v2 c15_i32_1760
  let c32_i32_1761 : BitVec 32 := 32#32
  let c0_i32_1762 : BitVec 32 := 0#32
  let v2122 : BitVec 1 := Scalar.cmpi .eq c32_i32_1761 c0_i32_1762
  let c1_i32_1763 : BitVec 32 := 1#32
  let v2123 : BitVec 32 := Scalar.select v2122 c1_i32_1763 c32_i32_1761
  let v2124 : BitVec 32 := Scalar.remsi v2121 v2123
  let c0_i32_1765 : BitVec 32 := 0#32
  let v2126 : BitVec 1 := Scalar.cmpi .slt v2124 c0_i32_1765
  let c0_i32_1766 : BitVec 32 := 0#32
  let v2127 : BitVec 1 := Scalar.cmpi .slt v2123 c0_i32_1766
  let v2128 : BitVec 1 := Scalar.xori v2126 v2127
  let c0_i32_1764 : BitVec 32 := 0#32
  let v2125 : BitVec 1 := Scalar.cmpi .ne v2124 c0_i32_1764
  let v2129 : BitVec 1 := Scalar.andi v2128 v2125
  let v2130 : BitVec 32 := Scalar.addi v2124 v2123
  let v2131 : BitVec 32 := Scalar.select v2129 v2130 v2124
  let c1_i32_1770 : BitVec 32 := 1#32
  let v2133 : BitVec 32 := Scalar.muli v2131 c1_i32_1770
  let v2134 : BitVec 32 := Scalar.addi c0_i32_1771 v2133
  v2134.toNat
def k0_dev96 (d0 : Dev nD) : Nat :=
  let c0_i32_1786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1775 : BitVec 32 := 17#32
  let v2141 : BitVec 32 := Scalar.addi v2 c17_i32_1775
  let c32_i32_1776 : BitVec 32 := 32#32
  let c0_i32_1777 : BitVec 32 := 0#32
  let v2142 : BitVec 1 := Scalar.cmpi .eq c32_i32_1776 c0_i32_1777
  let c1_i32_1778 : BitVec 32 := 1#32
  let v2143 : BitVec 32 := Scalar.select v2142 c1_i32_1778 c32_i32_1776
  let v2144 : BitVec 32 := Scalar.remsi v2141 v2143
  let c0_i32_1780 : BitVec 32 := 0#32
  let v2146 : BitVec 1 := Scalar.cmpi .slt v2144 c0_i32_1780
  let c0_i32_1781 : BitVec 32 := 0#32
  let v2147 : BitVec 1 := Scalar.cmpi .slt v2143 c0_i32_1781
  let v2148 : BitVec 1 := Scalar.xori v2146 v2147
  let c0_i32_1779 : BitVec 32 := 0#32
  let v2145 : BitVec 1 := Scalar.cmpi .ne v2144 c0_i32_1779
  let v2149 : BitVec 1 := Scalar.andi v2148 v2145
  let v2150 : BitVec 32 := Scalar.addi v2144 v2143
  let v2151 : BitVec 32 := Scalar.select v2149 v2150 v2144
  let c1_i32_1785 : BitVec 32 := 1#32
  let v2153 : BitVec 32 := Scalar.muli v2151 c1_i32_1785
  let v2154 : BitVec 32 := Scalar.addi c0_i32_1786 v2153
  v2154.toNat
def k0_dev97 (d0 : Dev nD) : Nat :=
  let c0_i32_1801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1790 : BitVec 32 := 14#32
  let v2161 : BitVec 32 := Scalar.addi v2 c14_i32_1790
  let c32_i32_1791 : BitVec 32 := 32#32
  let c0_i32_1792 : BitVec 32 := 0#32
  let v2162 : BitVec 1 := Scalar.cmpi .eq c32_i32_1791 c0_i32_1792
  let c1_i32_1793 : BitVec 32 := 1#32
  let v2163 : BitVec 32 := Scalar.select v2162 c1_i32_1793 c32_i32_1791
  let v2164 : BitVec 32 := Scalar.remsi v2161 v2163
  let c0_i32_1795 : BitVec 32 := 0#32
  let v2166 : BitVec 1 := Scalar.cmpi .slt v2164 c0_i32_1795
  let c0_i32_1796 : BitVec 32 := 0#32
  let v2167 : BitVec 1 := Scalar.cmpi .slt v2163 c0_i32_1796
  let v2168 : BitVec 1 := Scalar.xori v2166 v2167
  let c0_i32_1794 : BitVec 32 := 0#32
  let v2165 : BitVec 1 := Scalar.cmpi .ne v2164 c0_i32_1794
  let v2169 : BitVec 1 := Scalar.andi v2168 v2165
  let v2170 : BitVec 32 := Scalar.addi v2164 v2163
  let v2171 : BitVec 32 := Scalar.select v2169 v2170 v2164
  let c1_i32_1800 : BitVec 32 := 1#32
  let v2173 : BitVec 32 := Scalar.muli v2171 c1_i32_1800
  let v2174 : BitVec 32 := Scalar.addi c0_i32_1801 v2173
  v2174.toNat
def k0_dev98 (d0 : Dev nD) : Nat :=
  let c0_i32_1816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1805 : BitVec 32 := 18#32
  let v2181 : BitVec 32 := Scalar.addi v2 c18_i32_1805
  let c32_i32_1806 : BitVec 32 := 32#32
  let c0_i32_1807 : BitVec 32 := 0#32
  let v2182 : BitVec 1 := Scalar.cmpi .eq c32_i32_1806 c0_i32_1807
  let c1_i32_1808 : BitVec 32 := 1#32
  let v2183 : BitVec 32 := Scalar.select v2182 c1_i32_1808 c32_i32_1806
  let v2184 : BitVec 32 := Scalar.remsi v2181 v2183
  let c0_i32_1810 : BitVec 32 := 0#32
  let v2186 : BitVec 1 := Scalar.cmpi .slt v2184 c0_i32_1810
  let c0_i32_1811 : BitVec 32 := 0#32
  let v2187 : BitVec 1 := Scalar.cmpi .slt v2183 c0_i32_1811
  let v2188 : BitVec 1 := Scalar.xori v2186 v2187
  let c0_i32_1809 : BitVec 32 := 0#32
  let v2185 : BitVec 1 := Scalar.cmpi .ne v2184 c0_i32_1809
  let v2189 : BitVec 1 := Scalar.andi v2188 v2185
  let v2190 : BitVec 32 := Scalar.addi v2184 v2183
  let v2191 : BitVec 32 := Scalar.select v2189 v2190 v2184
  let c1_i32_1815 : BitVec 32 := 1#32
  let v2193 : BitVec 32 := Scalar.muli v2191 c1_i32_1815
  let v2194 : BitVec 32 := Scalar.addi c0_i32_1816 v2193
  v2194.toNat
def k0_dev99 (d0 : Dev nD) : Nat :=
  let c0_i32_1831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1820 : BitVec 32 := 13#32
  let v2201 : BitVec 32 := Scalar.addi v2 c13_i32_1820
  let c32_i32_1821 : BitVec 32 := 32#32
  let c0_i32_1822 : BitVec 32 := 0#32
  let v2202 : BitVec 1 := Scalar.cmpi .eq c32_i32_1821 c0_i32_1822
  let c1_i32_1823 : BitVec 32 := 1#32
  let v2203 : BitVec 32 := Scalar.select v2202 c1_i32_1823 c32_i32_1821
  let v2204 : BitVec 32 := Scalar.remsi v2201 v2203
  let c0_i32_1825 : BitVec 32 := 0#32
  let v2206 : BitVec 1 := Scalar.cmpi .slt v2204 c0_i32_1825
  let c0_i32_1826 : BitVec 32 := 0#32
  let v2207 : BitVec 1 := Scalar.cmpi .slt v2203 c0_i32_1826
  let v2208 : BitVec 1 := Scalar.xori v2206 v2207
  let c0_i32_1824 : BitVec 32 := 0#32
  let v2205 : BitVec 1 := Scalar.cmpi .ne v2204 c0_i32_1824
  let v2209 : BitVec 1 := Scalar.andi v2208 v2205
  let v2210 : BitVec 32 := Scalar.addi v2204 v2203
  let v2211 : BitVec 32 := Scalar.select v2209 v2210 v2204
  let c1_i32_1830 : BitVec 32 := 1#32
  let v2213 : BitVec 32 := Scalar.muli v2211 c1_i32_1830
  let v2214 : BitVec 32 := Scalar.addi c0_i32_1831 v2213
  v2214.toNat
def k0_dev100 (d0 : Dev nD) : Nat :=
  let c0_i32_1846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1835 : BitVec 32 := 19#32
  let v2221 : BitVec 32 := Scalar.addi v2 c19_i32_1835
  let c32_i32_1836 : BitVec 32 := 32#32
  let c0_i32_1837 : BitVec 32 := 0#32
  let v2222 : BitVec 1 := Scalar.cmpi .eq c32_i32_1836 c0_i32_1837
  let c1_i32_1838 : BitVec 32 := 1#32
  let v2223 : BitVec 32 := Scalar.select v2222 c1_i32_1838 c32_i32_1836
  let v2224 : BitVec 32 := Scalar.remsi v2221 v2223
  let c0_i32_1840 : BitVec 32 := 0#32
  let v2226 : BitVec 1 := Scalar.cmpi .slt v2224 c0_i32_1840
  let c0_i32_1841 : BitVec 32 := 0#32
  let v2227 : BitVec 1 := Scalar.cmpi .slt v2223 c0_i32_1841
  let v2228 : BitVec 1 := Scalar.xori v2226 v2227
  let c0_i32_1839 : BitVec 32 := 0#32
  let v2225 : BitVec 1 := Scalar.cmpi .ne v2224 c0_i32_1839
  let v2229 : BitVec 1 := Scalar.andi v2228 v2225
  let v2230 : BitVec 32 := Scalar.addi v2224 v2223
  let v2231 : BitVec 32 := Scalar.select v2229 v2230 v2224
  let c1_i32_1845 : BitVec 32 := 1#32
  let v2233 : BitVec 32 := Scalar.muli v2231 c1_i32_1845
  let v2234 : BitVec 32 := Scalar.addi c0_i32_1846 v2233
  v2234.toNat
def k0_dev101 (d0 : Dev nD) : Nat :=
  let c0_i32_1861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1850 : BitVec 32 := 12#32
  let v2241 : BitVec 32 := Scalar.addi v2 c12_i32_1850
  let c32_i32_1851 : BitVec 32 := 32#32
  let c0_i32_1852 : BitVec 32 := 0#32
  let v2242 : BitVec 1 := Scalar.cmpi .eq c32_i32_1851 c0_i32_1852
  let c1_i32_1853 : BitVec 32 := 1#32
  let v2243 : BitVec 32 := Scalar.select v2242 c1_i32_1853 c32_i32_1851
  let v2244 : BitVec 32 := Scalar.remsi v2241 v2243
  let c0_i32_1855 : BitVec 32 := 0#32
  let v2246 : BitVec 1 := Scalar.cmpi .slt v2244 c0_i32_1855
  let c0_i32_1856 : BitVec 32 := 0#32
  let v2247 : BitVec 1 := Scalar.cmpi .slt v2243 c0_i32_1856
  let v2248 : BitVec 1 := Scalar.xori v2246 v2247
  let c0_i32_1854 : BitVec 32 := 0#32
  let v2245 : BitVec 1 := Scalar.cmpi .ne v2244 c0_i32_1854
  let v2249 : BitVec 1 := Scalar.andi v2248 v2245
  let v2250 : BitVec 32 := Scalar.addi v2244 v2243
  let v2251 : BitVec 32 := Scalar.select v2249 v2250 v2244
  let c1_i32_1860 : BitVec 32 := 1#32
  let v2253 : BitVec 32 := Scalar.muli v2251 c1_i32_1860
  let v2254 : BitVec 32 := Scalar.addi c0_i32_1861 v2253
  v2254.toNat
def k0_dev102 (d0 : Dev nD) : Nat :=
  let c0_i32_1876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1865 : BitVec 32 := 20#32
  let v2261 : BitVec 32 := Scalar.addi v2 c20_i32_1865
  let c32_i32_1866 : BitVec 32 := 32#32
  let c0_i32_1867 : BitVec 32 := 0#32
  let v2262 : BitVec 1 := Scalar.cmpi .eq c32_i32_1866 c0_i32_1867
  let c1_i32_1868 : BitVec 32 := 1#32
  let v2263 : BitVec 32 := Scalar.select v2262 c1_i32_1868 c32_i32_1866
  let v2264 : BitVec 32 := Scalar.remsi v2261 v2263
  let c0_i32_1870 : BitVec 32 := 0#32
  let v2266 : BitVec 1 := Scalar.cmpi .slt v2264 c0_i32_1870
  let c0_i32_1871 : BitVec 32 := 0#32
  let v2267 : BitVec 1 := Scalar.cmpi .slt v2263 c0_i32_1871
  let v2268 : BitVec 1 := Scalar.xori v2266 v2267
  let c0_i32_1869 : BitVec 32 := 0#32
  let v2265 : BitVec 1 := Scalar.cmpi .ne v2264 c0_i32_1869
  let v2269 : BitVec 1 := Scalar.andi v2268 v2265
  let v2270 : BitVec 32 := Scalar.addi v2264 v2263
  let v2271 : BitVec 32 := Scalar.select v2269 v2270 v2264
  let c1_i32_1875 : BitVec 32 := 1#32
  let v2273 : BitVec 32 := Scalar.muli v2271 c1_i32_1875
  let v2274 : BitVec 32 := Scalar.addi c0_i32_1876 v2273
  v2274.toNat
def k0_dev103 (d0 : Dev nD) : Nat :=
  let c0_i32_1891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1880 : BitVec 32 := 11#32
  let v2281 : BitVec 32 := Scalar.addi v2 c11_i32_1880
  let c32_i32_1881 : BitVec 32 := 32#32
  let c0_i32_1882 : BitVec 32 := 0#32
  let v2282 : BitVec 1 := Scalar.cmpi .eq c32_i32_1881 c0_i32_1882
  let c1_i32_1883 : BitVec 32 := 1#32
  let v2283 : BitVec 32 := Scalar.select v2282 c1_i32_1883 c32_i32_1881
  let v2284 : BitVec 32 := Scalar.remsi v2281 v2283
  let c0_i32_1885 : BitVec 32 := 0#32
  let v2286 : BitVec 1 := Scalar.cmpi .slt v2284 c0_i32_1885
  let c0_i32_1886 : BitVec 32 := 0#32
  let v2287 : BitVec 1 := Scalar.cmpi .slt v2283 c0_i32_1886
  let v2288 : BitVec 1 := Scalar.xori v2286 v2287
  let c0_i32_1884 : BitVec 32 := 0#32
  let v2285 : BitVec 1 := Scalar.cmpi .ne v2284 c0_i32_1884
  let v2289 : BitVec 1 := Scalar.andi v2288 v2285
  let v2290 : BitVec 32 := Scalar.addi v2284 v2283
  let v2291 : BitVec 32 := Scalar.select v2289 v2290 v2284
  let c1_i32_1890 : BitVec 32 := 1#32
  let v2293 : BitVec 32 := Scalar.muli v2291 c1_i32_1890
  let v2294 : BitVec 32 := Scalar.addi c0_i32_1891 v2293
  v2294.toNat
def k0_dev104 (d0 : Dev nD) : Nat :=
  let c0_i32_1906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1895 : BitVec 32 := 21#32
  let v2301 : BitVec 32 := Scalar.addi v2 c21_i32_1895
  let c32_i32_1896 : BitVec 32 := 32#32
  let c0_i32_1897 : BitVec 32 := 0#32
  let v2302 : BitVec 1 := Scalar.cmpi .eq c32_i32_1896 c0_i32_1897
  let c1_i32_1898 : BitVec 32 := 1#32
  let v2303 : BitVec 32 := Scalar.select v2302 c1_i32_1898 c32_i32_1896
  let v2304 : BitVec 32 := Scalar.remsi v2301 v2303
  let c0_i32_1900 : BitVec 32 := 0#32
  let v2306 : BitVec 1 := Scalar.cmpi .slt v2304 c0_i32_1900
  let c0_i32_1901 : BitVec 32 := 0#32
  let v2307 : BitVec 1 := Scalar.cmpi .slt v2303 c0_i32_1901
  let v2308 : BitVec 1 := Scalar.xori v2306 v2307
  let c0_i32_1899 : BitVec 32 := 0#32
  let v2305 : BitVec 1 := Scalar.cmpi .ne v2304 c0_i32_1899
  let v2309 : BitVec 1 := Scalar.andi v2308 v2305
  let v2310 : BitVec 32 := Scalar.addi v2304 v2303
  let v2311 : BitVec 32 := Scalar.select v2309 v2310 v2304
  let c1_i32_1905 : BitVec 32 := 1#32
  let v2313 : BitVec 32 := Scalar.muli v2311 c1_i32_1905
  let v2314 : BitVec 32 := Scalar.addi c0_i32_1906 v2313
  v2314.toNat
def k0_dev105 (d0 : Dev nD) : Nat :=
  let c0_i32_1921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1910 : BitVec 32 := 10#32
  let v2321 : BitVec 32 := Scalar.addi v2 c10_i32_1910
  let c32_i32_1911 : BitVec 32 := 32#32
  let c0_i32_1912 : BitVec 32 := 0#32
  let v2322 : BitVec 1 := Scalar.cmpi .eq c32_i32_1911 c0_i32_1912
  let c1_i32_1913 : BitVec 32 := 1#32
  let v2323 : BitVec 32 := Scalar.select v2322 c1_i32_1913 c32_i32_1911
  let v2324 : BitVec 32 := Scalar.remsi v2321 v2323
  let c0_i32_1915 : BitVec 32 := 0#32
  let v2326 : BitVec 1 := Scalar.cmpi .slt v2324 c0_i32_1915
  let c0_i32_1916 : BitVec 32 := 0#32
  let v2327 : BitVec 1 := Scalar.cmpi .slt v2323 c0_i32_1916
  let v2328 : BitVec 1 := Scalar.xori v2326 v2327
  let c0_i32_1914 : BitVec 32 := 0#32
  let v2325 : BitVec 1 := Scalar.cmpi .ne v2324 c0_i32_1914
  let v2329 : BitVec 1 := Scalar.andi v2328 v2325
  let v2330 : BitVec 32 := Scalar.addi v2324 v2323
  let v2331 : BitVec 32 := Scalar.select v2329 v2330 v2324
  let c1_i32_1920 : BitVec 32 := 1#32
  let v2333 : BitVec 32 := Scalar.muli v2331 c1_i32_1920
  let v2334 : BitVec 32 := Scalar.addi c0_i32_1921 v2333
  v2334.toNat
def k0_dev106 (d0 : Dev nD) : Nat :=
  let c0_i32_1936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1925 : BitVec 32 := 22#32
  let v2341 : BitVec 32 := Scalar.addi v2 c22_i32_1925
  let c32_i32_1926 : BitVec 32 := 32#32
  let c0_i32_1927 : BitVec 32 := 0#32
  let v2342 : BitVec 1 := Scalar.cmpi .eq c32_i32_1926 c0_i32_1927
  let c1_i32_1928 : BitVec 32 := 1#32
  let v2343 : BitVec 32 := Scalar.select v2342 c1_i32_1928 c32_i32_1926
  let v2344 : BitVec 32 := Scalar.remsi v2341 v2343
  let c0_i32_1930 : BitVec 32 := 0#32
  let v2346 : BitVec 1 := Scalar.cmpi .slt v2344 c0_i32_1930
  let c0_i32_1931 : BitVec 32 := 0#32
  let v2347 : BitVec 1 := Scalar.cmpi .slt v2343 c0_i32_1931
  let v2348 : BitVec 1 := Scalar.xori v2346 v2347
  let c0_i32_1929 : BitVec 32 := 0#32
  let v2345 : BitVec 1 := Scalar.cmpi .ne v2344 c0_i32_1929
  let v2349 : BitVec 1 := Scalar.andi v2348 v2345
  let v2350 : BitVec 32 := Scalar.addi v2344 v2343
  let v2351 : BitVec 32 := Scalar.select v2349 v2350 v2344
  let c1_i32_1935 : BitVec 32 := 1#32
  let v2353 : BitVec 32 := Scalar.muli v2351 c1_i32_1935
  let v2354 : BitVec 32 := Scalar.addi c0_i32_1936 v2353
  v2354.toNat
def k0_dev107 (d0 : Dev nD) : Nat :=
  let c0_i32_1951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1940 : BitVec 32 := 9#32
  let v2361 : BitVec 32 := Scalar.addi v2 c9_i32_1940
  let c32_i32_1941 : BitVec 32 := 32#32
  let c0_i32_1942 : BitVec 32 := 0#32
  let v2362 : BitVec 1 := Scalar.cmpi .eq c32_i32_1941 c0_i32_1942
  let c1_i32_1943 : BitVec 32 := 1#32
  let v2363 : BitVec 32 := Scalar.select v2362 c1_i32_1943 c32_i32_1941
  let v2364 : BitVec 32 := Scalar.remsi v2361 v2363
  let c0_i32_1945 : BitVec 32 := 0#32
  let v2366 : BitVec 1 := Scalar.cmpi .slt v2364 c0_i32_1945
  let c0_i32_1946 : BitVec 32 := 0#32
  let v2367 : BitVec 1 := Scalar.cmpi .slt v2363 c0_i32_1946
  let v2368 : BitVec 1 := Scalar.xori v2366 v2367
  let c0_i32_1944 : BitVec 32 := 0#32
  let v2365 : BitVec 1 := Scalar.cmpi .ne v2364 c0_i32_1944
  let v2369 : BitVec 1 := Scalar.andi v2368 v2365
  let v2370 : BitVec 32 := Scalar.addi v2364 v2363
  let v2371 : BitVec 32 := Scalar.select v2369 v2370 v2364
  let c1_i32_1950 : BitVec 32 := 1#32
  let v2373 : BitVec 32 := Scalar.muli v2371 c1_i32_1950
  let v2374 : BitVec 32 := Scalar.addi c0_i32_1951 v2373
  v2374.toNat
def k0_dev108 (d0 : Dev nD) : Nat :=
  let c0_i32_1966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1955 : BitVec 32 := 23#32
  let v2381 : BitVec 32 := Scalar.addi v2 c23_i32_1955
  let c32_i32_1956 : BitVec 32 := 32#32
  let c0_i32_1957 : BitVec 32 := 0#32
  let v2382 : BitVec 1 := Scalar.cmpi .eq c32_i32_1956 c0_i32_1957
  let c1_i32_1958 : BitVec 32 := 1#32
  let v2383 : BitVec 32 := Scalar.select v2382 c1_i32_1958 c32_i32_1956
  let v2384 : BitVec 32 := Scalar.remsi v2381 v2383
  let c0_i32_1960 : BitVec 32 := 0#32
  let v2386 : BitVec 1 := Scalar.cmpi .slt v2384 c0_i32_1960
  let c0_i32_1961 : BitVec 32 := 0#32
  let v2387 : BitVec 1 := Scalar.cmpi .slt v2383 c0_i32_1961
  let v2388 : BitVec 1 := Scalar.xori v2386 v2387
  let c0_i32_1959 : BitVec 32 := 0#32
  let v2385 : BitVec 1 := Scalar.cmpi .ne v2384 c0_i32_1959
  let v2389 : BitVec 1 := Scalar.andi v2388 v2385
  let v2390 : BitVec 32 := Scalar.addi v2384 v2383
  let v2391 : BitVec 32 := Scalar.select v2389 v2390 v2384
  let c1_i32_1965 : BitVec 32 := 1#32
  let v2393 : BitVec 32 := Scalar.muli v2391 c1_i32_1965
  let v2394 : BitVec 32 := Scalar.addi c0_i32_1966 v2393
  v2394.toNat
def k0_dev109 (d0 : Dev nD) : Nat :=
  let c0_i32_1981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1970 : BitVec 32 := 8#32
  let v2401 : BitVec 32 := Scalar.addi v2 c8_i32_1970
  let c32_i32_1971 : BitVec 32 := 32#32
  let c0_i32_1972 : BitVec 32 := 0#32
  let v2402 : BitVec 1 := Scalar.cmpi .eq c32_i32_1971 c0_i32_1972
  let c1_i32_1973 : BitVec 32 := 1#32
  let v2403 : BitVec 32 := Scalar.select v2402 c1_i32_1973 c32_i32_1971
  let v2404 : BitVec 32 := Scalar.remsi v2401 v2403
  let c0_i32_1975 : BitVec 32 := 0#32
  let v2406 : BitVec 1 := Scalar.cmpi .slt v2404 c0_i32_1975
  let c0_i32_1976 : BitVec 32 := 0#32
  let v2407 : BitVec 1 := Scalar.cmpi .slt v2403 c0_i32_1976
  let v2408 : BitVec 1 := Scalar.xori v2406 v2407
  let c0_i32_1974 : BitVec 32 := 0#32
  let v2405 : BitVec 1 := Scalar.cmpi .ne v2404 c0_i32_1974
  let v2409 : BitVec 1 := Scalar.andi v2408 v2405
  let v2410 : BitVec 32 := Scalar.addi v2404 v2403
  let v2411 : BitVec 32 := Scalar.select v2409 v2410 v2404
  let c1_i32_1980 : BitVec 32 := 1#32
  let v2413 : BitVec 32 := Scalar.muli v2411 c1_i32_1980
  let v2414 : BitVec 32 := Scalar.addi c0_i32_1981 v2413
  v2414.toNat
def k0_dev110 (d0 : Dev nD) : Nat :=
  let c0_i32_1996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1985 : BitVec 32 := 24#32
  let v2421 : BitVec 32 := Scalar.addi v2 c24_i32_1985
  let c32_i32_1986 : BitVec 32 := 32#32
  let c0_i32_1987 : BitVec 32 := 0#32
  let v2422 : BitVec 1 := Scalar.cmpi .eq c32_i32_1986 c0_i32_1987
  let c1_i32_1988 : BitVec 32 := 1#32
  let v2423 : BitVec 32 := Scalar.select v2422 c1_i32_1988 c32_i32_1986
  let v2424 : BitVec 32 := Scalar.remsi v2421 v2423
  let c0_i32_1990 : BitVec 32 := 0#32
  let v2426 : BitVec 1 := Scalar.cmpi .slt v2424 c0_i32_1990
  let c0_i32_1991 : BitVec 32 := 0#32
  let v2427 : BitVec 1 := Scalar.cmpi .slt v2423 c0_i32_1991
  let v2428 : BitVec 1 := Scalar.xori v2426 v2427
  let c0_i32_1989 : BitVec 32 := 0#32
  let v2425 : BitVec 1 := Scalar.cmpi .ne v2424 c0_i32_1989
  let v2429 : BitVec 1 := Scalar.andi v2428 v2425
  let v2430 : BitVec 32 := Scalar.addi v2424 v2423
  let v2431 : BitVec 32 := Scalar.select v2429 v2430 v2424
  let c1_i32_1995 : BitVec 32 := 1#32
  let v2433 : BitVec 32 := Scalar.muli v2431 c1_i32_1995
  let v2434 : BitVec 32 := Scalar.addi c0_i32_1996 v2433
  v2434.toNat
def k0_dev111 (d0 : Dev nD) : Nat :=
  let c0_i32_2011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2000 : BitVec 32 := 7#32
  let v2441 : BitVec 32 := Scalar.addi v2 c7_i32_2000
  let c32_i32_2001 : BitVec 32 := 32#32
  let c0_i32_2002 : BitVec 32 := 0#32
  let v2442 : BitVec 1 := Scalar.cmpi .eq c32_i32_2001 c0_i32_2002
  let c1_i32_2003 : BitVec 32 := 1#32
  let v2443 : BitVec 32 := Scalar.select v2442 c1_i32_2003 c32_i32_2001
  let v2444 : BitVec 32 := Scalar.remsi v2441 v2443
  let c0_i32_2005 : BitVec 32 := 0#32
  let v2446 : BitVec 1 := Scalar.cmpi .slt v2444 c0_i32_2005
  let c0_i32_2006 : BitVec 32 := 0#32
  let v2447 : BitVec 1 := Scalar.cmpi .slt v2443 c0_i32_2006
  let v2448 : BitVec 1 := Scalar.xori v2446 v2447
  let c0_i32_2004 : BitVec 32 := 0#32
  let v2445 : BitVec 1 := Scalar.cmpi .ne v2444 c0_i32_2004
  let v2449 : BitVec 1 := Scalar.andi v2448 v2445
  let v2450 : BitVec 32 := Scalar.addi v2444 v2443
  let v2451 : BitVec 32 := Scalar.select v2449 v2450 v2444
  let c1_i32_2010 : BitVec 32 := 1#32
  let v2453 : BitVec 32 := Scalar.muli v2451 c1_i32_2010
  let v2454 : BitVec 32 := Scalar.addi c0_i32_2011 v2453
  v2454.toNat
def k0_dev112 (d0 : Dev nD) : Nat :=
  let c0_i32_2026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2015 : BitVec 32 := 25#32
  let v2461 : BitVec 32 := Scalar.addi v2 c25_i32_2015
  let c32_i32_2016 : BitVec 32 := 32#32
  let c0_i32_2017 : BitVec 32 := 0#32
  let v2462 : BitVec 1 := Scalar.cmpi .eq c32_i32_2016 c0_i32_2017
  let c1_i32_2018 : BitVec 32 := 1#32
  let v2463 : BitVec 32 := Scalar.select v2462 c1_i32_2018 c32_i32_2016
  let v2464 : BitVec 32 := Scalar.remsi v2461 v2463
  let c0_i32_2020 : BitVec 32 := 0#32
  let v2466 : BitVec 1 := Scalar.cmpi .slt v2464 c0_i32_2020
  let c0_i32_2021 : BitVec 32 := 0#32
  let v2467 : BitVec 1 := Scalar.cmpi .slt v2463 c0_i32_2021
  let v2468 : BitVec 1 := Scalar.xori v2466 v2467
  let c0_i32_2019 : BitVec 32 := 0#32
  let v2465 : BitVec 1 := Scalar.cmpi .ne v2464 c0_i32_2019
  let v2469 : BitVec 1 := Scalar.andi v2468 v2465
  let v2470 : BitVec 32 := Scalar.addi v2464 v2463
  let v2471 : BitVec 32 := Scalar.select v2469 v2470 v2464
  let c1_i32_2025 : BitVec 32 := 1#32
  let v2473 : BitVec 32 := Scalar.muli v2471 c1_i32_2025
  let v2474 : BitVec 32 := Scalar.addi c0_i32_2026 v2473
  v2474.toNat
def k0_dev113 (d0 : Dev nD) : Nat :=
  let c0_i32_2041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2030 : BitVec 32 := 6#32
  let v2481 : BitVec 32 := Scalar.addi v2 c6_i32_2030
  let c32_i32_2031 : BitVec 32 := 32#32
  let c0_i32_2032 : BitVec 32 := 0#32
  let v2482 : BitVec 1 := Scalar.cmpi .eq c32_i32_2031 c0_i32_2032
  let c1_i32_2033 : BitVec 32 := 1#32
  let v2483 : BitVec 32 := Scalar.select v2482 c1_i32_2033 c32_i32_2031
  let v2484 : BitVec 32 := Scalar.remsi v2481 v2483
  let c0_i32_2035 : BitVec 32 := 0#32
  let v2486 : BitVec 1 := Scalar.cmpi .slt v2484 c0_i32_2035
  let c0_i32_2036 : BitVec 32 := 0#32
  let v2487 : BitVec 1 := Scalar.cmpi .slt v2483 c0_i32_2036
  let v2488 : BitVec 1 := Scalar.xori v2486 v2487
  let c0_i32_2034 : BitVec 32 := 0#32
  let v2485 : BitVec 1 := Scalar.cmpi .ne v2484 c0_i32_2034
  let v2489 : BitVec 1 := Scalar.andi v2488 v2485
  let v2490 : BitVec 32 := Scalar.addi v2484 v2483
  let v2491 : BitVec 32 := Scalar.select v2489 v2490 v2484
  let c1_i32_2040 : BitVec 32 := 1#32
  let v2493 : BitVec 32 := Scalar.muli v2491 c1_i32_2040
  let v2494 : BitVec 32 := Scalar.addi c0_i32_2041 v2493
  v2494.toNat
def k0_dev114 (d0 : Dev nD) : Nat :=
  let c0_i32_2056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2045 : BitVec 32 := 26#32
  let v2501 : BitVec 32 := Scalar.addi v2 c26_i32_2045
  let c32_i32_2046 : BitVec 32 := 32#32
  let c0_i32_2047 : BitVec 32 := 0#32
  let v2502 : BitVec 1 := Scalar.cmpi .eq c32_i32_2046 c0_i32_2047
  let c1_i32_2048 : BitVec 32 := 1#32
  let v2503 : BitVec 32 := Scalar.select v2502 c1_i32_2048 c32_i32_2046
  let v2504 : BitVec 32 := Scalar.remsi v2501 v2503
  let c0_i32_2050 : BitVec 32 := 0#32
  let v2506 : BitVec 1 := Scalar.cmpi .slt v2504 c0_i32_2050
  let c0_i32_2051 : BitVec 32 := 0#32
  let v2507 : BitVec 1 := Scalar.cmpi .slt v2503 c0_i32_2051
  let v2508 : BitVec 1 := Scalar.xori v2506 v2507
  let c0_i32_2049 : BitVec 32 := 0#32
  let v2505 : BitVec 1 := Scalar.cmpi .ne v2504 c0_i32_2049
  let v2509 : BitVec 1 := Scalar.andi v2508 v2505
  let v2510 : BitVec 32 := Scalar.addi v2504 v2503
  let v2511 : BitVec 32 := Scalar.select v2509 v2510 v2504
  let c1_i32_2055 : BitVec 32 := 1#32
  let v2513 : BitVec 32 := Scalar.muli v2511 c1_i32_2055
  let v2514 : BitVec 32 := Scalar.addi c0_i32_2056 v2513
  v2514.toNat
def k0_dev115 (d0 : Dev nD) : Nat :=
  let c0_i32_2071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2060 : BitVec 32 := 5#32
  let v2521 : BitVec 32 := Scalar.addi v2 c5_i32_2060
  let c32_i32_2061 : BitVec 32 := 32#32
  let c0_i32_2062 : BitVec 32 := 0#32
  let v2522 : BitVec 1 := Scalar.cmpi .eq c32_i32_2061 c0_i32_2062
  let c1_i32_2063 : BitVec 32 := 1#32
  let v2523 : BitVec 32 := Scalar.select v2522 c1_i32_2063 c32_i32_2061
  let v2524 : BitVec 32 := Scalar.remsi v2521 v2523
  let c0_i32_2065 : BitVec 32 := 0#32
  let v2526 : BitVec 1 := Scalar.cmpi .slt v2524 c0_i32_2065
  let c0_i32_2066 : BitVec 32 := 0#32
  let v2527 : BitVec 1 := Scalar.cmpi .slt v2523 c0_i32_2066
  let v2528 : BitVec 1 := Scalar.xori v2526 v2527
  let c0_i32_2064 : BitVec 32 := 0#32
  let v2525 : BitVec 1 := Scalar.cmpi .ne v2524 c0_i32_2064
  let v2529 : BitVec 1 := Scalar.andi v2528 v2525
  let v2530 : BitVec 32 := Scalar.addi v2524 v2523
  let v2531 : BitVec 32 := Scalar.select v2529 v2530 v2524
  let c1_i32_2070 : BitVec 32 := 1#32
  let v2533 : BitVec 32 := Scalar.muli v2531 c1_i32_2070
  let v2534 : BitVec 32 := Scalar.addi c0_i32_2071 v2533
  v2534.toNat
def k0_dev116 (d0 : Dev nD) : Nat :=
  let c0_i32_2086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2075 : BitVec 32 := 27#32
  let v2541 : BitVec 32 := Scalar.addi v2 c27_i32_2075
  let c32_i32_2076 : BitVec 32 := 32#32
  let c0_i32_2077 : BitVec 32 := 0#32
  let v2542 : BitVec 1 := Scalar.cmpi .eq c32_i32_2076 c0_i32_2077
  let c1_i32_2078 : BitVec 32 := 1#32
  let v2543 : BitVec 32 := Scalar.select v2542 c1_i32_2078 c32_i32_2076
  let v2544 : BitVec 32 := Scalar.remsi v2541 v2543
  let c0_i32_2080 : BitVec 32 := 0#32
  let v2546 : BitVec 1 := Scalar.cmpi .slt v2544 c0_i32_2080
  let c0_i32_2081 : BitVec 32 := 0#32
  let v2547 : BitVec 1 := Scalar.cmpi .slt v2543 c0_i32_2081
  let v2548 : BitVec 1 := Scalar.xori v2546 v2547
  let c0_i32_2079 : BitVec 32 := 0#32
  let v2545 : BitVec 1 := Scalar.cmpi .ne v2544 c0_i32_2079
  let v2549 : BitVec 1 := Scalar.andi v2548 v2545
  let v2550 : BitVec 32 := Scalar.addi v2544 v2543
  let v2551 : BitVec 32 := Scalar.select v2549 v2550 v2544
  let c1_i32_2085 : BitVec 32 := 1#32
  let v2553 : BitVec 32 := Scalar.muli v2551 c1_i32_2085
  let v2554 : BitVec 32 := Scalar.addi c0_i32_2086 v2553
  v2554.toNat
def k0_dev117 (d0 : Dev nD) : Nat :=
  let c0_i32_2101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2090 : BitVec 32 := 4#32
  let v2561 : BitVec 32 := Scalar.addi v2 c4_i32_2090
  let c32_i32_2091 : BitVec 32 := 32#32
  let c0_i32_2092 : BitVec 32 := 0#32
  let v2562 : BitVec 1 := Scalar.cmpi .eq c32_i32_2091 c0_i32_2092
  let c1_i32_2093 : BitVec 32 := 1#32
  let v2563 : BitVec 32 := Scalar.select v2562 c1_i32_2093 c32_i32_2091
  let v2564 : BitVec 32 := Scalar.remsi v2561 v2563
  let c0_i32_2095 : BitVec 32 := 0#32
  let v2566 : BitVec 1 := Scalar.cmpi .slt v2564 c0_i32_2095
  let c0_i32_2096 : BitVec 32 := 0#32
  let v2567 : BitVec 1 := Scalar.cmpi .slt v2563 c0_i32_2096
  let v2568 : BitVec 1 := Scalar.xori v2566 v2567
  let c0_i32_2094 : BitVec 32 := 0#32
  let v2565 : BitVec 1 := Scalar.cmpi .ne v2564 c0_i32_2094
  let v2569 : BitVec 1 := Scalar.andi v2568 v2565
  let v2570 : BitVec 32 := Scalar.addi v2564 v2563
  let v2571 : BitVec 32 := Scalar.select v2569 v2570 v2564
  let c1_i32_2100 : BitVec 32 := 1#32
  let v2573 : BitVec 32 := Scalar.muli v2571 c1_i32_2100
  let v2574 : BitVec 32 := Scalar.addi c0_i32_2101 v2573
  v2574.toNat
def k0_dev118 (d0 : Dev nD) : Nat :=
  let c0_i32_2116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2105 : BitVec 32 := 28#32
  let v2581 : BitVec 32 := Scalar.addi v2 c28_i32_2105
  let c32_i32_2106 : BitVec 32 := 32#32
  let c0_i32_2107 : BitVec 32 := 0#32
  let v2582 : BitVec 1 := Scalar.cmpi .eq c32_i32_2106 c0_i32_2107
  let c1_i32_2108 : BitVec 32 := 1#32
  let v2583 : BitVec 32 := Scalar.select v2582 c1_i32_2108 c32_i32_2106
  let v2584 : BitVec 32 := Scalar.remsi v2581 v2583
  let c0_i32_2110 : BitVec 32 := 0#32
  let v2586 : BitVec 1 := Scalar.cmpi .slt v2584 c0_i32_2110
  let c0_i32_2111 : BitVec 32 := 0#32
  let v2587 : BitVec 1 := Scalar.cmpi .slt v2583 c0_i32_2111
  let v2588 : BitVec 1 := Scalar.xori v2586 v2587
  let c0_i32_2109 : BitVec 32 := 0#32
  let v2585 : BitVec 1 := Scalar.cmpi .ne v2584 c0_i32_2109
  let v2589 : BitVec 1 := Scalar.andi v2588 v2585
  let v2590 : BitVec 32 := Scalar.addi v2584 v2583
  let v2591 : BitVec 32 := Scalar.select v2589 v2590 v2584
  let c1_i32_2115 : BitVec 32 := 1#32
  let v2593 : BitVec 32 := Scalar.muli v2591 c1_i32_2115
  let v2594 : BitVec 32 := Scalar.addi c0_i32_2116 v2593
  v2594.toNat
def k0_dev119 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2120 : BitVec 32 := 3#32
  let v2601 : BitVec 32 := Scalar.addi v2 c3_i32_2120
  let c32_i32_2121 : BitVec 32 := 32#32
  let c0_i32_2122 : BitVec 32 := 0#32
  let v2602 : BitVec 1 := Scalar.cmpi .eq c32_i32_2121 c0_i32_2122
  let c1_i32_2123 : BitVec 32 := 1#32
  let v2603 : BitVec 32 := Scalar.select v2602 c1_i32_2123 c32_i32_2121
  let v2604 : BitVec 32 := Scalar.remsi v2601 v2603
  let c0_i32_2125 : BitVec 32 := 0#32
  let v2606 : BitVec 1 := Scalar.cmpi .slt v2604 c0_i32_2125
  let c0_i32_2126 : BitVec 32 := 0#32
  let v2607 : BitVec 1 := Scalar.cmpi .slt v2603 c0_i32_2126
  let v2608 : BitVec 1 := Scalar.xori v2606 v2607
  let c0_i32_2124 : BitVec 32 := 0#32
  let v2605 : BitVec 1 := Scalar.cmpi .ne v2604 c0_i32_2124
  let v2609 : BitVec 1 := Scalar.andi v2608 v2605
  let v2610 : BitVec 32 := Scalar.addi v2604 v2603
  let v2611 : BitVec 32 := Scalar.select v2609 v2610 v2604
  let c1_i32_2130 : BitVec 32 := 1#32
  let v2613 : BitVec 32 := Scalar.muli v2611 c1_i32_2130
  let v2614 : BitVec 32 := Scalar.addi c0_i32_2131 v2613
  v2614.toNat
def k0_dev120 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2135 : BitVec 32 := 29#32
  let v2621 : BitVec 32 := Scalar.addi v2 c29_i32_2135
  let c32_i32_2136 : BitVec 32 := 32#32
  let c0_i32_2137 : BitVec 32 := 0#32
  let v2622 : BitVec 1 := Scalar.cmpi .eq c32_i32_2136 c0_i32_2137
  let c1_i32_2138 : BitVec 32 := 1#32
  let v2623 : BitVec 32 := Scalar.select v2622 c1_i32_2138 c32_i32_2136
  let v2624 : BitVec 32 := Scalar.remsi v2621 v2623
  let c0_i32_2140 : BitVec 32 := 0#32
  let v2626 : BitVec 1 := Scalar.cmpi .slt v2624 c0_i32_2140
  let c0_i32_2141 : BitVec 32 := 0#32
  let v2627 : BitVec 1 := Scalar.cmpi .slt v2623 c0_i32_2141
  let v2628 : BitVec 1 := Scalar.xori v2626 v2627
  let c0_i32_2139 : BitVec 32 := 0#32
  let v2625 : BitVec 1 := Scalar.cmpi .ne v2624 c0_i32_2139
  let v2629 : BitVec 1 := Scalar.andi v2628 v2625
  let v2630 : BitVec 32 := Scalar.addi v2624 v2623
  let v2631 : BitVec 32 := Scalar.select v2629 v2630 v2624
  let c1_i32_2145 : BitVec 32 := 1#32
  let v2633 : BitVec 32 := Scalar.muli v2631 c1_i32_2145
  let v2634 : BitVec 32 := Scalar.addi c0_i32_2146 v2633
  v2634.toNat
def k0_dev121 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2150 : BitVec 32 := 2#32
  let v2641 : BitVec 32 := Scalar.addi v2 c2_i32_2150
  let c32_i32_2151 : BitVec 32 := 32#32
  let c0_i32_2152 : BitVec 32 := 0#32
  let v2642 : BitVec 1 := Scalar.cmpi .eq c32_i32_2151 c0_i32_2152
  let c1_i32_2153 : BitVec 32 := 1#32
  let v2643 : BitVec 32 := Scalar.select v2642 c1_i32_2153 c32_i32_2151
  let v2644 : BitVec 32 := Scalar.remsi v2641 v2643
  let c0_i32_2155 : BitVec 32 := 0#32
  let v2646 : BitVec 1 := Scalar.cmpi .slt v2644 c0_i32_2155
  let c0_i32_2156 : BitVec 32 := 0#32
  let v2647 : BitVec 1 := Scalar.cmpi .slt v2643 c0_i32_2156
  let v2648 : BitVec 1 := Scalar.xori v2646 v2647
  let c0_i32_2154 : BitVec 32 := 0#32
  let v2645 : BitVec 1 := Scalar.cmpi .ne v2644 c0_i32_2154
  let v2649 : BitVec 1 := Scalar.andi v2648 v2645
  let v2650 : BitVec 32 := Scalar.addi v2644 v2643
  let v2651 : BitVec 32 := Scalar.select v2649 v2650 v2644
  let c1_i32_2160 : BitVec 32 := 1#32
  let v2653 : BitVec 32 := Scalar.muli v2651 c1_i32_2160
  let v2654 : BitVec 32 := Scalar.addi c0_i32_2161 v2653
  v2654.toNat
def k0_dev122 (d0 : Dev nD) : Nat :=
  let c0_i32_2176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2165 : BitVec 32 := 30#32
  let v2661 : BitVec 32 := Scalar.addi v2 c30_i32_2165
  let c32_i32_2166 : BitVec 32 := 32#32
  let c0_i32_2167 : BitVec 32 := 0#32
  let v2662 : BitVec 1 := Scalar.cmpi .eq c32_i32_2166 c0_i32_2167
  let c1_i32_2168 : BitVec 32 := 1#32
  let v2663 : BitVec 32 := Scalar.select v2662 c1_i32_2168 c32_i32_2166
  let v2664 : BitVec 32 := Scalar.remsi v2661 v2663
  let c0_i32_2170 : BitVec 32 := 0#32
  let v2666 : BitVec 1 := Scalar.cmpi .slt v2664 c0_i32_2170
  let c0_i32_2171 : BitVec 32 := 0#32
  let v2667 : BitVec 1 := Scalar.cmpi .slt v2663 c0_i32_2171
  let v2668 : BitVec 1 := Scalar.xori v2666 v2667
  let c0_i32_2169 : BitVec 32 := 0#32
  let v2665 : BitVec 1 := Scalar.cmpi .ne v2664 c0_i32_2169
  let v2669 : BitVec 1 := Scalar.andi v2668 v2665
  let v2670 : BitVec 32 := Scalar.addi v2664 v2663
  let v2671 : BitVec 32 := Scalar.select v2669 v2670 v2664
  let c1_i32_2175 : BitVec 32 := 1#32
  let v2673 : BitVec 32 := Scalar.muli v2671 c1_i32_2175
  let v2674 : BitVec 32 := Scalar.addi c0_i32_2176 v2673
  v2674.toNat
def k0_dev123 (d0 : Dev nD) : Nat :=
  let c0_i32_2191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2180 : BitVec 32 := 1#32
  let v2681 : BitVec 32 := Scalar.addi v2 c1_i32_2180
  let c32_i32_2181 : BitVec 32 := 32#32
  let c0_i32_2182 : BitVec 32 := 0#32
  let v2682 : BitVec 1 := Scalar.cmpi .eq c32_i32_2181 c0_i32_2182
  let c1_i32_2183 : BitVec 32 := 1#32
  let v2683 : BitVec 32 := Scalar.select v2682 c1_i32_2183 c32_i32_2181
  let v2684 : BitVec 32 := Scalar.remsi v2681 v2683
  let c0_i32_2185 : BitVec 32 := 0#32
  let v2686 : BitVec 1 := Scalar.cmpi .slt v2684 c0_i32_2185
  let c0_i32_2186 : BitVec 32 := 0#32
  let v2687 : BitVec 1 := Scalar.cmpi .slt v2683 c0_i32_2186
  let v2688 : BitVec 1 := Scalar.xori v2686 v2687
  let c0_i32_2184 : BitVec 32 := 0#32
  let v2685 : BitVec 1 := Scalar.cmpi .ne v2684 c0_i32_2184
  let v2689 : BitVec 1 := Scalar.andi v2688 v2685
  let v2690 : BitVec 32 := Scalar.addi v2684 v2683
  let v2691 : BitVec 32 := Scalar.select v2689 v2690 v2684
  let c1_i32_2190 : BitVec 32 := 1#32
  let v2693 : BitVec 32 := Scalar.muli v2691 c1_i32_2190
  let v2694 : BitVec 32 := Scalar.addi c0_i32_2191 v2693
  v2694.toNat
def k0_dev124 (d0 : Dev nD) : Nat :=
  let c0_i32_2206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2195 : BitVec 32 := 31#32
  let v2701 : BitVec 32 := Scalar.addi v2 c31_i32_2195
  let c32_i32_2196 : BitVec 32 := 32#32
  let c0_i32_2197 : BitVec 32 := 0#32
  let v2702 : BitVec 1 := Scalar.cmpi .eq c32_i32_2196 c0_i32_2197
  let c1_i32_2198 : BitVec 32 := 1#32
  let v2703 : BitVec 32 := Scalar.select v2702 c1_i32_2198 c32_i32_2196
  let v2704 : BitVec 32 := Scalar.remsi v2701 v2703
  let c0_i32_2200 : BitVec 32 := 0#32
  let v2706 : BitVec 1 := Scalar.cmpi .slt v2704 c0_i32_2200
  let c0_i32_2201 : BitVec 32 := 0#32
  let v2707 : BitVec 1 := Scalar.cmpi .slt v2703 c0_i32_2201
  let v2708 : BitVec 1 := Scalar.xori v2706 v2707
  let c0_i32_2199 : BitVec 32 := 0#32
  let v2705 : BitVec 1 := Scalar.cmpi .ne v2704 c0_i32_2199
  let v2709 : BitVec 1 := Scalar.andi v2708 v2705
  let v2710 : BitVec 32 := Scalar.addi v2704 v2703
  let v2711 : BitVec 32 := Scalar.select v2709 v2710 v2704
  let c1_i32_2205 : BitVec 32 := 1#32
  let v2713 : BitVec 32 := Scalar.muli v2711 c1_i32_2205
  let v2714 : BitVec 32 := Scalar.addi c0_i32_2206 v2713
  v2714.toNat
def k0_dev125 (d0 : Dev nD) : Nat :=
  let c0_i32_2644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2633 : BitVec 32 := 16#32
  let v3092 : BitVec 32 := Scalar.addi v2 c16_i32_2633
  let c32_i32_2634 : BitVec 32 := 32#32
  let c0_i32_2635 : BitVec 32 := 0#32
  let v3093 : BitVec 1 := Scalar.cmpi .eq c32_i32_2634 c0_i32_2635
  let c1_i32_2636 : BitVec 32 := 1#32
  let v3094 : BitVec 32 := Scalar.select v3093 c1_i32_2636 c32_i32_2634
  let v3095 : BitVec 32 := Scalar.remsi v3092 v3094
  let c0_i32_2638 : BitVec 32 := 0#32
  let v3097 : BitVec 1 := Scalar.cmpi .slt v3095 c0_i32_2638
  let c0_i32_2639 : BitVec 32 := 0#32
  let v3098 : BitVec 1 := Scalar.cmpi .slt v3094 c0_i32_2639
  let v3099 : BitVec 1 := Scalar.xori v3097 v3098
  let c0_i32_2637 : BitVec 32 := 0#32
  let v3096 : BitVec 1 := Scalar.cmpi .ne v3095 c0_i32_2637
  let v3100 : BitVec 1 := Scalar.andi v3099 v3096
  let v3101 : BitVec 32 := Scalar.addi v3095 v3094
  let v3102 : BitVec 32 := Scalar.select v3100 v3101 v3095
  let c1_i32_2643 : BitVec 32 := 1#32
  let v3104 : BitVec 32 := Scalar.muli v3102 c1_i32_2643
  let v3105 : BitVec 32 := Scalar.addi c0_i32_2644 v3104
  v3105.toNat
def k0_dev126 (d0 : Dev nD) : Nat :=
  let c0_i32_2659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2648 : BitVec 32 := 15#32
  let v3112 : BitVec 32 := Scalar.addi v2 c15_i32_2648
  let c32_i32_2649 : BitVec 32 := 32#32
  let c0_i32_2650 : BitVec 32 := 0#32
  let v3113 : BitVec 1 := Scalar.cmpi .eq c32_i32_2649 c0_i32_2650
  let c1_i32_2651 : BitVec 32 := 1#32
  let v3114 : BitVec 32 := Scalar.select v3113 c1_i32_2651 c32_i32_2649
  let v3115 : BitVec 32 := Scalar.remsi v3112 v3114
  let c0_i32_2653 : BitVec 32 := 0#32
  let v3117 : BitVec 1 := Scalar.cmpi .slt v3115 c0_i32_2653
  let c0_i32_2654 : BitVec 32 := 0#32
  let v3118 : BitVec 1 := Scalar.cmpi .slt v3114 c0_i32_2654
  let v3119 : BitVec 1 := Scalar.xori v3117 v3118
  let c0_i32_2652 : BitVec 32 := 0#32
  let v3116 : BitVec 1 := Scalar.cmpi .ne v3115 c0_i32_2652
  let v3120 : BitVec 1 := Scalar.andi v3119 v3116
  let v3121 : BitVec 32 := Scalar.addi v3115 v3114
  let v3122 : BitVec 32 := Scalar.select v3120 v3121 v3115
  let c1_i32_2658 : BitVec 32 := 1#32
  let v3124 : BitVec 32 := Scalar.muli v3122 c1_i32_2658
  let v3125 : BitVec 32 := Scalar.addi c0_i32_2659 v3124
  v3125.toNat
def k0_dev127 (d0 : Dev nD) : Nat :=
  let c0_i32_2674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2663 : BitVec 32 := 17#32
  let v3132 : BitVec 32 := Scalar.addi v2 c17_i32_2663
  let c32_i32_2664 : BitVec 32 := 32#32
  let c0_i32_2665 : BitVec 32 := 0#32
  let v3133 : BitVec 1 := Scalar.cmpi .eq c32_i32_2664 c0_i32_2665
  let c1_i32_2666 : BitVec 32 := 1#32
  let v3134 : BitVec 32 := Scalar.select v3133 c1_i32_2666 c32_i32_2664
  let v3135 : BitVec 32 := Scalar.remsi v3132 v3134
  let c0_i32_2668 : BitVec 32 := 0#32
  let v3137 : BitVec 1 := Scalar.cmpi .slt v3135 c0_i32_2668
  let c0_i32_2669 : BitVec 32 := 0#32
  let v3138 : BitVec 1 := Scalar.cmpi .slt v3134 c0_i32_2669
  let v3139 : BitVec 1 := Scalar.xori v3137 v3138
  let c0_i32_2667 : BitVec 32 := 0#32
  let v3136 : BitVec 1 := Scalar.cmpi .ne v3135 c0_i32_2667
  let v3140 : BitVec 1 := Scalar.andi v3139 v3136
  let v3141 : BitVec 32 := Scalar.addi v3135 v3134
  let v3142 : BitVec 32 := Scalar.select v3140 v3141 v3135
  let c1_i32_2673 : BitVec 32 := 1#32
  let v3144 : BitVec 32 := Scalar.muli v3142 c1_i32_2673
  let v3145 : BitVec 32 := Scalar.addi c0_i32_2674 v3144
  v3145.toNat
def k0_dev128 (d0 : Dev nD) : Nat :=
  let c0_i32_2689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2678 : BitVec 32 := 14#32
  let v3152 : BitVec 32 := Scalar.addi v2 c14_i32_2678
  let c32_i32_2679 : BitVec 32 := 32#32
  let c0_i32_2680 : BitVec 32 := 0#32
  let v3153 : BitVec 1 := Scalar.cmpi .eq c32_i32_2679 c0_i32_2680
  let c1_i32_2681 : BitVec 32 := 1#32
  let v3154 : BitVec 32 := Scalar.select v3153 c1_i32_2681 c32_i32_2679
  let v3155 : BitVec 32 := Scalar.remsi v3152 v3154
  let c0_i32_2683 : BitVec 32 := 0#32
  let v3157 : BitVec 1 := Scalar.cmpi .slt v3155 c0_i32_2683
  let c0_i32_2684 : BitVec 32 := 0#32
  let v3158 : BitVec 1 := Scalar.cmpi .slt v3154 c0_i32_2684
  let v3159 : BitVec 1 := Scalar.xori v3157 v3158
  let c0_i32_2682 : BitVec 32 := 0#32
  let v3156 : BitVec 1 := Scalar.cmpi .ne v3155 c0_i32_2682
  let v3160 : BitVec 1 := Scalar.andi v3159 v3156
  let v3161 : BitVec 32 := Scalar.addi v3155 v3154
  let v3162 : BitVec 32 := Scalar.select v3160 v3161 v3155
  let c1_i32_2688 : BitVec 32 := 1#32
  let v3164 : BitVec 32 := Scalar.muli v3162 c1_i32_2688
  let v3165 : BitVec 32 := Scalar.addi c0_i32_2689 v3164
  v3165.toNat
def k0_dev129 (d0 : Dev nD) : Nat :=
  let c0_i32_2704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2693 : BitVec 32 := 18#32
  let v3172 : BitVec 32 := Scalar.addi v2 c18_i32_2693
  let c32_i32_2694 : BitVec 32 := 32#32
  let c0_i32_2695 : BitVec 32 := 0#32
  let v3173 : BitVec 1 := Scalar.cmpi .eq c32_i32_2694 c0_i32_2695
  let c1_i32_2696 : BitVec 32 := 1#32
  let v3174 : BitVec 32 := Scalar.select v3173 c1_i32_2696 c32_i32_2694
  let v3175 : BitVec 32 := Scalar.remsi v3172 v3174
  let c0_i32_2698 : BitVec 32 := 0#32
  let v3177 : BitVec 1 := Scalar.cmpi .slt v3175 c0_i32_2698
  let c0_i32_2699 : BitVec 32 := 0#32
  let v3178 : BitVec 1 := Scalar.cmpi .slt v3174 c0_i32_2699
  let v3179 : BitVec 1 := Scalar.xori v3177 v3178
  let c0_i32_2697 : BitVec 32 := 0#32
  let v3176 : BitVec 1 := Scalar.cmpi .ne v3175 c0_i32_2697
  let v3180 : BitVec 1 := Scalar.andi v3179 v3176
  let v3181 : BitVec 32 := Scalar.addi v3175 v3174
  let v3182 : BitVec 32 := Scalar.select v3180 v3181 v3175
  let c1_i32_2703 : BitVec 32 := 1#32
  let v3184 : BitVec 32 := Scalar.muli v3182 c1_i32_2703
  let v3185 : BitVec 32 := Scalar.addi c0_i32_2704 v3184
  v3185.toNat
def k0_dev130 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2708 : BitVec 32 := 13#32
  let v3192 : BitVec 32 := Scalar.addi v2 c13_i32_2708
  let c32_i32_2709 : BitVec 32 := 32#32
  let c0_i32_2710 : BitVec 32 := 0#32
  let v3193 : BitVec 1 := Scalar.cmpi .eq c32_i32_2709 c0_i32_2710
  let c1_i32_2711 : BitVec 32 := 1#32
  let v3194 : BitVec 32 := Scalar.select v3193 c1_i32_2711 c32_i32_2709
  let v3195 : BitVec 32 := Scalar.remsi v3192 v3194
  let c0_i32_2713 : BitVec 32 := 0#32
  let v3197 : BitVec 1 := Scalar.cmpi .slt v3195 c0_i32_2713
  let c0_i32_2714 : BitVec 32 := 0#32
  let v3198 : BitVec 1 := Scalar.cmpi .slt v3194 c0_i32_2714
  let v3199 : BitVec 1 := Scalar.xori v3197 v3198
  let c0_i32_2712 : BitVec 32 := 0#32
  let v3196 : BitVec 1 := Scalar.cmpi .ne v3195 c0_i32_2712
  let v3200 : BitVec 1 := Scalar.andi v3199 v3196
  let v3201 : BitVec 32 := Scalar.addi v3195 v3194
  let v3202 : BitVec 32 := Scalar.select v3200 v3201 v3195
  let c1_i32_2718 : BitVec 32 := 1#32
  let v3204 : BitVec 32 := Scalar.muli v3202 c1_i32_2718
  let v3205 : BitVec 32 := Scalar.addi c0_i32_2719 v3204
  v3205.toNat
def k0_dev131 (d0 : Dev nD) : Nat :=
  let c0_i32_2734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2723 : BitVec 32 := 19#32
  let v3212 : BitVec 32 := Scalar.addi v2 c19_i32_2723
  let c32_i32_2724 : BitVec 32 := 32#32
  let c0_i32_2725 : BitVec 32 := 0#32
  let v3213 : BitVec 1 := Scalar.cmpi .eq c32_i32_2724 c0_i32_2725
  let c1_i32_2726 : BitVec 32 := 1#32
  let v3214 : BitVec 32 := Scalar.select v3213 c1_i32_2726 c32_i32_2724
  let v3215 : BitVec 32 := Scalar.remsi v3212 v3214
  let c0_i32_2728 : BitVec 32 := 0#32
  let v3217 : BitVec 1 := Scalar.cmpi .slt v3215 c0_i32_2728
  let c0_i32_2729 : BitVec 32 := 0#32
  let v3218 : BitVec 1 := Scalar.cmpi .slt v3214 c0_i32_2729
  let v3219 : BitVec 1 := Scalar.xori v3217 v3218
  let c0_i32_2727 : BitVec 32 := 0#32
  let v3216 : BitVec 1 := Scalar.cmpi .ne v3215 c0_i32_2727
  let v3220 : BitVec 1 := Scalar.andi v3219 v3216
  let v3221 : BitVec 32 := Scalar.addi v3215 v3214
  let v3222 : BitVec 32 := Scalar.select v3220 v3221 v3215
  let c1_i32_2733 : BitVec 32 := 1#32
  let v3224 : BitVec 32 := Scalar.muli v3222 c1_i32_2733
  let v3225 : BitVec 32 := Scalar.addi c0_i32_2734 v3224
  v3225.toNat
def k0_dev132 (d0 : Dev nD) : Nat :=
  let c0_i32_2749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2738 : BitVec 32 := 12#32
  let v3232 : BitVec 32 := Scalar.addi v2 c12_i32_2738
  let c32_i32_2739 : BitVec 32 := 32#32
  let c0_i32_2740 : BitVec 32 := 0#32
  let v3233 : BitVec 1 := Scalar.cmpi .eq c32_i32_2739 c0_i32_2740
  let c1_i32_2741 : BitVec 32 := 1#32
  let v3234 : BitVec 32 := Scalar.select v3233 c1_i32_2741 c32_i32_2739
  let v3235 : BitVec 32 := Scalar.remsi v3232 v3234
  let c0_i32_2743 : BitVec 32 := 0#32
  let v3237 : BitVec 1 := Scalar.cmpi .slt v3235 c0_i32_2743
  let c0_i32_2744 : BitVec 32 := 0#32
  let v3238 : BitVec 1 := Scalar.cmpi .slt v3234 c0_i32_2744
  let v3239 : BitVec 1 := Scalar.xori v3237 v3238
  let c0_i32_2742 : BitVec 32 := 0#32
  let v3236 : BitVec 1 := Scalar.cmpi .ne v3235 c0_i32_2742
  let v3240 : BitVec 1 := Scalar.andi v3239 v3236
  let v3241 : BitVec 32 := Scalar.addi v3235 v3234
  let v3242 : BitVec 32 := Scalar.select v3240 v3241 v3235
  let c1_i32_2748 : BitVec 32 := 1#32
  let v3244 : BitVec 32 := Scalar.muli v3242 c1_i32_2748
  let v3245 : BitVec 32 := Scalar.addi c0_i32_2749 v3244
  v3245.toNat
def k0_dev133 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2753 : BitVec 32 := 20#32
  let v3252 : BitVec 32 := Scalar.addi v2 c20_i32_2753
  let c32_i32_2754 : BitVec 32 := 32#32
  let c0_i32_2755 : BitVec 32 := 0#32
  let v3253 : BitVec 1 := Scalar.cmpi .eq c32_i32_2754 c0_i32_2755
  let c1_i32_2756 : BitVec 32 := 1#32
  let v3254 : BitVec 32 := Scalar.select v3253 c1_i32_2756 c32_i32_2754
  let v3255 : BitVec 32 := Scalar.remsi v3252 v3254
  let c0_i32_2758 : BitVec 32 := 0#32
  let v3257 : BitVec 1 := Scalar.cmpi .slt v3255 c0_i32_2758
  let c0_i32_2759 : BitVec 32 := 0#32
  let v3258 : BitVec 1 := Scalar.cmpi .slt v3254 c0_i32_2759
  let v3259 : BitVec 1 := Scalar.xori v3257 v3258
  let c0_i32_2757 : BitVec 32 := 0#32
  let v3256 : BitVec 1 := Scalar.cmpi .ne v3255 c0_i32_2757
  let v3260 : BitVec 1 := Scalar.andi v3259 v3256
  let v3261 : BitVec 32 := Scalar.addi v3255 v3254
  let v3262 : BitVec 32 := Scalar.select v3260 v3261 v3255
  let c1_i32_2763 : BitVec 32 := 1#32
  let v3264 : BitVec 32 := Scalar.muli v3262 c1_i32_2763
  let v3265 : BitVec 32 := Scalar.addi c0_i32_2764 v3264
  v3265.toNat
def k0_dev134 (d0 : Dev nD) : Nat :=
  let c0_i32_2779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2768 : BitVec 32 := 11#32
  let v3272 : BitVec 32 := Scalar.addi v2 c11_i32_2768
  let c32_i32_2769 : BitVec 32 := 32#32
  let c0_i32_2770 : BitVec 32 := 0#32
  let v3273 : BitVec 1 := Scalar.cmpi .eq c32_i32_2769 c0_i32_2770
  let c1_i32_2771 : BitVec 32 := 1#32
  let v3274 : BitVec 32 := Scalar.select v3273 c1_i32_2771 c32_i32_2769
  let v3275 : BitVec 32 := Scalar.remsi v3272 v3274
  let c0_i32_2773 : BitVec 32 := 0#32
  let v3277 : BitVec 1 := Scalar.cmpi .slt v3275 c0_i32_2773
  let c0_i32_2774 : BitVec 32 := 0#32
  let v3278 : BitVec 1 := Scalar.cmpi .slt v3274 c0_i32_2774
  let v3279 : BitVec 1 := Scalar.xori v3277 v3278
  let c0_i32_2772 : BitVec 32 := 0#32
  let v3276 : BitVec 1 := Scalar.cmpi .ne v3275 c0_i32_2772
  let v3280 : BitVec 1 := Scalar.andi v3279 v3276
  let v3281 : BitVec 32 := Scalar.addi v3275 v3274
  let v3282 : BitVec 32 := Scalar.select v3280 v3281 v3275
  let c1_i32_2778 : BitVec 32 := 1#32
  let v3284 : BitVec 32 := Scalar.muli v3282 c1_i32_2778
  let v3285 : BitVec 32 := Scalar.addi c0_i32_2779 v3284
  v3285.toNat
def k0_dev135 (d0 : Dev nD) : Nat :=
  let c0_i32_2794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2783 : BitVec 32 := 21#32
  let v3292 : BitVec 32 := Scalar.addi v2 c21_i32_2783
  let c32_i32_2784 : BitVec 32 := 32#32
  let c0_i32_2785 : BitVec 32 := 0#32
  let v3293 : BitVec 1 := Scalar.cmpi .eq c32_i32_2784 c0_i32_2785
  let c1_i32_2786 : BitVec 32 := 1#32
  let v3294 : BitVec 32 := Scalar.select v3293 c1_i32_2786 c32_i32_2784
  let v3295 : BitVec 32 := Scalar.remsi v3292 v3294
  let c0_i32_2788 : BitVec 32 := 0#32
  let v3297 : BitVec 1 := Scalar.cmpi .slt v3295 c0_i32_2788
  let c0_i32_2789 : BitVec 32 := 0#32
  let v3298 : BitVec 1 := Scalar.cmpi .slt v3294 c0_i32_2789
  let v3299 : BitVec 1 := Scalar.xori v3297 v3298
  let c0_i32_2787 : BitVec 32 := 0#32
  let v3296 : BitVec 1 := Scalar.cmpi .ne v3295 c0_i32_2787
  let v3300 : BitVec 1 := Scalar.andi v3299 v3296
  let v3301 : BitVec 32 := Scalar.addi v3295 v3294
  let v3302 : BitVec 32 := Scalar.select v3300 v3301 v3295
  let c1_i32_2793 : BitVec 32 := 1#32
  let v3304 : BitVec 32 := Scalar.muli v3302 c1_i32_2793
  let v3305 : BitVec 32 := Scalar.addi c0_i32_2794 v3304
  v3305.toNat
def k0_dev136 (d0 : Dev nD) : Nat :=
  let c0_i32_2809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2798 : BitVec 32 := 10#32
  let v3312 : BitVec 32 := Scalar.addi v2 c10_i32_2798
  let c32_i32_2799 : BitVec 32 := 32#32
  let c0_i32_2800 : BitVec 32 := 0#32
  let v3313 : BitVec 1 := Scalar.cmpi .eq c32_i32_2799 c0_i32_2800
  let c1_i32_2801 : BitVec 32 := 1#32
  let v3314 : BitVec 32 := Scalar.select v3313 c1_i32_2801 c32_i32_2799
  let v3315 : BitVec 32 := Scalar.remsi v3312 v3314
  let c0_i32_2803 : BitVec 32 := 0#32
  let v3317 : BitVec 1 := Scalar.cmpi .slt v3315 c0_i32_2803
  let c0_i32_2804 : BitVec 32 := 0#32
  let v3318 : BitVec 1 := Scalar.cmpi .slt v3314 c0_i32_2804
  let v3319 : BitVec 1 := Scalar.xori v3317 v3318
  let c0_i32_2802 : BitVec 32 := 0#32
  let v3316 : BitVec 1 := Scalar.cmpi .ne v3315 c0_i32_2802
  let v3320 : BitVec 1 := Scalar.andi v3319 v3316
  let v3321 : BitVec 32 := Scalar.addi v3315 v3314
  let v3322 : BitVec 32 := Scalar.select v3320 v3321 v3315
  let c1_i32_2808 : BitVec 32 := 1#32
  let v3324 : BitVec 32 := Scalar.muli v3322 c1_i32_2808
  let v3325 : BitVec 32 := Scalar.addi c0_i32_2809 v3324
  v3325.toNat
def k0_dev137 (d0 : Dev nD) : Nat :=
  let c0_i32_2824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2813 : BitVec 32 := 22#32
  let v3332 : BitVec 32 := Scalar.addi v2 c22_i32_2813
  let c32_i32_2814 : BitVec 32 := 32#32
  let c0_i32_2815 : BitVec 32 := 0#32
  let v3333 : BitVec 1 := Scalar.cmpi .eq c32_i32_2814 c0_i32_2815
  let c1_i32_2816 : BitVec 32 := 1#32
  let v3334 : BitVec 32 := Scalar.select v3333 c1_i32_2816 c32_i32_2814
  let v3335 : BitVec 32 := Scalar.remsi v3332 v3334
  let c0_i32_2818 : BitVec 32 := 0#32
  let v3337 : BitVec 1 := Scalar.cmpi .slt v3335 c0_i32_2818
  let c0_i32_2819 : BitVec 32 := 0#32
  let v3338 : BitVec 1 := Scalar.cmpi .slt v3334 c0_i32_2819
  let v3339 : BitVec 1 := Scalar.xori v3337 v3338
  let c0_i32_2817 : BitVec 32 := 0#32
  let v3336 : BitVec 1 := Scalar.cmpi .ne v3335 c0_i32_2817
  let v3340 : BitVec 1 := Scalar.andi v3339 v3336
  let v3341 : BitVec 32 := Scalar.addi v3335 v3334
  let v3342 : BitVec 32 := Scalar.select v3340 v3341 v3335
  let c1_i32_2823 : BitVec 32 := 1#32
  let v3344 : BitVec 32 := Scalar.muli v3342 c1_i32_2823
  let v3345 : BitVec 32 := Scalar.addi c0_i32_2824 v3344
  v3345.toNat
def k0_dev138 (d0 : Dev nD) : Nat :=
  let c0_i32_2839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2828 : BitVec 32 := 9#32
  let v3352 : BitVec 32 := Scalar.addi v2 c9_i32_2828
  let c32_i32_2829 : BitVec 32 := 32#32
  let c0_i32_2830 : BitVec 32 := 0#32
  let v3353 : BitVec 1 := Scalar.cmpi .eq c32_i32_2829 c0_i32_2830
  let c1_i32_2831 : BitVec 32 := 1#32
  let v3354 : BitVec 32 := Scalar.select v3353 c1_i32_2831 c32_i32_2829
  let v3355 : BitVec 32 := Scalar.remsi v3352 v3354
  let c0_i32_2833 : BitVec 32 := 0#32
  let v3357 : BitVec 1 := Scalar.cmpi .slt v3355 c0_i32_2833
  let c0_i32_2834 : BitVec 32 := 0#32
  let v3358 : BitVec 1 := Scalar.cmpi .slt v3354 c0_i32_2834
  let v3359 : BitVec 1 := Scalar.xori v3357 v3358
  let c0_i32_2832 : BitVec 32 := 0#32
  let v3356 : BitVec 1 := Scalar.cmpi .ne v3355 c0_i32_2832
  let v3360 : BitVec 1 := Scalar.andi v3359 v3356
  let v3361 : BitVec 32 := Scalar.addi v3355 v3354
  let v3362 : BitVec 32 := Scalar.select v3360 v3361 v3355
  let c1_i32_2838 : BitVec 32 := 1#32
  let v3364 : BitVec 32 := Scalar.muli v3362 c1_i32_2838
  let v3365 : BitVec 32 := Scalar.addi c0_i32_2839 v3364
  v3365.toNat
def k0_dev139 (d0 : Dev nD) : Nat :=
  let c0_i32_2854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2843 : BitVec 32 := 23#32
  let v3372 : BitVec 32 := Scalar.addi v2 c23_i32_2843
  let c32_i32_2844 : BitVec 32 := 32#32
  let c0_i32_2845 : BitVec 32 := 0#32
  let v3373 : BitVec 1 := Scalar.cmpi .eq c32_i32_2844 c0_i32_2845
  let c1_i32_2846 : BitVec 32 := 1#32
  let v3374 : BitVec 32 := Scalar.select v3373 c1_i32_2846 c32_i32_2844
  let v3375 : BitVec 32 := Scalar.remsi v3372 v3374
  let c0_i32_2848 : BitVec 32 := 0#32
  let v3377 : BitVec 1 := Scalar.cmpi .slt v3375 c0_i32_2848
  let c0_i32_2849 : BitVec 32 := 0#32
  let v3378 : BitVec 1 := Scalar.cmpi .slt v3374 c0_i32_2849
  let v3379 : BitVec 1 := Scalar.xori v3377 v3378
  let c0_i32_2847 : BitVec 32 := 0#32
  let v3376 : BitVec 1 := Scalar.cmpi .ne v3375 c0_i32_2847
  let v3380 : BitVec 1 := Scalar.andi v3379 v3376
  let v3381 : BitVec 32 := Scalar.addi v3375 v3374
  let v3382 : BitVec 32 := Scalar.select v3380 v3381 v3375
  let c1_i32_2853 : BitVec 32 := 1#32
  let v3384 : BitVec 32 := Scalar.muli v3382 c1_i32_2853
  let v3385 : BitVec 32 := Scalar.addi c0_i32_2854 v3384
  v3385.toNat
def k0_dev140 (d0 : Dev nD) : Nat :=
  let c0_i32_2869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2858 : BitVec 32 := 8#32
  let v3392 : BitVec 32 := Scalar.addi v2 c8_i32_2858
  let c32_i32_2859 : BitVec 32 := 32#32
  let c0_i32_2860 : BitVec 32 := 0#32
  let v3393 : BitVec 1 := Scalar.cmpi .eq c32_i32_2859 c0_i32_2860
  let c1_i32_2861 : BitVec 32 := 1#32
  let v3394 : BitVec 32 := Scalar.select v3393 c1_i32_2861 c32_i32_2859
  let v3395 : BitVec 32 := Scalar.remsi v3392 v3394
  let c0_i32_2863 : BitVec 32 := 0#32
  let v3397 : BitVec 1 := Scalar.cmpi .slt v3395 c0_i32_2863
  let c0_i32_2864 : BitVec 32 := 0#32
  let v3398 : BitVec 1 := Scalar.cmpi .slt v3394 c0_i32_2864
  let v3399 : BitVec 1 := Scalar.xori v3397 v3398
  let c0_i32_2862 : BitVec 32 := 0#32
  let v3396 : BitVec 1 := Scalar.cmpi .ne v3395 c0_i32_2862
  let v3400 : BitVec 1 := Scalar.andi v3399 v3396
  let v3401 : BitVec 32 := Scalar.addi v3395 v3394
  let v3402 : BitVec 32 := Scalar.select v3400 v3401 v3395
  let c1_i32_2868 : BitVec 32 := 1#32
  let v3404 : BitVec 32 := Scalar.muli v3402 c1_i32_2868
  let v3405 : BitVec 32 := Scalar.addi c0_i32_2869 v3404
  v3405.toNat
def k0_dev141 (d0 : Dev nD) : Nat :=
  let c0_i32_2884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2873 : BitVec 32 := 24#32
  let v3412 : BitVec 32 := Scalar.addi v2 c24_i32_2873
  let c32_i32_2874 : BitVec 32 := 32#32
  let c0_i32_2875 : BitVec 32 := 0#32
  let v3413 : BitVec 1 := Scalar.cmpi .eq c32_i32_2874 c0_i32_2875
  let c1_i32_2876 : BitVec 32 := 1#32
  let v3414 : BitVec 32 := Scalar.select v3413 c1_i32_2876 c32_i32_2874
  let v3415 : BitVec 32 := Scalar.remsi v3412 v3414
  let c0_i32_2878 : BitVec 32 := 0#32
  let v3417 : BitVec 1 := Scalar.cmpi .slt v3415 c0_i32_2878
  let c0_i32_2879 : BitVec 32 := 0#32
  let v3418 : BitVec 1 := Scalar.cmpi .slt v3414 c0_i32_2879
  let v3419 : BitVec 1 := Scalar.xori v3417 v3418
  let c0_i32_2877 : BitVec 32 := 0#32
  let v3416 : BitVec 1 := Scalar.cmpi .ne v3415 c0_i32_2877
  let v3420 : BitVec 1 := Scalar.andi v3419 v3416
  let v3421 : BitVec 32 := Scalar.addi v3415 v3414
  let v3422 : BitVec 32 := Scalar.select v3420 v3421 v3415
  let c1_i32_2883 : BitVec 32 := 1#32
  let v3424 : BitVec 32 := Scalar.muli v3422 c1_i32_2883
  let v3425 : BitVec 32 := Scalar.addi c0_i32_2884 v3424
  v3425.toNat
def k0_dev142 (d0 : Dev nD) : Nat :=
  let c0_i32_2899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2888 : BitVec 32 := 7#32
  let v3432 : BitVec 32 := Scalar.addi v2 c7_i32_2888
  let c32_i32_2889 : BitVec 32 := 32#32
  let c0_i32_2890 : BitVec 32 := 0#32
  let v3433 : BitVec 1 := Scalar.cmpi .eq c32_i32_2889 c0_i32_2890
  let c1_i32_2891 : BitVec 32 := 1#32
  let v3434 : BitVec 32 := Scalar.select v3433 c1_i32_2891 c32_i32_2889
  let v3435 : BitVec 32 := Scalar.remsi v3432 v3434
  let c0_i32_2893 : BitVec 32 := 0#32
  let v3437 : BitVec 1 := Scalar.cmpi .slt v3435 c0_i32_2893
  let c0_i32_2894 : BitVec 32 := 0#32
  let v3438 : BitVec 1 := Scalar.cmpi .slt v3434 c0_i32_2894
  let v3439 : BitVec 1 := Scalar.xori v3437 v3438
  let c0_i32_2892 : BitVec 32 := 0#32
  let v3436 : BitVec 1 := Scalar.cmpi .ne v3435 c0_i32_2892
  let v3440 : BitVec 1 := Scalar.andi v3439 v3436
  let v3441 : BitVec 32 := Scalar.addi v3435 v3434
  let v3442 : BitVec 32 := Scalar.select v3440 v3441 v3435
  let c1_i32_2898 : BitVec 32 := 1#32
  let v3444 : BitVec 32 := Scalar.muli v3442 c1_i32_2898
  let v3445 : BitVec 32 := Scalar.addi c0_i32_2899 v3444
  v3445.toNat
def k0_dev143 (d0 : Dev nD) : Nat :=
  let c0_i32_2914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2903 : BitVec 32 := 25#32
  let v3452 : BitVec 32 := Scalar.addi v2 c25_i32_2903
  let c32_i32_2904 : BitVec 32 := 32#32
  let c0_i32_2905 : BitVec 32 := 0#32
  let v3453 : BitVec 1 := Scalar.cmpi .eq c32_i32_2904 c0_i32_2905
  let c1_i32_2906 : BitVec 32 := 1#32
  let v3454 : BitVec 32 := Scalar.select v3453 c1_i32_2906 c32_i32_2904
  let v3455 : BitVec 32 := Scalar.remsi v3452 v3454
  let c0_i32_2908 : BitVec 32 := 0#32
  let v3457 : BitVec 1 := Scalar.cmpi .slt v3455 c0_i32_2908
  let c0_i32_2909 : BitVec 32 := 0#32
  let v3458 : BitVec 1 := Scalar.cmpi .slt v3454 c0_i32_2909
  let v3459 : BitVec 1 := Scalar.xori v3457 v3458
  let c0_i32_2907 : BitVec 32 := 0#32
  let v3456 : BitVec 1 := Scalar.cmpi .ne v3455 c0_i32_2907
  let v3460 : BitVec 1 := Scalar.andi v3459 v3456
  let v3461 : BitVec 32 := Scalar.addi v3455 v3454
  let v3462 : BitVec 32 := Scalar.select v3460 v3461 v3455
  let c1_i32_2913 : BitVec 32 := 1#32
  let v3464 : BitVec 32 := Scalar.muli v3462 c1_i32_2913
  let v3465 : BitVec 32 := Scalar.addi c0_i32_2914 v3464
  v3465.toNat
def k0_dev144 (d0 : Dev nD) : Nat :=
  let c0_i32_2929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2918 : BitVec 32 := 6#32
  let v3472 : BitVec 32 := Scalar.addi v2 c6_i32_2918
  let c32_i32_2919 : BitVec 32 := 32#32
  let c0_i32_2920 : BitVec 32 := 0#32
  let v3473 : BitVec 1 := Scalar.cmpi .eq c32_i32_2919 c0_i32_2920
  let c1_i32_2921 : BitVec 32 := 1#32
  let v3474 : BitVec 32 := Scalar.select v3473 c1_i32_2921 c32_i32_2919
  let v3475 : BitVec 32 := Scalar.remsi v3472 v3474
  let c0_i32_2923 : BitVec 32 := 0#32
  let v3477 : BitVec 1 := Scalar.cmpi .slt v3475 c0_i32_2923
  let c0_i32_2924 : BitVec 32 := 0#32
  let v3478 : BitVec 1 := Scalar.cmpi .slt v3474 c0_i32_2924
  let v3479 : BitVec 1 := Scalar.xori v3477 v3478
  let c0_i32_2922 : BitVec 32 := 0#32
  let v3476 : BitVec 1 := Scalar.cmpi .ne v3475 c0_i32_2922
  let v3480 : BitVec 1 := Scalar.andi v3479 v3476
  let v3481 : BitVec 32 := Scalar.addi v3475 v3474
  let v3482 : BitVec 32 := Scalar.select v3480 v3481 v3475
  let c1_i32_2928 : BitVec 32 := 1#32
  let v3484 : BitVec 32 := Scalar.muli v3482 c1_i32_2928
  let v3485 : BitVec 32 := Scalar.addi c0_i32_2929 v3484
  v3485.toNat
def k0_dev145 (d0 : Dev nD) : Nat :=
  let c0_i32_2944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2933 : BitVec 32 := 26#32
  let v3492 : BitVec 32 := Scalar.addi v2 c26_i32_2933
  let c32_i32_2934 : BitVec 32 := 32#32
  let c0_i32_2935 : BitVec 32 := 0#32
  let v3493 : BitVec 1 := Scalar.cmpi .eq c32_i32_2934 c0_i32_2935
  let c1_i32_2936 : BitVec 32 := 1#32
  let v3494 : BitVec 32 := Scalar.select v3493 c1_i32_2936 c32_i32_2934
  let v3495 : BitVec 32 := Scalar.remsi v3492 v3494
  let c0_i32_2938 : BitVec 32 := 0#32
  let v3497 : BitVec 1 := Scalar.cmpi .slt v3495 c0_i32_2938
  let c0_i32_2939 : BitVec 32 := 0#32
  let v3498 : BitVec 1 := Scalar.cmpi .slt v3494 c0_i32_2939
  let v3499 : BitVec 1 := Scalar.xori v3497 v3498
  let c0_i32_2937 : BitVec 32 := 0#32
  let v3496 : BitVec 1 := Scalar.cmpi .ne v3495 c0_i32_2937
  let v3500 : BitVec 1 := Scalar.andi v3499 v3496
  let v3501 : BitVec 32 := Scalar.addi v3495 v3494
  let v3502 : BitVec 32 := Scalar.select v3500 v3501 v3495
  let c1_i32_2943 : BitVec 32 := 1#32
  let v3504 : BitVec 32 := Scalar.muli v3502 c1_i32_2943
  let v3505 : BitVec 32 := Scalar.addi c0_i32_2944 v3504
  v3505.toNat
def k0_dev146 (d0 : Dev nD) : Nat :=
  let c0_i32_2959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2948 : BitVec 32 := 5#32
  let v3512 : BitVec 32 := Scalar.addi v2 c5_i32_2948
  let c32_i32_2949 : BitVec 32 := 32#32
  let c0_i32_2950 : BitVec 32 := 0#32
  let v3513 : BitVec 1 := Scalar.cmpi .eq c32_i32_2949 c0_i32_2950
  let c1_i32_2951 : BitVec 32 := 1#32
  let v3514 : BitVec 32 := Scalar.select v3513 c1_i32_2951 c32_i32_2949
  let v3515 : BitVec 32 := Scalar.remsi v3512 v3514
  let c0_i32_2953 : BitVec 32 := 0#32
  let v3517 : BitVec 1 := Scalar.cmpi .slt v3515 c0_i32_2953
  let c0_i32_2954 : BitVec 32 := 0#32
  let v3518 : BitVec 1 := Scalar.cmpi .slt v3514 c0_i32_2954
  let v3519 : BitVec 1 := Scalar.xori v3517 v3518
  let c0_i32_2952 : BitVec 32 := 0#32
  let v3516 : BitVec 1 := Scalar.cmpi .ne v3515 c0_i32_2952
  let v3520 : BitVec 1 := Scalar.andi v3519 v3516
  let v3521 : BitVec 32 := Scalar.addi v3515 v3514
  let v3522 : BitVec 32 := Scalar.select v3520 v3521 v3515
  let c1_i32_2958 : BitVec 32 := 1#32
  let v3524 : BitVec 32 := Scalar.muli v3522 c1_i32_2958
  let v3525 : BitVec 32 := Scalar.addi c0_i32_2959 v3524
  v3525.toNat
def k0_dev147 (d0 : Dev nD) : Nat :=
  let c0_i32_2974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2963 : BitVec 32 := 27#32
  let v3532 : BitVec 32 := Scalar.addi v2 c27_i32_2963
  let c32_i32_2964 : BitVec 32 := 32#32
  let c0_i32_2965 : BitVec 32 := 0#32
  let v3533 : BitVec 1 := Scalar.cmpi .eq c32_i32_2964 c0_i32_2965
  let c1_i32_2966 : BitVec 32 := 1#32
  let v3534 : BitVec 32 := Scalar.select v3533 c1_i32_2966 c32_i32_2964
  let v3535 : BitVec 32 := Scalar.remsi v3532 v3534
  let c0_i32_2968 : BitVec 32 := 0#32
  let v3537 : BitVec 1 := Scalar.cmpi .slt v3535 c0_i32_2968
  let c0_i32_2969 : BitVec 32 := 0#32
  let v3538 : BitVec 1 := Scalar.cmpi .slt v3534 c0_i32_2969
  let v3539 : BitVec 1 := Scalar.xori v3537 v3538
  let c0_i32_2967 : BitVec 32 := 0#32
  let v3536 : BitVec 1 := Scalar.cmpi .ne v3535 c0_i32_2967
  let v3540 : BitVec 1 := Scalar.andi v3539 v3536
  let v3541 : BitVec 32 := Scalar.addi v3535 v3534
  let v3542 : BitVec 32 := Scalar.select v3540 v3541 v3535
  let c1_i32_2973 : BitVec 32 := 1#32
  let v3544 : BitVec 32 := Scalar.muli v3542 c1_i32_2973
  let v3545 : BitVec 32 := Scalar.addi c0_i32_2974 v3544
  v3545.toNat
def k0_dev148 (d0 : Dev nD) : Nat :=
  let c0_i32_2989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2978 : BitVec 32 := 4#32
  let v3552 : BitVec 32 := Scalar.addi v2 c4_i32_2978
  let c32_i32_2979 : BitVec 32 := 32#32
  let c0_i32_2980 : BitVec 32 := 0#32
  let v3553 : BitVec 1 := Scalar.cmpi .eq c32_i32_2979 c0_i32_2980
  let c1_i32_2981 : BitVec 32 := 1#32
  let v3554 : BitVec 32 := Scalar.select v3553 c1_i32_2981 c32_i32_2979
  let v3555 : BitVec 32 := Scalar.remsi v3552 v3554
  let c0_i32_2983 : BitVec 32 := 0#32
  let v3557 : BitVec 1 := Scalar.cmpi .slt v3555 c0_i32_2983
  let c0_i32_2984 : BitVec 32 := 0#32
  let v3558 : BitVec 1 := Scalar.cmpi .slt v3554 c0_i32_2984
  let v3559 : BitVec 1 := Scalar.xori v3557 v3558
  let c0_i32_2982 : BitVec 32 := 0#32
  let v3556 : BitVec 1 := Scalar.cmpi .ne v3555 c0_i32_2982
  let v3560 : BitVec 1 := Scalar.andi v3559 v3556
  let v3561 : BitVec 32 := Scalar.addi v3555 v3554
  let v3562 : BitVec 32 := Scalar.select v3560 v3561 v3555
  let c1_i32_2988 : BitVec 32 := 1#32
  let v3564 : BitVec 32 := Scalar.muli v3562 c1_i32_2988
  let v3565 : BitVec 32 := Scalar.addi c0_i32_2989 v3564
  v3565.toNat
def k0_dev149 (d0 : Dev nD) : Nat :=
  let c0_i32_3004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2993 : BitVec 32 := 28#32
  let v3572 : BitVec 32 := Scalar.addi v2 c28_i32_2993
  let c32_i32_2994 : BitVec 32 := 32#32
  let c0_i32_2995 : BitVec 32 := 0#32
  let v3573 : BitVec 1 := Scalar.cmpi .eq c32_i32_2994 c0_i32_2995
  let c1_i32_2996 : BitVec 32 := 1#32
  let v3574 : BitVec 32 := Scalar.select v3573 c1_i32_2996 c32_i32_2994
  let v3575 : BitVec 32 := Scalar.remsi v3572 v3574
  let c0_i32_2998 : BitVec 32 := 0#32
  let v3577 : BitVec 1 := Scalar.cmpi .slt v3575 c0_i32_2998
  let c0_i32_2999 : BitVec 32 := 0#32
  let v3578 : BitVec 1 := Scalar.cmpi .slt v3574 c0_i32_2999
  let v3579 : BitVec 1 := Scalar.xori v3577 v3578
  let c0_i32_2997 : BitVec 32 := 0#32
  let v3576 : BitVec 1 := Scalar.cmpi .ne v3575 c0_i32_2997
  let v3580 : BitVec 1 := Scalar.andi v3579 v3576
  let v3581 : BitVec 32 := Scalar.addi v3575 v3574
  let v3582 : BitVec 32 := Scalar.select v3580 v3581 v3575
  let c1_i32_3003 : BitVec 32 := 1#32
  let v3584 : BitVec 32 := Scalar.muli v3582 c1_i32_3003
  let v3585 : BitVec 32 := Scalar.addi c0_i32_3004 v3584
  v3585.toNat
def k0_dev150 (d0 : Dev nD) : Nat :=
  let c0_i32_3019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3008 : BitVec 32 := 3#32
  let v3592 : BitVec 32 := Scalar.addi v2 c3_i32_3008
  let c32_i32_3009 : BitVec 32 := 32#32
  let c0_i32_3010 : BitVec 32 := 0#32
  let v3593 : BitVec 1 := Scalar.cmpi .eq c32_i32_3009 c0_i32_3010
  let c1_i32_3011 : BitVec 32 := 1#32
  let v3594 : BitVec 32 := Scalar.select v3593 c1_i32_3011 c32_i32_3009
  let v3595 : BitVec 32 := Scalar.remsi v3592 v3594
  let c0_i32_3013 : BitVec 32 := 0#32
  let v3597 : BitVec 1 := Scalar.cmpi .slt v3595 c0_i32_3013
  let c0_i32_3014 : BitVec 32 := 0#32
  let v3598 : BitVec 1 := Scalar.cmpi .slt v3594 c0_i32_3014
  let v3599 : BitVec 1 := Scalar.xori v3597 v3598
  let c0_i32_3012 : BitVec 32 := 0#32
  let v3596 : BitVec 1 := Scalar.cmpi .ne v3595 c0_i32_3012
  let v3600 : BitVec 1 := Scalar.andi v3599 v3596
  let v3601 : BitVec 32 := Scalar.addi v3595 v3594
  let v3602 : BitVec 32 := Scalar.select v3600 v3601 v3595
  let c1_i32_3018 : BitVec 32 := 1#32
  let v3604 : BitVec 32 := Scalar.muli v3602 c1_i32_3018
  let v3605 : BitVec 32 := Scalar.addi c0_i32_3019 v3604
  v3605.toNat
def k0_dev151 (d0 : Dev nD) : Nat :=
  let c0_i32_3034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3023 : BitVec 32 := 29#32
  let v3612 : BitVec 32 := Scalar.addi v2 c29_i32_3023
  let c32_i32_3024 : BitVec 32 := 32#32
  let c0_i32_3025 : BitVec 32 := 0#32
  let v3613 : BitVec 1 := Scalar.cmpi .eq c32_i32_3024 c0_i32_3025
  let c1_i32_3026 : BitVec 32 := 1#32
  let v3614 : BitVec 32 := Scalar.select v3613 c1_i32_3026 c32_i32_3024
  let v3615 : BitVec 32 := Scalar.remsi v3612 v3614
  let c0_i32_3028 : BitVec 32 := 0#32
  let v3617 : BitVec 1 := Scalar.cmpi .slt v3615 c0_i32_3028
  let c0_i32_3029 : BitVec 32 := 0#32
  let v3618 : BitVec 1 := Scalar.cmpi .slt v3614 c0_i32_3029
  let v3619 : BitVec 1 := Scalar.xori v3617 v3618
  let c0_i32_3027 : BitVec 32 := 0#32
  let v3616 : BitVec 1 := Scalar.cmpi .ne v3615 c0_i32_3027
  let v3620 : BitVec 1 := Scalar.andi v3619 v3616
  let v3621 : BitVec 32 := Scalar.addi v3615 v3614
  let v3622 : BitVec 32 := Scalar.select v3620 v3621 v3615
  let c1_i32_3033 : BitVec 32 := 1#32
  let v3624 : BitVec 32 := Scalar.muli v3622 c1_i32_3033
  let v3625 : BitVec 32 := Scalar.addi c0_i32_3034 v3624
  v3625.toNat
def k0_dev152 (d0 : Dev nD) : Nat :=
  let c0_i32_3049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3038 : BitVec 32 := 2#32
  let v3632 : BitVec 32 := Scalar.addi v2 c2_i32_3038
  let c32_i32_3039 : BitVec 32 := 32#32
  let c0_i32_3040 : BitVec 32 := 0#32
  let v3633 : BitVec 1 := Scalar.cmpi .eq c32_i32_3039 c0_i32_3040
  let c1_i32_3041 : BitVec 32 := 1#32
  let v3634 : BitVec 32 := Scalar.select v3633 c1_i32_3041 c32_i32_3039
  let v3635 : BitVec 32 := Scalar.remsi v3632 v3634
  let c0_i32_3043 : BitVec 32 := 0#32
  let v3637 : BitVec 1 := Scalar.cmpi .slt v3635 c0_i32_3043
  let c0_i32_3044 : BitVec 32 := 0#32
  let v3638 : BitVec 1 := Scalar.cmpi .slt v3634 c0_i32_3044
  let v3639 : BitVec 1 := Scalar.xori v3637 v3638
  let c0_i32_3042 : BitVec 32 := 0#32
  let v3636 : BitVec 1 := Scalar.cmpi .ne v3635 c0_i32_3042
  let v3640 : BitVec 1 := Scalar.andi v3639 v3636
  let v3641 : BitVec 32 := Scalar.addi v3635 v3634
  let v3642 : BitVec 32 := Scalar.select v3640 v3641 v3635
  let c1_i32_3048 : BitVec 32 := 1#32
  let v3644 : BitVec 32 := Scalar.muli v3642 c1_i32_3048
  let v3645 : BitVec 32 := Scalar.addi c0_i32_3049 v3644
  v3645.toNat
def k0_dev153 (d0 : Dev nD) : Nat :=
  let c0_i32_3064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3053 : BitVec 32 := 30#32
  let v3652 : BitVec 32 := Scalar.addi v2 c30_i32_3053
  let c32_i32_3054 : BitVec 32 := 32#32
  let c0_i32_3055 : BitVec 32 := 0#32
  let v3653 : BitVec 1 := Scalar.cmpi .eq c32_i32_3054 c0_i32_3055
  let c1_i32_3056 : BitVec 32 := 1#32
  let v3654 : BitVec 32 := Scalar.select v3653 c1_i32_3056 c32_i32_3054
  let v3655 : BitVec 32 := Scalar.remsi v3652 v3654
  let c0_i32_3058 : BitVec 32 := 0#32
  let v3657 : BitVec 1 := Scalar.cmpi .slt v3655 c0_i32_3058
  let c0_i32_3059 : BitVec 32 := 0#32
  let v3658 : BitVec 1 := Scalar.cmpi .slt v3654 c0_i32_3059
  let v3659 : BitVec 1 := Scalar.xori v3657 v3658
  let c0_i32_3057 : BitVec 32 := 0#32
  let v3656 : BitVec 1 := Scalar.cmpi .ne v3655 c0_i32_3057
  let v3660 : BitVec 1 := Scalar.andi v3659 v3656
  let v3661 : BitVec 32 := Scalar.addi v3655 v3654
  let v3662 : BitVec 32 := Scalar.select v3660 v3661 v3655
  let c1_i32_3063 : BitVec 32 := 1#32
  let v3664 : BitVec 32 := Scalar.muli v3662 c1_i32_3063
  let v3665 : BitVec 32 := Scalar.addi c0_i32_3064 v3664
  v3665.toNat
def k0_dev154 (d0 : Dev nD) : Nat :=
  let c0_i32_3079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3068 : BitVec 32 := 1#32
  let v3672 : BitVec 32 := Scalar.addi v2 c1_i32_3068
  let c32_i32_3069 : BitVec 32 := 32#32
  let c0_i32_3070 : BitVec 32 := 0#32
  let v3673 : BitVec 1 := Scalar.cmpi .eq c32_i32_3069 c0_i32_3070
  let c1_i32_3071 : BitVec 32 := 1#32
  let v3674 : BitVec 32 := Scalar.select v3673 c1_i32_3071 c32_i32_3069
  let v3675 : BitVec 32 := Scalar.remsi v3672 v3674
  let c0_i32_3073 : BitVec 32 := 0#32
  let v3677 : BitVec 1 := Scalar.cmpi .slt v3675 c0_i32_3073
  let c0_i32_3074 : BitVec 32 := 0#32
  let v3678 : BitVec 1 := Scalar.cmpi .slt v3674 c0_i32_3074
  let v3679 : BitVec 1 := Scalar.xori v3677 v3678
  let c0_i32_3072 : BitVec 32 := 0#32
  let v3676 : BitVec 1 := Scalar.cmpi .ne v3675 c0_i32_3072
  let v3680 : BitVec 1 := Scalar.andi v3679 v3676
  let v3681 : BitVec 32 := Scalar.addi v3675 v3674
  let v3682 : BitVec 32 := Scalar.select v3680 v3681 v3675
  let c1_i32_3078 : BitVec 32 := 1#32
  let v3684 : BitVec 32 := Scalar.muli v3682 c1_i32_3078
  let v3685 : BitVec 32 := Scalar.addi c0_i32_3079 v3684
  v3685.toNat
def k0_dev155 (d0 : Dev nD) : Nat :=
  let c0_i32_3094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3083 : BitVec 32 := 31#32
  let v3692 : BitVec 32 := Scalar.addi v2 c31_i32_3083
  let c32_i32_3084 : BitVec 32 := 32#32
  let c0_i32_3085 : BitVec 32 := 0#32
  let v3693 : BitVec 1 := Scalar.cmpi .eq c32_i32_3084 c0_i32_3085
  let c1_i32_3086 : BitVec 32 := 1#32
  let v3694 : BitVec 32 := Scalar.select v3693 c1_i32_3086 c32_i32_3084
  let v3695 : BitVec 32 := Scalar.remsi v3692 v3694
  let c0_i32_3088 : BitVec 32 := 0#32
  let v3697 : BitVec 1 := Scalar.cmpi .slt v3695 c0_i32_3088
  let c0_i32_3089 : BitVec 32 := 0#32
  let v3698 : BitVec 1 := Scalar.cmpi .slt v3694 c0_i32_3089
  let v3699 : BitVec 1 := Scalar.xori v3697 v3698
  let c0_i32_3087 : BitVec 32 := 0#32
  let v3696 : BitVec 1 := Scalar.cmpi .ne v3695 c0_i32_3087
  let v3700 : BitVec 1 := Scalar.andi v3699 v3696
  let v3701 : BitVec 32 := Scalar.addi v3695 v3694
  let v3702 : BitVec 32 := Scalar.select v3700 v3701 v3695
  let c1_i32_3093 : BitVec 32 := 1#32
  let v3704 : BitVec 32 := Scalar.muli v3702 c1_i32_3093
  let v3705 : BitVec 32 := Scalar.addi c0_i32_3094 v3704
  v3705.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S8192x512, .bf16⟩
  | .hbm, ⟨2, _⟩ => ⟨S512x8192, .f32⟩
  | .hbm, ⟨3, _⟩ => ⟨S8192x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .bf16⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Text.lean ====
/-
  The kernel's body written as loops over the 31 peers.

  The printed body is one straight line of some five hundred memory operations.  They are the same few operations
  repeated for each peer, so the body is stated here with lists of peers, and shown equal to the printed one.
  A peer is named by `r : Fin 31`: the device `r + 1` places after this one on the mesh.
-/
module

public import proofs.«01_k».proof.Proof.Gen.KernelIdeal.Skeleton
public import Idealize.ShloMosaic.Lib.Pipeline.Regions

@[expose] public section

noncomputable section

namespace Cert.KernelIdeal.Gelu

open Idealize.ShloMosaic Idealize.SL.Sem
open Cert.KernelIdeal.Gen

variable {F : FTy → Type} [FloatOps F]

/-- The programs a device's main thread runs in this kernel. -/
abbrev Body (F : FTy → Type) (α : Type) := Prog (TpuEff nD τ sig (Elt F) Λ₀ .tc) α

/-- One program per member of a list, in the list's order. -/
def each {α : Type} (l : List α) (f : α → Body F PUnit) : Body F PUnit :=
  match l with
  | [] => pure ⟨⟩
  | a :: l => f a >>= fun _ => each l f

/-- The peers in increasing distance along the mesh. -/
def near : List (Fin 31) := [0, 1, 2, 3, 4, 5, 6, 7, 8, 9, 10, 11, 12, 13, 14, 15, 16, 17, 18, 19, 20, 21, 22, 23, 24, 25, 26, 27, 28, 29, 30]
/-- The peers, those half way round the ring first. -/
def far : List (Fin 31) := [15, 14, 16, 13, 17, 12, 18, 11, 19, 10, 20, 9, 21, 8, 22, 7, 23, 6, 24, 5, 25, 4, 26, 3, 27, 2, 28, 1, 29, 0, 30]
/-- The two halves of the columns. -/
def halves : List (Fin 2) := [0, 1]

/-- The distance to peer `r`, as the word the program adds. -/
abbrev dist (r : Fin 31) : BitVec 32 := BitVec.ofNat 32 (1 + r.val)

/-- The peer at distance `w`, as the program computes it: `(c + w) mod 32` with the sign of the divisor. -/
def hop (d0 : Dev nD) (w : BitVec 32) : Nat :=
  let v2 : BitVec 32 := Scalar.remsi (Scalar.divsi (Dev.word d0) 1#32) 32#32
  let v6 : BitVec 32 := Scalar.select (Scalar.cmpi .eq 32#32 0#32) 1#32 32#32
  let v7 : BitVec 32 := Scalar.remsi (Scalar.addi v2 w) v6
  let v12 : BitVec 1 := Scalar.andi (Scalar.xori (Scalar.cmpi .slt v7 0#32) (Scalar.cmpi .slt v6 0#32)) (Scalar.cmpi .ne v7 0#32)
  (Scalar.addi 0#32 (Scalar.muli (Scalar.select v12 (Scalar.addi v7 v6) v7) 1#32)).toNat

theorem hop_eq : ∀ (c : Dev nD) (r : Fin 31), hop c (dist r) = (c.val + (1 + r.val)) % 32 := by decide +kernel
theorem hop_lt (c : Dev nD) (r : Fin 31) : hop c (dist r) < nD := by rw [hop_eq]; exact Nat.mod_lt _ (by decide)

/-- Where the block for peer `r` starts in the product, in column half `h`. -/
def zAt (h : Fin 2) (c : Dev nD) (w : BitVec 32) : Fin 2 → Nat := ![k0_off1 c w 0, 256 * h.val]
/-- Where a device's own rows start, in column half `h`. -/
def oAt (h : Fin 2) (c : Dev nD) : Fin 2 → Nat := ![k0_off2 c 0, 256 * h.val]
/-- Where slot `s` of the receive buffer starts, in column half `h`. -/
def slotAt (h : Fin 2) (s : Nat) : Fin 4 → Nat := ![h.val, s, 0, 0]
/-- Where column half `h` of the reduced rows starts. -/
def rAt (h : Fin 2) : Fin 2 → Nat := ![0, 256 * h.val]

theorem zAt_row : ∀ (c : Dev nD) (r : Fin 31), k0_off1 c (dist r) 0 = 16 * ((c.val + (1 + r.val)) % 32) := by decide +kernel
theorem oAt_row : ∀ (c : Dev nD), k0_off2 c 0 = 16 * c.val := by decide +kernel
theorem zAt_inb (h : Fin 2) (c : Dev nD) (r : Fin 31) : ∀ a, zAt h c (dist r) a + S16x256.size a ≤ S512x512.size a := by
  have := Nat.mod_lt (c.val + (1 + r.val)) (show 32 > 0 by decide)
  unfold zAt; rw [zAt_row]; revert h; simp only [Fin.forall_fin_two, Matrix.cons_val_zero, Matrix.cons_val_one]
  refine ⟨⟨?_, ?_⟩, ⟨?_, ?_⟩⟩ <;> simp [S16x256, S512x512] <;> omega
theorem oAt_inb (h : Fin 2) (c : Dev nD) : ∀ a, oAt h c a + S16x256.size a ≤ S512x512.size a := by
  have := c.isLt
  unfold oAt; rw [oAt_row]; revert h; simp only [Fin.forall_fin_two, Matrix.cons_val_zero, Matrix.cons_val_one]
  refine ⟨⟨?_, ?_⟩, ⟨?_, ?_⟩⟩ <;> simp [S16x256, S512x512, nD] at * <;> omega
theorem slotAt_inb : ∀ (h : Fin 2) (s : Fin 32), ∀ a, slotAt h s.val a + S1x1x16x256.size a ≤ S2x32x16x256.size a := by decide
theorem rAt_inb : ∀ (h : Fin 2), ∀ a, rAt h a + S16x256.size a ≤ S16x512.size a := by decide

theorem zAt_words : ∀ (h : Fin 2) (c : Dev nD) (r : Fin 31), (Rect.unit (s := S512x512) (zAt h c (dist r)) S16x256.size (zAt_inb h c r)).WholeWords (EltTy.packing .bf16) := by
  intro h c r; revert h; rw [Fin.forall_fin_two]; exact ⟨k0_off1_wordsbf16 c r, k0_off3_wordsbf16 c r⟩
theorem oAt_words : ∀ (h : Fin 2) (c : Dev nD), (Rect.unit (s := S512x512) (oAt h c) S16x256.size (oAt_inb h c)).WholeWords (EltTy.packing .bf16) := by
  intro h c; revert h; rw [Fin.forall_fin_two]; exact ⟨k0_off2_wordsbf16 c, k0_off4_wordsbf16 c⟩
theorem slotAt_words : ∀ (h : Fin 2) (s : Fin 32), (Rect.unit (s := S2x32x16x256) (slotAt h s.val) S1x1x16x256.size (slotAt_inb h s)).WholeWords (EltTy.packing .bf16) := by decide
theorem rAt_words : ∀ (h : Fin 2), (Rect.unit (s := S16x512) (rAt h) S16x256.size (rAt_inb h)).WholeWords (EltTy.packing .bf16) := by decide
theorem rAt_packed : ∀ (h : Fin 2), (Rect.unit (s := S16x512) (rAt h) S16x256.size (rAt_inb h)).PackedRows (EltTy.packing .bf16) := by decide

/-- The barrier semaphore. -/
abbrev barSem : Sem sig := (SemArray.scalar (sig.barrier 0 rfl) : Sems sig S_).sem

section Views

/-- The block of the product that goes to peer `r`. -/
abbrev zTo (arg3 : Memref sig .tc .vmem S512x512 .bf16) (h : Fin 2) (c : Dev nD) (r : Fin 31) : Memref sig .tc .vmem S16x256 .bf16 :=
  arg3.slice (Rect.unit (s := S512x512) (zAt h c (dist r)) S16x256.size (zAt_inb h c r)) (fun _ => rfl)
/-- A device's own rows of a 512 x 512 buffer, in column half `h`. -/
abbrev rows (arg : Memref sig .tc .vmem S512x512 .bf16) (h : Fin 2) (c : Dev nD) : Memref sig .tc .vmem S16x256 .bf16 :=
  arg.slice (Rect.unit (s := S512x512) (oAt h c) S16x256.size (oAt_inb h c)) (fun _ => rfl)
/-- Slot `s` of the receive buffer. -/
abbrev slot (arg5 : Memref sig .tc .vmem S2x32x16x256 .bf16) (h : Fin 2) (s : Fin 32) : Memref sig .tc .vmem S16x256 .bf16 :=
  (arg5.slice (Rect.unit (s := S2x32x16x256) (slotAt h s.val) S1x1x16x256.size (slotAt_inb h s)) (fun _ => rfl)).squeeze S16x256 squeezes_S1x1x16x256_S16x256
/-- Column half `h` of the reduced rows. -/
abbrev half (arg4 : Memref sig .tc .vmem S16x512 .bf16) (h : Fin 2) : Memref sig .tc .vmem S16x256 .bf16 :=
  arg4.slice (Rect.unit (s := S16x512) (rAt h) S16x256.size (rAt_inb h)) (fun _ => rfl)
theorem two_inb : ∀ (h : Fin 2), ∀ a, (![h.val] : Fin 1 → Nat) a + S1.size a ≤ S2.size a := by decide
theorem four_inb : ∀ (k : Fin 4), ∀ a, (![k.val] : Fin 1 → Nat) a + S1.size a ≤ S4.size a := by decide
/-- One semaphore of a pair. -/
abbrev sem2 (arg : DmaSems sig S2) (h : Fin 2) : DmaSem sig :=
  ((arg.slice (Rect.unit (s := S2) ![h.val] S1.size (two_inb h))).squeeze S_ squeezes_S1_S_).sem
/-- One semaphore of the four. -/
abbrev sem4 (arg : DmaSems sig S4) (k : Fin 4) : DmaSem sig :=
  ((arg.slice (Rect.unit (s := S4) ![k.val] S1.size (four_inb k))).squeeze S_ squeezes_S1_S_).sem

end Views

/-- The slot a block sent to peer `r` lands in: the sender's distance from that peer. -/
def lands (r : Fin 31) : Fin 32 := ⟨31 - r.val, by omega⟩

/-- The reduced rows passed through gelu, in the order the program computes it. -/
def gelu (x : FVec F S16x256 .f32) : FVec F S16x256 .bf16 :=
  shapeCast S16x256 (truncf .bf16
    (mulf (mulf (broadcast S16x256 (Scalar.ofBits .f32 0x3F000000#32 : F .f32)) x)
      (addf (broadcast S16x256 (Scalar.ofBits .f32 0x3F800000#32 : F .f32))
        (tanh (mulf (broadcast S16x256 (Scalar.ofBits .f32 0x3F4C422A#32 : F .f32))
          (addf x (mulf (mulf (mulf (broadcast S16x256 (Scalar.ofBits .f32 0x3D372713#32 : F .f32)) x) x) x))))))
    bitsLt_bf16_f32) shapeCasts_S16x256_S16x256

/-- A loaded slot widened to f32. -/
def wide (v : Vec F S1x1x16x256 .bf16) : FVec F S16x256 .f32 :=
  extf .f32 (shapeCast S16x256 v shapeCasts_S1x1x16x256_S16x256 : FVec F S16x256 .bf16) bitsLt_bf16_f32

/-- Slots 1 to 31, in the order they are summed. -/
def slots : List (Fin 32) := [1, 2, 3, 4, 5, 6, 7, 8, 9, 10, 11, 12, 13, 14, 15, 16, 17, 18, 19, 20, 21, 22, 23, 24, 25, 26, 27, 28, 29, 30, 31]

section Stages

variable (arg0 : Memref sig .tc .vmem S512x256 .bf16) (harg0 : arg0.IsWhole) (arg1 : Memref sig .tc .vmem S256x512 .bf16) (harg1 : arg1.IsWhole)
  (arg2 : Memref sig .tc .vmem S512x512 .bf16) (harg2 : arg2.IsWhole) (arg3 : Memref sig .tc .vmem S512x512 .bf16) (harg3 : arg3.IsWhole)
  (arg4 : Memref sig .tc .vmem S16x512 .bf16) (harg4 : arg4.IsWhole) (arg5 : Memref sig .tc .vmem S2x32x16x256 .bf16) (harg5 : arg5.IsWhole)
  (arg6 arg7 arg8 arg9 : DmaSems sig S2) (arg10 : DmaSems sig S4)

/-- Load one slot of the receive buffer. -/
def loadSlot (h : Fin 2) (s : Fin 32) : Body F (Vec F S1x1x16x256 .bf16) :=
  Prog.lift (.load arg5 (Rect.unit (s := S2x32x16x256) (slotAt h s.val) S1x1x16x256.size (slotAt_inb h s)).toLoadRect (View.loadsAt_vmem h_S1x1x16x256))

/-- Add the slots of a list to an accumulator, then go on. -/
def addSlots (h : Fin 2) (l : List (Fin 32)) (acc : FVec F S16x256 .f32) (k : FVec F S16x256 .f32 → Body F PUnit) : Body F PUnit :=
  match l with
  | [] => k acc
  | s :: l => loadSlot arg5 h s >>= fun v => addSlots h l (addf acc (wide v)) k

/-- Tell every peer this device has entered. -/
def signals (c : Dev nD) : Body F PUnit :=
  each near fun r => semSignalWord (⟨hop c (dist r), hop_lt c r⟩ : Dev nD) barSem 1#32

/-- The product of this device's blocks, stored whole. -/
def product : Body F PUnit := do
  let a ← Prog.lift (.load arg0 (Rect.unit (s := S512x256) ![0, 0] S512x256.size inb_S512x256_S512x256_0_0).toLoadRect (View.loadsAt_vmem h_S512x256))
  let b ← Prog.lift (.load arg1 (Rect.unit (s := S256x512) ![0, 0] S256x512.size inb_S256x512_S256x512_0_0).toLoadRect (View.loadsAt_vmem h_S256x512))
  let _ ← Prog.lift (.load arg3 (Rect.unit (s := S512x512) ![0, 0] S512x512.size inb_S512x512_S512x512_0_0).toLoadRect (View.loadsAt_vmem h_S512x512))
  Prog.lift (.store arg3 (Rect.unit (s := S512x512) ![0, 0] S512x512.size inb_S512x512_S512x512_0_0) (k0_pay1 a b) Finset.univ (View.stores_vmem h_S512x512 (harg3.storeExact_slice rfl _ packedbf16_S512x512_S512x512_0_0) (fun _ => rfl)) (.inl rfl))

/-- Send peer `r` its block of the product. -/
def send1 (h : Fin 2) (c : Dev nD) (r : Fin 31) : Body F PUnit :=
  Prog.lift (.enqueueDma (zTo arg3 h c r) (.remote (Dev.tc (⟨hop c (dist r), hop_lt c r⟩ : Dev nD)) (slot arg5 h (lands r)) (.dma (sem2 arg6 h))) (.dma (sem2 arg7 h))
    (harg3.wordExact_slice rfl _ (zAt_words h c r)) ((harg5.wordExact_slice rfl _ (slotAt_words h (lands r))).reshape _ _) ⟨⟨rfl, Or.inl rfl⟩, trivial⟩)
/-- Copy this device's own block into slot 0. -/
def keep1 (h : Fin 2) (c : Dev nD) : Body F PUnit :=
  Prog.lift (.enqueueDma (rows arg3 h c) (.here (slot arg5 h 0)) (.dma (sem4 arg10 ⟨h.val, by omega⟩))
    (harg3.wordExact_slice rfl _ (oAt_words h c)) ((harg5.wordExact_slice rfl _ (slotAt_words h 0)).reshape _ _) ⟨Or.inl rfl, trivial⟩)
/-- Wait for the copy into slot 0. -/
def waitKeep1 (h : Fin 2) (c : Dev nD) : Body F PUnit :=
  Prog.lift (.waitDma2 (sem4 arg10 ⟨h.val, by omega⟩) (rows arg3 h c) (slot arg5 h 0)
    (harg3.wordExact_slice rfl _ (oAt_words h c)) ((harg5.wordExact_slice rfl _ (slotAt_words h 0)).reshape _ _))
/-- Wait for one block from a peer. -/
def waitRecv1 (h : Fin 2) (c : Dev nD) (r : Fin 31) : Body F PUnit :=
  Prog.lift (.waitDma2 (sem2 arg7 h) (zTo arg3 h c r) (slot arg5 h (lands r))
    (harg3.wordExact_slice rfl _ (zAt_words h c r)) ((harg5.wordExact_slice rfl _ (slotAt_words h (lands r))).reshape _ _))
/-- Wait for one block to have left. -/
def waitSend1 (h : Fin 2) (c : Dev nD) (r : Fin 31) : Body F PUnit :=
  Prog.lift (.waitDma2 (sem2 arg6 h) (slot arg5 h (lands r)) (zTo arg3 h c r)
    ((harg5.wordExact_slice rfl _ (slotAt_words h (lands r))).reshape _ _) (harg3.wordExact_slice rfl _ (zAt_words h c r)))

/-- Store a half of the reduced rows (read once before, as printed). -/
def storeHalf (h : Fin 2) (x : FVec F S16x256 .f32) : Body F PUnit := do
  let _ ← Prog.lift (.load arg4 (Rect.unit (s := S16x512) (rAt h) S16x256.size (rAt_inb h)).toLoadRect (View.loadsAt_vmem h_S16x256))
  Prog.lift (.store arg4 (Rect.unit (s := S16x512) (rAt h) S16x256.size (rAt_inb h)) (gelu x) Finset.univ (View.stores_vmem h_S16x256 (harg4.storeExact_slice rfl _ (rAt_packed h)) (fun _ => rfl)) (.inl rfl))

/-- Copy this device's reduced rows into its own result. -/
def keep2 (h : Fin 2) (c : Dev nD) : Body F PUnit :=
  Prog.lift (.enqueueDma (half arg4 h) (.here (rows arg2 h c)) (.dma (sem4 arg10 ⟨2 + h.val, by omega⟩))
    (harg4.wordExact_slice rfl _ (rAt_words h)) (harg2.wordExact_slice rfl _ (oAt_words h c)) ⟨Or.inl rfl, trivial⟩)
/-- Send this device's reduced rows into peer `r`'s result. -/
def send2 (h : Fin 2) (c : Dev nD) (r : Fin 31) : Body F PUnit :=
  Prog.lift (.enqueueDma (half arg4 h) (.remote (Dev.tc (⟨hop c (dist r), hop_lt c r⟩ : Dev nD)) (rows arg2 h c) (.dma (sem2 arg8 h))) (.dma (sem2 arg9 h))
    (harg4.wordExact_slice rfl _ (rAt_words h)) (harg2.wordExact_slice rfl _ (oAt_words h c)) ⟨⟨rfl, Or.inl rfl⟩, trivial⟩)
/-- Wait for the copy of this device's own rows. -/
def waitKeep2 (h : Fin 2) (c : Dev nD) : Body F PUnit :=
  Prog.lift (.waitDma2 (sem4 arg10 ⟨2 + h.val, by omega⟩) (half arg4 h) (rows arg2 h c)
    (harg4.wordExact_slice rfl _ (rAt_words h)) (harg2.wordExact_slice rfl _ (oAt_words h c)))
/-- Wait for one peer's rows. -/
def waitRecv2 (h : Fin 2) (c : Dev nD) : Body F PUnit :=
  Prog.lift (.waitDma2 (sem2 arg9 h) (half arg4 h) (rows arg2 h c)
    (harg4.wordExact_slice rfl _ (rAt_words h)) (harg2.wordExact_slice rfl _ (oAt_words h c)))
/-- Wait for this device's rows to have left once. -/
def waitSend2 (h : Fin 2) (c : Dev nD) : Body F PUnit :=
  Prog.lift (.waitDma2 (sem2 arg8 h) (rows arg2 h c) (half arg4 h)
    (harg2.wordExact_slice rfl _ (oAt_words h c)) (harg4.wordExact_slice rfl _ (rAt_words h)))

/-- Scatter the product's blocks to their owners, one column half. -/
def scatter (h : Fin 2) (c : Dev nD) : Body F PUnit := do
  each far fun r => send1 arg3 harg3 arg5 harg5 arg6 arg7 h c r
  keep1 arg3 harg3 arg5 harg5 arg10 h c
/-- Gather this device's blocks of one column half, sum them, apply gelu, and send the result to every device. -/
def reduce (h : Fin 2) (c : Dev nD) : Body F PUnit := do
  waitKeep1 arg3 harg3 arg5 harg5 arg10 h c
  each far fun r => waitRecv1 arg3 harg3 arg5 harg5 arg7 h c r
  let v ← loadSlot arg5 h 0
  addSlots arg5 h slots (wide v) fun x => do
    storeHalf arg4 harg4 h x
    keep2 arg2 harg2 arg4 harg4 arg10 h c
    each far fun r => send2 arg2 harg2 arg4 harg4 arg8 arg9 h c r
/-- Collect every device's rows of one column half. -/
def collect (h : Fin 2) (c : Dev nD) : Body F PUnit := do
  waitKeep2 arg2 harg2 arg4 harg4 arg10 h c
  each far fun _ => waitRecv2 arg2 harg2 arg4 harg4 arg9 h c
/-- Wait until everything sent has left, one column half. -/
def drain (h : Fin 2) (c : Dev nD) : Body F PUnit := do
  each far fun r => waitSend1 arg3 harg3 arg5 harg5 arg6 h c r
  each far fun _ => waitSend2 arg2 harg2 arg4 harg4 arg8 h c

/-- The body after the device's own index is known. -/
def bodyAt (c : Dev nD) : Body F PUnit := do
  signals c
  product arg0 arg1 arg3 harg3
  semWaitWord barSem 31#32
  each halves fun h => scatter arg3 harg3 arg5 harg5 arg6 arg7 arg10 h c
  each halves fun h => reduce arg2 harg2 arg3 harg3 arg4 harg4 arg5 harg5 arg7 arg8 arg9 arg10 h c
  each halves fun h => collect arg2 harg2 arg4 harg4 arg9 arg10 h c
  each halves fun h => drain arg2 harg2 arg3 harg3 arg4 harg4 arg5 harg5 arg6 arg8 h c

set_option maxRecDepth 100000 in
/-- The printed body is this one. -/
theorem body_eq :
    cc0_body (F := F) arg0 harg0 arg1 harg1 arg2 harg2 arg3 harg3 arg4 harg4 arg5 harg5 arg6 arg7 arg8 arg9 arg10
      = (Prog.lift .deviceId >>= fun c => bodyAt arg0 arg1 arg2 harg2 arg3 harg3 arg4 harg4 arg5 harg5 arg6 arg7 arg8 arg9 arg10 c) := by
  chain_rfl

end Stages

end Cert.KernelIdeal.Gelu
-- ==== Proof.Schedule.lean ====
/-
  The protocol of the kernel: who tells whom what, and what each message hands over.

  Every device has thirteen semaphores: the barrier; for each column half one for its scattered blocks having left, one for
  blocks arriving, one for its reduced rows having left, one for reduced rows arriving; and four for its local copies.  Each is
  used for one round.  A message between two devices is named by the distance between them: the device that is `r + 1`
  places after `c` is `peer c r`.
-/
module

public import proofs.«01_k».proof.Proof.Text
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the protocol: rounds whose contributions are named by a distance. -/
abbrev UB : Type := URounds (GSem nD τ sig) (Fin 31)
/-- Beside the one the launch uses for its own transfers. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh as a ring -/

/-- The device `s` places after `c`. -/
def aft (c : Dev nD) (s : Fin 32) : Dev nD := ⟨(c.val + s.val) % 32, Nat.mod_lt _ (by decide)⟩
/-- How many places `p` is after `c`. -/
def places (c p : Dev nD) : Fin 32 := ⟨(p.val + 32 - c.val) % 32, Nat.mod_lt _ (by decide)⟩
theorem places_aft : ∀ (c : Dev nD) (s : Fin 32), places c (aft c s) = s := by decide +kernel
theorem aft_places : ∀ (c p : Dev nD), aft c (places c p) = p := by decide +kernel
theorem aft_zero (c : Dev nD) : aft c 0 = c := by revert c; decide +kernel
/-- All devices, counted from `c`. -/
def fromHere (c : Dev nD) : Fin 32 ≃ Dev nD := ⟨aft c, places c, places_aft c, aft_places c⟩

/-- The device `r + 1` places after `c`. -/
def peer (c : Dev nD) (r : Fin 31) : Dev nD := aft c r.succ
theorem peer_rev : ∀ (c : Dev nD) (r : Fin 31), peer (peer c r) (Fin.rev r) = c := by decide +kernel
theorem rev_peer (c : Dev nD) (r : Fin 31) : peer (peer c (Fin.rev r)) r = c := by
  have := peer_rev c (Fin.rev r); rwa [Fin.rev_rev] at this
theorem hop_peer (c : Dev nD) (r : Fin 31) : (⟨hop c (dist r), hop_lt c r⟩ : Dev nD) = peer c r :=
  Fin.ext ((hop_eq c r).trans (by show _ = (c.val + (r.val + 1)) % 32; rw [Nat.add_comm 1]))
theorem lands_eq : ∀ r : Fin 31, lands r = (Fin.rev r).succ := by decide
theorem aft_lands (c : Dev nD) (r : Fin 31) : aft (peer c r) (lands r) = c := by
  rw [lands_eq]; exact peer_rev c r

/-- Going `r + 1` places round the ring, as a bijection of the devices. -/
def turn (r : Fin 31) : Dev nD ≃ Dev nD := ⟨fun c => peer c r, fun c => peer c (Fin.rev r), fun c => peer_rev c r, fun c => rev_peer c r⟩

/-! ## The buffers and their pieces -/

abbrev aM : Memref sig .tc .vmem S512x256 .bf16 := Memref.whole cc0_stg0_0
abbrev bM : Memref sig .tc .vmem S256x512 .bf16 := Memref.whole cc0_stg1_0
abbrev oM : Memref sig .tc .vmem S512x512 .bf16 := Memref.whole cc0_stg2_0
abbrev zM : Memref sig .tc .vmem S512x512 .bf16 := Memref.whole cc0_scratch0
abbrev rM : Memref sig .tc .vmem S16x512 .bf16 := Memref.whole cc0_scratch1
abbrev vM : Memref sig .tc .vmem S2x32x16x256 .bf16 := Memref.whole cc0_scratch2

/-- Where device `p`'s rows of a 512 x 512 buffer start, in column half `h`. -/
def blkAt (h : Fin 2) (p : Dev nD) : Fin 2 → Nat := ![16 * p.val, 256 * h.val]
theorem blkAt_inb : ∀ (h : Fin 2) (p : Dev nD), ∀ a, blkAt h p a + S16x256.size a ≤ S512x512.size a := by decide +kernel
abbrev blkR (h : Fin 2) (p : Dev nD) : Rect S512x512 := Rect.unit (s := S512x512) (blkAt h p) S16x256.size (blkAt_inb h p)
abbrev slotR (h : Fin 2) (s : Fin 32) : Rect S2x32x16x256 := Rect.unit (s := S2x32x16x256) (slotAt h s.val) S1x1x16x256.size (slotAt_inb h s)
abbrev halfR (h : Fin 2) : Rect S16x512 := Rect.unit (s := S16x512) (rAt h) S16x256.size (rAt_inb h)

/-- Device `p`'s rows of a 512 x 512 buffer, in column half `h`. -/
abbrev blk (M : Memref sig .tc .vmem S512x512 .bf16) (h : Fin 2) (p : Dev nD) : Memref sig .tc .vmem S16x256 .bf16 :=
  M.slice (blkR h p) (fun _ => rfl)

theorem slice_off (M : Memref sig .tc .vmem S512x512 .bf16) {o o' : Fin 2 → Nat} (e : o = o') (i : ∀ a, o a + S16x256.size a ≤ S512x512.size a)
    (i' : ∀ a, o' a + S16x256.size a ≤ S512x512.size a) :
    (M.slice (Rect.unit (s := S512x512) o S16x256.size i) (fun _ => rfl) : Memref sig .tc .vmem S16x256 .bf16)
      = M.slice (Rect.unit (s := S512x512) o' S16x256.size i') (fun _ => rfl) := by
  subst e; rfl
theorem zTo_eq (M : Memref sig .tc .vmem S512x512 .bf16) (h : Fin 2) (c : Dev nD) (r : Fin 31) : zTo M h c r = blk M h (peer c r) :=
  slice_off M (by
    unfold zAt blkAt; rw [zAt_row]
    show _ = ![16 * ((c.val + (r.val + 1)) % 32), _]
    rw [Nat.add_comm 1]) _ _
theorem rows_eq (M : Memref sig .tc .vmem S512x512 .bf16) (h : Fin 2) (c : Dev nD) : rows M h c = blk M h c :=
  slice_off M (by unfold oAt blkAt; rw [oAt_row]) _ _

theorem mem_blkR (h : Fin 2) (p : Dev nD) (i : S512x512.Idx) :
    i ∈ (blkR h p).set ↔ (16 * p.val ≤ (i 0).val ∧ (i 0).val < 16 * p.val + 16) ∧ (256 * h.val ≤ (i 1).val ∧ (i 1).val < 256 * h.val + 256) := by
  rw [Rect.mem_set_unit, Fin.forall_fin_two]; exact Iff.rfl
theorem mem_halfR (h : Fin 2) (i : S16x512.Idx) :
    i ∈ (halfR h).set ↔ (256 * h.val ≤ (i 1).val ∧ (i 1).val < 256 * h.val + 256) := by
  rw [Rect.mem_set_unit, Fin.forall_fin_two]
  refine ⟨fun x => x.2, fun x => ⟨⟨Nat.zero_le _, ?_⟩, x⟩⟩
  have := (i 0).isLt; exact this
theorem mem_slotR (h : Fin 2) (s : Fin 32) (i : S2x32x16x256.Idx) :
    i ∈ (slotR h s).set ↔ (i 0).val = h.val ∧ (i 1).val = s.val := by
  rw [Rect.mem_set_unit]
  constructor
  · intro x
    have h0 : h.val ≤ (i 0).val ∧ (i 0).val < h.val + 1 := x 0
    have h1 : s.val ≤ (i 1).val ∧ (i 1).val < s.val + 1 := x 1
    omega
  · rintro ⟨h0, h1⟩ a
    have h2 := (i 2).isLt; have h3 := (i 3).isLt
    fin_cases a
    · show h.val ≤ (i 0).val ∧ (i 0).val < h.val + 1; omega
    · show s.val ≤ (i 1).val ∧ (i 1).val < s.val + 1; omega
    · exact ⟨Nat.zero_le _, h2⟩
    · exact ⟨Nat.zero_le _, h3⟩

abbrev blkRs (t : Fin 2 × Dev nD) : Rect S512x512 := blkR t.1 t.2
abbrev slotRs (t : Fin 2 × Fin 32) : Rect S2x32x16x256 := slotR t.1 t.2

theorem blk_disjoint (t t' : Fin 2 × Dev nD) (hne : t ≠ t') : Disjoint (blkRs t).set (blkRs t').set := by
  rw [Finset.disjoint_left]; intro i hi hi'
  rw [mem_blkR] at hi hi'
  exact hne (Prod.ext (Fin.ext (by omega)) (Fin.ext (by omega)))
theorem half_disjoint (t t' : Fin 2) (hne : t ≠ t') : Disjoint (halfR t).set (halfR t').set := by
  rw [Finset.disjoint_left]; intro i hi hi'
  rw [mem_halfR] at hi hi'
  exact hne (Fin.ext (by omega))
theorem slot_disjoint (t t' : Fin 2 × Fin 32) (hne : t ≠ t') : Disjoint (slotRs t).set (slotRs t').set := by
  rw [Finset.disjoint_left]; intro i hi hi'
  rw [mem_slotR] at hi hi'
  exact hne (Prod.ext (Fin.ext (by omega)) (Fin.ext (by omega)))
theorem blk_cover : (Finset.univ : Finset (Fin 2 × Dev nD)).biUnion (fun t => (blkRs t).set) = Finset.univ := by
  refine Finset.eq_univ_iff_forall.mpr fun i => Finset.mem_biUnion.mpr ?_
  have h0 : (i 0).val < 512 := (i 0).isLt
  have h1 : (i 1).val < 512 := (i 1).isLt
  refine ⟨(⟨(i 1).val / 256, by omega⟩, ⟨(i 0).val / 16, by show _ < 32; omega⟩), Finset.mem_univ _, ?_⟩
  rw [mem_blkR]; dsimp only; omega
theorem half_cover : (Finset.univ : Finset (Fin 2)).biUnion (fun t => (halfR t).set) = Finset.univ := by
  refine Finset.eq_univ_iff_forall.mpr fun i => Finset.mem_biUnion.mpr ?_
  have h1 : (i 1).val < 512 := (i 1).isLt
  refine ⟨⟨(i 1).val / 256, by omega⟩, Finset.mem_univ _, ?_⟩
  rw [mem_halfR]; dsimp only; omega
theorem slot_cover : (Finset.univ : Finset (Fin 2 × Fin 32)).biUnion (fun t => (slotRs t).set) = Finset.univ := by
  refine Finset.eq_univ_iff_forall.mpr fun i => Finset.mem_biUnion.mpr ?_
  refine ⟨(⟨(i 0).val, (i 0).isLt⟩, ⟨(i 1).val, (i 1).isLt⟩), Finset.mem_univ _, ?_⟩
  rw [mem_slotR]; exact ⟨rfl, rfl⟩

/-! ## The semaphores -/

/-- The kernel's semaphores: 0 the barrier, then in pairs (one per column half) blocks left, blocks arrived, rows left, rows
    arrived, then the four local copies. -/
def csem (k : Fin 13) : SemLoc sig := if k.val = 0 then .reg barSem else .dma (⟨k.val + 2, by have := k.isLt; show _ < 15; omega⟩ : DmaSem sig)
/-- The semaphore as one of the thirteen. -/
def which : SemLoc sig → Option (Fin 13)
  | .reg _ => some 0
  | .dma q => if h : 3 ≤ q.val then some ⟨q.val - 2, by have : q.val < 15 := q.isLt; omega⟩ else none
theorem which_csem : ∀ k, which (csem k) = some k := by decide

def kS1 (h : Fin 2) : Fin 13 := ⟨1 + h.val, by omega⟩
def kR1 (h : Fin 2) : Fin 13 := ⟨3 + h.val, by omega⟩
def kS2 (h : Fin 2) : Fin 13 := ⟨5 + h.val, by omega⟩
def kR2 (h : Fin 2) : Fin 13 := ⟨7 + h.val, by omega⟩
def kC1 (h : Fin 2) : Fin 13 := ⟨9 + h.val, by omega⟩
def kC2 (h : Fin 2) : Fin 13 := ⟨11 + h.val, by omega⟩

theorem sem_bar : (SemLoc.reg barSem : SemLoc sig) = csem 0 := by decide
theorem sem_s1 : ∀ h, (SemLoc.dma (sem2 cc0_scratch3 h) : SemLoc sig) = csem (kS1 h) := by decide
theorem sem_r1 : ∀ h, (SemLoc.dma (sem2 cc0_scratch4 h) : SemLoc sig) = csem (kR1 h) := by decide
theorem sem_s2 : ∀ h, (SemLoc.dma (sem2 cc0_scratch5 h) : SemLoc sig) = csem (kS2 h) := by decide
theorem sem_r2 : ∀ h, (SemLoc.dma (sem2 cc0_scratch6 h) : SemLoc sig) = csem (kR2 h) := by decide
theorem sem_c1 : ∀ h : Fin 2, (SemLoc.dma (sem4 cc0_scratch7 ⟨h.val, by omega⟩) : SemLoc sig) = csem (kC1 h) := by decide
theorem sem_c2 : ∀ h : Fin 2, (SemLoc.dma (sem4 cc0_scratch7 ⟨2 + h.val, by omega⟩) : SemLoc sig) = csem (kC2 h) := by decide

/-- Semaphore `k` of device `c`. -/
abbrev cell (c : Dev nD) (k : Fin 13) : GSem nD τ sig := ((c : Thread nD τ), csem k)

/-- What one block's transfer adds to a semaphore. -/
def credit : ℕ := (blk zM 0 0).view.dmaCredit
theorem credit_pos : 0 < credit := View.dmaCredit_pos _ (by decide)
theorem credit_blk (M : Memref sig .tc .vmem S512x512 .bf16) (h : Fin 2) (p : Dev nD) : (blk M h p).view.dmaCredit = credit := rfl
theorem credit_slot (h : Fin 2) (s : Fin 32) : (slot vM h s).view.dmaCredit = credit := rfl

end Cert.KernelIdeal.Gelu
-- ==== Proof.Cells.lean ====
/-
  What every message hands over, with the values it carries.
-/
module

public import proofs.«01_k».proof.Proof.Schedule

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Values -/

/-- A 16 x 256 block of bf16 values. -/
abbrev Blk (F : FTy → Type) : Type := S16x256.Idx → Elt F .bf16

/-- Device `c`'s block of the first operand. -/
def xA (c : Dev nD) : (cc0_stg0_0 : Ref sig .tc).ty.Contents (Elt F) :=
  (win0_0.blk (0 : Fin 1)).view.read (Elt F) (m ((c : Thread nD τ).loc main_arg0))
/-- Device `c`'s block of the second operand. -/
def xB (c : Dev nD) : (cc0_stg1_0 : Ref sig .tc).ty.Contents (Elt F) :=
  (win0_1.blk (0 : Fin 1)).view.read (Elt F) (m ((c : Thread nD τ).loc main_arg1))
/-- Device `p`'s product. -/
def zval (p : Dev nD) : (cc0_scratch0 : Ref sig .tc).ty.Contents (Elt F) := k0_pay1 (xA m p) (xB m p)
/-- The rows of device `p`'s product that belong to device `q`, in column half `h`. -/
def zblk (p : Dev nD) (h : Fin 2) (q : Dev nD) : Blk F := fun j => zval m p ((blkR h q).emb j)
/-- A block widened to f32. -/
def part (X : Blk F) : FVec F S16x256 .f32 := extf .f32 (X : FVec F S16x256 .bf16) bitsLt_bf16_f32
/-- Device `c`'s rows of the summed product, in column half `h`: its own part, then the others' in the order of the ring. -/
def gsum (c : Dev nD) (h : Fin 2) : FVec F S16x256 .f32 :=
  slots.foldl (fun acc s => addf acc (part (zblk m (aft c s) h c))) (part (zblk m (aft c 0) h c))
/-- Device `c`'s rows of the result, in column half `h`. -/
def gblk (c : Dev nD) (h : Fin 2) : Blk F := gelu (gsum m c h)

/-- An index of a block. -/
def bix (i j : Nat) (hi : i < 16) (hj : j < 256) : S16x256.Idx := fun a => match a with | ⟨0, _⟩ => ⟨i, hi⟩ | ⟨1, _⟩ => ⟨j, hj⟩
/-- The result, the same on every device. -/
def outv : (cc0_stg2_0 : Ref sig .tc).ty.Contents (Elt F) := fun i =>
  gblk m ⟨(i 0).val / 16, by have : (i 0).val < 512 := (i 0).isLt; show _ < 32; omega⟩
    ⟨(i 1).val / 256, by have : (i 1).val < 512 := (i 1).isLt; omega⟩
    (bix ((i 0).val % 16) ((i 1).val % 256) (Nat.mod_lt _ (by decide)) (Nat.mod_lt _ (by decide)))

theorem emb_blk0 (h : Fin 2) (p : Dev nD) (j : S16x256.Idx) : ((blkR h p).emb j 0).val = 16 * p.val + (j 0).val := by
  rw [Rect.emb_apply]; show 16 * p.val + 1 * (j 0).val = _; omega
theorem emb_blk1 (h : Fin 2) (p : Dev nD) (j : S16x256.Idx) : ((blkR h p).emb j 1).val = 256 * h.val + (j 1).val := by
  rw [Rect.emb_apply]; show 256 * h.val + 1 * (j 1).val = _; omega

theorem gblk_congr {c c' : Dev nD} {h h' : Fin 2} {j j' : S16x256.Idx} (e : c = c') (e' : h = h') (e'' : j = j') :
    gblk m c h j = gblk m c' h' j' := by subst e e' e''; rfl

/-- Device `p`'s rows of the result. -/
theorem outv_emb (h : Fin 2) (p : Dev nD) (j : S16x256.Idx) : outv m ((blkR h p).emb j) = gblk m p h j := by
  have h0 : (j 0).val < 16 := (j 0).isLt
  have h1 : (j 1).val < 256 := (j 1).isLt
  have e0 := emb_blk0 h p j
  have e1 := emb_blk1 h p j
  refine gblk_congr m (Fin.ext ?_) (Fin.ext ?_) ?_
  · show ((blkR h p).emb j 0).val / 16 = p.val; omega
  · show ((blkR h p).emb j 1).val / 256 = h.val; omega
  · funext a
    match a with
    | ⟨0, _⟩ => exact Fin.ext (by show ((blkR h p).emb j 0).val % 16 = (j 0).val; omega)
    | ⟨1, _⟩ => exact Fin.ext (by show ((blkR h p).emb j 1).val % 256 = (j 1).val; omega)

/-! ## Ownership -/

section Own
variable {sh : Shape} {e : EltTy}

/-- Device `c` owns the elements of a buffer's view, at some contents. -/
def any (c : Dev nD) (M : Memref sig .tc .vmem sh e) : sProp 𝕄 := iprop(∃ f, M.view.loc (c : Thread nD τ) ↦[M.view.set]{fullShare} f)
/-- Device `c` owns them at share `q`, reading `X`. -/
abbrev has (c : Dev nD) (M : Memref sig .tc .vmem sh e) (q : PosShare TreeShare) (X : sh.Idx → Elt F e) : sProp 𝕄 :=
  owns (Ix := Unit) (Name := ℕ) (U := UU) (Lvl := ℕ) (c : Thread nD τ) M q X

instance any_storable (c : Dev nD) (M : Memref sig .tc .vmem sh e) : BI.Storable (upEmb : UEmb _ 𝕄) (any (F := F) c M) := by
  unfold any; infer_instance

theorem any_of_has (c : Dev nD) (M : Memref sig .tc .vmem sh e) (X : sh.Idx → Elt F e) : has c M fullShare X ⊢ any c M := by
  unfold has owns any; iintro ⟨%f, -, H⟩; iexists f; iexact H
theorem any_intro (c : Dev nD) (M : Memref sig .tc .vmem sh e) (f : Buf (Elt F) (M.view.loc (c : Thread nD τ))) :
    (M.view.loc (c : Thread nD τ) ↦[M.view.set]{fullShare} f : sProp 𝕄) ⊢ any c M := by
  unfold any; iintro H; iexists f; iexact H
theorem has_intro (c : Dev nD) (M : Memref sig .tc .vmem sh e) (q : PosShare TreeShare) (f : Buf (Elt F) (M.view.loc (c : Thread nD τ))) (X : sh.Idx → Elt F e)
    (hX : M.view.read (Elt F) f = X) :
    (M.view.loc (c : Thread nD τ) ↦[M.view.set]{q} f : sProp 𝕄) ⊢ has c M q X := by
  unfold has owns; iintro H; iexists f; isplitr; · (ipureintro; exact hX)
  iexact H

/-- Ownership of a view's elements at given values is ownership at any one contents that reads so. -/
theorem has_eq (c : Dev nD) (M : Memref sig .tc .vmem sh e) (q : PosShare TreeShare) (f : Buf (Elt F) (M.view.loc (c : Thread nD τ))) (X : sh.Idx → Elt F e)
    (hX : M.view.read (Elt F) f = X) :
    (has c M q X : sProp 𝕄) = M.view.loc (c : Thread nD τ) ↦[M.view.set]{q} f := by
  refine Entails.antisymm (show (has c M q X : sProp 𝕄) ⊢ M.view.loc (c : Thread nD τ) ↦[M.view.set]{q} f from ?_) (has_intro c M q f X hX)
  unfold has owns
  iintro ⟨%g, %hg, H⟩
  have : (M.view.loc (c : Thread nD τ) ↦[M.view.set]{q} g : sProp 𝕄) = M.view.loc (c : Thread nD τ) ↦[M.view.set]{q} f :=
    pointsTo_congr fun i hi => by
      obtain ⟨j, -, rfl⟩ := Finset.mem_map.mp hi
      have := congrFun (hg.trans hX.symm) j
      simp only [View.read] at this
      exact (cast_inj _).mp this
  rw [← this]; iexact H

/-- The share a block of rows is held at while it is copied to the `i`-th of its 32 destinations. -/
abbrev shr (i : Fin 32) : PosShare TreeShare := ShareLeaves.leaf 5 fullShare i

/-- A view's elements dealt out to 32 readers, and taken back. -/
theorem has_shares (c : Dev nD) (M : Memref sig .tc .vmem sh e) (X : sh.Idx → Elt F e) :
    (has c M fullShare X : sProp 𝕄) = bigSep Finset.univ fun i : Fin 32 => has c M (shr i) X := by
  have hX := View.read_write_univ (Val := Elt F) (v := M.view) (fun _ => Classical.arbitrary _) X
  rw [has_eq c M fullShare _ X hX, ShareLeaves.pointsTo_leaves _ _ 5 fullShare]
  exact bigSep_congr fun i _ => (has_eq c M (shr i) _ X hX).symm

end Own

section Rects
variable {sh : Shape} {e : EltTy} {T : Type} [Fintype T] [DecidableEq T] (c : Dev nD) (M : Memref sig .tc .vmem sh e)
  (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A buffer at some contents falls into its pieces, each at some contents, -/
theorem any_split : any (F := F) c M ⊢ bigSep Finset.univ fun t => any c (M.slice (r t) (hr t)) := by
  have h (f : Buf (Elt F) (M.view.loc (c : Thread nD τ))) :
      (M.view.loc (c : Thread nD τ) ↦[M.view.set]{fullShare} f : sProp 𝕄) ⊢ bigSep Finset.univ fun t => any c (M.slice (r t) (hr t)) := by
    rw [pointsTo_rects (Ix := Unit) (Name := ℕ) (U := UU) (Lvl := ℕ) (c : Thread nD τ) M fullShare r hr hd hcov f]
    exact bigSep_mono fun t _ => any_of_has (F := F) c (M.slice (r t) (hr t)) _
  iintro H
  ihave H' := (show any (F := F) c M ⊢ iprop(∃ f, M.view.loc (c : Thread nD τ) ↦[M.view.set]{fullShare} f) from .rfl) $$ H
  icases H' with ⟨%f, H⟩
  iapply (h f) $$ H
/-- and is put together again. -/
theorem any_join : (bigSep Finset.univ fun t => any (F := F) c (M.slice (r t) (hr t))) ⊢ any c M := by
  have hset : (Finset.univ : Finset T).biUnion (fun t => (M.view.slice (r t)).set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  have hdv (t t' : T) (h : t ≠ t') : Disjoint (M.view.slice (r t)).set (M.view.slice (r t')).set := by
    rw [View.set_slice, View.set_slice]; exact (Finset.disjoint_map _).mpr (hd t t' h)
  have key := Ring.pointsTo_sub_blocks_join_exists (Ix := Unit) (Name := ℕ) (U := UU) (Lvl := ℕ) (Val := Elt F) (ℓ := M.view.loc (c : Thread nD τ)) (fun t => (M.view.slice (r t)).set) hdv
    M.view.set hset (q := fullShare) (Classical.arbitrary _)
  exact key

end Rects

/-- A slot of the receive buffer is the same elements as the slice it is read from. -/
theorem any_slot (c : Dev nD) (h : Fin 2) (s : Fin 32) :
    (any (F := F) c (slot vM h s) : sProp 𝕄) = any c (vM.slice (slotR h s) (fun _ => rfl)) := by
  unfold any
  have e : (slot vM h s).view.set = (vM.slice (slotR h s) (fun _ => rfl)).view.set := View.set_reshape _ _
  rw [e]

/-! ## The payloads -/

/-- Device `p` lets device `q`, at distance `r + 1` from it, write its slots of the receive buffer and its rows of the result. -/
def offers (p q : Dev nD) (r : Fin 31) : sProp 𝕄 :=
  bigSep Finset.univ fun h : Fin 2 => iprop(any (F := F) p (slot vM h r.succ) ∗ any p (blk oM h q))
/-- The block for peer `r` is free again. -/
def left1 (c : Dev nD) (h : Fin 2) (r : Fin 31) : sProp 𝕄 := any (F := F) c (blk zM h (peer c r))
/-- Slot `s` holds the block of the device `s` places on. -/
def got1 (c : Dev nD) (h : Fin 2) (s : Fin 32) : sProp 𝕄 := has c (slot vM h s) fullShare (zblk m (aft c s) h c)
/-- The reduced rows, at the share lent to the copy for the device `s` places on. -/
def left2 (c : Dev nD) (h : Fin 2) (s : Fin 32) : sProp 𝕄 := has c (half rM h) (shr s) (gblk m c h)
/-- Device `p`'s rows of the result have arrived. -/
def got2 (c : Dev nD) (h : Fin 2) (p : Dev nD) : sProp 𝕄 := has c (blk oM h p) fullShare (gblk m p h)

/-- What the message named `d` on semaphore `k` of device `c` hands over. -/
def pay (c : Dev nD) (k : Fin 13) (d : Fin 31) : sProp 𝕄 := match k with
  | 0 => offers (F := F) (peer c (Fin.rev d)) c d
  | 1 => left1 (F := F) c 0 d
  | 2 => left1 (F := F) c 1 d
  | 3 => got1 m c 0 (lands d)
  | 4 => got1 m c 1 (lands d)
  | 5 => left2 m c 0 d.succ
  | 6 => left2 m c 1 d.succ
  | 7 => got2 m c 0 (peer c (Fin.rev d))
  | 8 => got2 m c 1 (peer c (Fin.rev d))
  | 9 => iprop(any (F := F) c (blk zM 0 c) ∗ got1 m c 0 0)
  | 10 => iprop(any (F := F) c (blk zM 1 c) ∗ got1 m c 1 0)
  | 11 => iprop(left2 m c 0 0 ∗ got2 m c 0 c)
  | 12 => iprop(left2 m c 1 0 ∗ got2 m c 1 c)

theorem pay_s1 (c : Dev nD) (h : Fin 2) (d : Fin 31) : pay m c (kS1 h) d = left1 (F := F) c h d := by
  revert h; rw [Fin.forall_fin_two]; exact ⟨rfl, rfl⟩
theorem pay_r1 (c : Dev nD) (h : Fin 2) (d : Fin 31) : pay m c (kR1 h) d = got1 m c h (lands d) := by
  revert h; rw [Fin.forall_fin_two]; exact ⟨rfl, rfl⟩
theorem pay_s2 (c : Dev nD) (h : Fin 2) (d : Fin 31) : pay m c (kS2 h) d = left2 m c h d.succ := by
  revert h; rw [Fin.forall_fin_two]; exact ⟨rfl, rfl⟩
theorem pay_r2 (c : Dev nD) (h : Fin 2) (d : Fin 31) : pay m c (kR2 h) d = got2 m c h (peer c (Fin.rev d)) := by
  revert h; rw [Fin.forall_fin_two]; exact ⟨rfl, rfl⟩
theorem pay_c1 (c : Dev nD) (h : Fin 2) (d : Fin 31) : pay m c (kC1 h) d = iprop(any (F := F) c (blk zM h c) ∗ got1 m c h 0) := by
  revert h; rw [Fin.forall_fin_two]; exact ⟨rfl, rfl⟩
theorem pay_c2 (c : Dev nD) (h : Fin 2) (d : Fin 31) : pay m c (kC2 h) d = iprop(left2 m c h 0 ∗ got2 m c h c) := by
  revert h; rw [Fin.forall_fin_two]; exact ⟨rfl, rfl⟩

instance pay_storable (c : Dev nD) (k : Fin 13) (d : Fin 31) : BI.Storable (upEmb : UEmb _ 𝕄) (pay m c k d) := by
  unfold pay offers left1 got1 left2 got2
  split <;> infer_instance

/-! ## The schedule -/

/-- The messages a semaphore gets: one from (or to) every peer, but one only for a local copy. -/
def dut (k : Fin 13) : Finset (Fin 31) := if k.val < 9 then Finset.univ else {0}
/-- What each adds to the counter. -/
def amt (k : Fin 13) : ℕ := if k.val = 0 then 1 else credit
theorem amt_pos (k : Fin 13) : 0 < amt k := by unfold amt; split; · exact Nat.one_pos
                                               · exact credit_pos

/-- One round on every one of the thirteen semaphores of every device. -/
def sched : Rounds.Schedule (GSem nD τ sig) (Fin 31) 𝕄 where
  duties g r := if r = 0 ∧ g.1.2 = .tc then (match which g.2 with | some k => dut k | none => ∅) else ∅
  unitless _ := False
  amount g _ _ := match which g.2 with | some k => amt k | none => 1
  payload g _ d := match which g.2 with | some k => pay m g.1.1 k d | none => iprop(emp)
  amount_pos g _ _ _ := by
    cases which g.2 with
    | some k => exact amt_pos k
    | none => exact Nat.one_pos

instance sched_storable (g : GSem nD τ sig) (r : ℕ) (d : Fin 31) :
    BI.Storable (upEmb : UEmb _ 𝕄) ((sched (F := F) m).payload g r d) := by
  show BI.Storable upEmb (match which g.2 with | some k => pay m g.1.1 k d | none => iprop(emp))
  split <;> infer_instance

theorem duties_cell (c : Dev nD) (k : Fin 13) : (sched (F := F) m).duties (cell c k) 0 = dut k := by
  dsimp only [sched]; rw [which_csem]; exact if_pos ⟨rfl, rfl⟩
theorem duties_later (g : GSem nD τ sig) : ∀ r, 1 ≤ r → (sched (F := F) m).duties g r = ∅ :=
  fun r hr => by dsimp only [sched]; rw [if_neg fun h => by omega]
theorem amount_cell (c : Dev nD) (k : Fin 13) (d : Fin 31) : (sched (F := F) m).amount (cell c k) 0 d = amt k := by
  dsimp only [sched]; rw [which_csem]
theorem payload_cell (c : Dev nD) (k : Fin 13) (d : Fin 31) : (sched (F := F) m).payload (cell c k) 0 d = pay m c k d := by
  dsimp only [sched]; rw [which_csem]
theorem expect_cell (c : Dev nD) (k : Fin 13) : (sched (F := F) m).expect (cell c k) 0 = (dut k).card * amt k := by
  unfold Schedule.expect Schedule.amountOf
  rw [duties_cell, Finset.sum_congr rfl fun d _ => amount_cell m c k d, Finset.sum_const, smul_eq_mul]

theorem dut_peers (k : Fin 13) (h : k.val < 9) : dut k = Finset.univ := if_pos h
theorem dut_copy (k : Fin 13) (h : 9 ≤ k.val) : dut k = {0} := if_neg (by omega)
theorem amt_zero : amt 0 = 1 := rfl
theorem amt_ne (k : Fin 13) (h : k.val ≠ 0) : amt k = credit := if_neg h

/-! ## What a device owes, and the order of the waits -/

/-- What device `c` owes semaphore `k` of each peer in a list. -/
def due (c : Dev nD) (k : Fin 13) (l : List (Fin 31)) : CellTallies nD τ sig Unit := (l.map fun r => tallyAt (cell (peer c r) k) () (amt k)).sum

theorem due_nil (c : Dev nD) (k : Fin 13) : due c k [] = 0 := rfl
theorem due_cons (c : Dev nD) (k : Fin 13) (r : Fin 31) (l : List (Fin 31)) : due c k (r :: l) = due c k l + tallyAt (cell (peer c r) k) () (amt k) := by
  unfold due; rw [List.map_cons, List.sum_cons, add_comm]

/-- Waits on a semaphore happen while only semaphores later in this order are owed to. -/
def lev (k : Fin 13) : ℕ := match k with | 0 => 1 | 3 => 2 | 4 => 2 | 7 => 3 | 8 => 3 | _ => 0
def L (g : GSem nD τ sig) : Finset Unit := if g.1.2 = .tc then {()} else ∅
def lv (g : GSem nD τ sig) (_ : Unit) : ℕ := match which g.2 with | some k => lev k | none => 0

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : Fin 13) (u : Unit) : lv (cell c k) u = lev k := by dsimp only [lv]; rw [which_csem]

/-- A tally that owes only semaphores above level `n`. -/
def Above (n : ℕ) (O : CellTallies nD τ sig Unit) : Prop := ∀ g u, 0 < O g u → ∃ p k, g = cell p k ∧ n < lev k

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_due {n : ℕ} (c : Dev nD) (k : Fin 13) (l : List (Fin 31)) (hk : n < lev k) : Above n (due c k l) := by
  induction l with
  | nil => exact above_zero n
  | cons r l ih =>
    rw [due_cons]
    refine above_add ih fun g u hg => ?_
    rw [tallyAt_apply] at hg
    by_cases h : g = cell (peer c r) k ∧ u = ()
    · exact ⟨_, _, h.1, hk⟩
    · rw [if_neg h] at hg; exact absurd hg (Nat.lt_irrefl 0)
theorem above_mono {n n' : ℕ} (h : n ≤ n') {O : CellTallies nD τ sig Unit} (hO : Above n' O) : Above n O :=
  fun g u hg => by obtain ⟨p, k, e, hk⟩ := hO g u hg; exact ⟨p, k, e, by omega⟩

/-- A wait on a semaphore is in order while everything still owed lies above it. -/
theorem mayWait (c : Dev nD) (s : SemLoc sig) (n : ℕ) (hs : lv ((c : Thread nD τ), s) () = n) (O : CellTallies nD τ sig Unit) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨p, k, rfl, -⟩ := hO g u hg; rw [L_tc]; exact Finset.mem_singleton_self _)
    (fun p hp => by rw [Finset.mem_singleton.mp hp]; exact le_of_eq hs)
    (fun g u hg => by obtain ⟨p, k, rfl, hk⟩ := hO g u hg; rw [lv_cell]; exact hk)

/-- What device `c` owes at launch: its rows and blocks to every peer, and a signal to each. -/
def O₁ (c : Dev nD) : CellTallies nD τ sig Unit := ((due c (kR2 1) far + due c (kR2 0) far) + due c (kR1 1) far) + due c (kR1 0) far
def O₀ (c : Dev nD) : CellTallies nD τ sig Unit := O₁ c + due c 0 near

theorem above_O₁ (c : Dev nD) : Above 1 (O₁ c) :=
  above_add (above_add (above_add (above_due c _ _ (by decide)) (above_due c _ _ (by decide))) (above_due c _ _ (by decide))) (above_due c _ _ (by decide))
theorem above_O₀ (c : Dev nD) : Above 0 (O₀ c) := above_add (above_mono (by decide) (above_O₁ c)) (above_due c _ _ (by decide))

end Cert.KernelIdeal.Gelu
-- ==== Proof.Steps.lean ====
/-
  Single steps of the kernel under the protocol: a signal, a transfer, a local copy, a wait, and lists of them.
-/
module

public import proofs.«01_k».proof.Proof.Cells
public import Idealize.ShloMosaic.Lib.Pipeline.BigSepL

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs a program to a postcondition. -/
abbrev Runs (c : Dev nD) {α : Type} (p : Body F α) (Q : α → sProp 𝕄) : sProp 𝕄 :=
  wp frame (wpE (defs₀ (F := F)) 𝒱₀ (c : Thread nD τ) none) Set.univ p Q

/-- One member of a family; -/
theorem member {I : Type} [DecidableEq I] {s : Finset I} {i : I} (h : i ∈ s) (Φ : I → sProp 𝕄) : (bigSep s Φ : sProp 𝕄) ⊢ Φ i := BI.bigSep_elim h
/-- a part of a family and the rest. -/
theorem parted {I : Type} [DecidableEq I] {s t : Finset I} (h : t ⊆ s) (Φ : I → sProp 𝕄) : bigSep s Φ = iprop(bigSep t Φ ∗ bigSep (s \ t) Φ) :=
  BI.bigSep_sdiff_split h

/-! ## Lists of steps -/

/-- A list of steps, each turning its own `A` into its own `B` while `I` records what is left to do. -/
theorem each_run {α : Type} (c : Dev nD) (f : α → Body F PUnit) (I : List α → sProp 𝕄) (A B : α → sProp 𝕄)
    (h : ∀ a l, iprop(I (a :: l) ∗ A a) ⊢ Runs c (f a) (fun _ => iprop(I l ∗ B a))) :
    ∀ l, iprop(I l ∗ bigSepL l A) ⊢ Runs c (each l f) (fun _ => iprop(I [] ∗ bigSepL l B))
  | [] => by
    unfold each Runs
    rw [Prog.pure_eq_ret, wp_ret]
    iintro ⟨HI, -⟩
    imodintro
    isplitl [HI]; · iexact HI
    iempintro
  | a :: l => by
    unfold each Runs
    rw [wp_bind, bigSepL_cons', bigSepL_cons']
    iintro ⟨HI, Ha, Hl⟩
    ihave Hw := (h a l) $$ [HI Ha]
    · isplitl [HI] <;> iassumption
    iapply (wp_wand frame _ Set.univ) $$ Hw
    iintro %u ⟨HI, Hb⟩
    ihave Hw := (each_run c f I A B h l) $$ [HI Hl]
    · isplitl [HI] <;> iassumption
    iapply (wp_wand frame _ Set.univ) $$ Hw
    iintro %u ⟨HI, Hl⟩
    isplitl [HI]; · iexact HI
    isplitl [Hb] <;> iassumption

theorem near_all (Φ : Fin 31 → sProp 𝕄) : bigSep Finset.univ Φ = bigSepL near Φ := bigSep_univ_eq_bigSepL near (by decide) (by decide) Φ
theorem far_all (Φ : Fin 31 → sProp 𝕄) : bigSep Finset.univ Φ = bigSepL far Φ := bigSep_univ_eq_bigSepL far (by decide) (by decide) Φ

/-- The steps of `each_run` over all peers, the far ones first, -/
theorem far_run (c : Dev nD) (f : Fin 31 → Body F PUnit) (I : List (Fin 31) → sProp 𝕄) (A B : Fin 31 → sProp 𝕄)
    (h : ∀ a l, iprop(I (a :: l) ∗ A a) ⊢ Runs c (f a) (fun _ => iprop(I l ∗ B a))) :
    iprop(I far ∗ bigSep Finset.univ A) ⊢ Runs c (each far f) (fun _ => iprop(I [] ∗ bigSep Finset.univ B)) := by
  rw [far_all, far_all]; exact each_run c f I A B h far
/-- and over all peers, the near ones first. -/
theorem near_run (c : Dev nD) (f : Fin 31 → Body F PUnit) (I : List (Fin 31) → sProp 𝕄) (A B : Fin 31 → sProp 𝕄)
    (h : ∀ a l, iprop(I (a :: l) ∗ A a) ⊢ Runs c (f a) (fun _ => iprop(I l ∗ B a))) :
    iprop(I near ∗ bigSep Finset.univ A) ⊢ Runs c (each near f) (fun _ => iprop(I [] ∗ bigSep Finset.univ B)) := by
  rw [near_all, near_all]; exact each_run c f I A B h near

/-! ## What every device knows -/

variable (K : Dev nD × Fin 13 → ℕ)

/-- The order of the waits. -/
def levels : sProp 𝕄 := levAts L lv
instance levels_persistent : BI.Persistent (levels (F := F)) := by unfold levels; infer_instance

/-- Every semaphore follows the schedule and has reached its round; the order of the waits. -/
def ctx : sProp 𝕄 :=
  iprop((bigSep Finset.univ fun ck : Dev nD × Fin 13 => iprop(cellInv ER (sched m) (K ck) (cell ck.1 ck.2) ∗ reached ER (cell ck.1 ck.2) 0)) ∗ levels (F := F))

instance ctx_persistent : BI.Persistent (ctx m K) := by unfold ctx; infer_instance

theorem ctx_inv (c : Dev nD) (k : Fin 13) : ctx m K ⊢ cellInv ER (sched m) (K (c, k)) (cell c k) := by
  unfold ctx
  iintro ⟨H, -⟩
  ihave H' := (member (Finset.mem_univ (c, k)) _) $$ H
  icases H' with ⟨H, -⟩; iexact H
theorem ctx_reached (c : Dev nD) (k : Fin 13) : ctx m K ⊢ reached ER (cell c k) 0 := by
  unfold ctx
  iintro ⟨H, -⟩
  ihave H' := (member (Finset.mem_univ (c, k)) _) $$ H
  icases H' with ⟨-, H⟩; iexact H
theorem ctx_wait (c : Dev nD) (k : Fin 13) (O : CellTallies nD τ sig Unit) (hO : Above (lev k) O) :
    ctx m K ⊢ MayWait (c : Thread nD τ) (csem k) () O := by
  have h : levels (F := F) ⊢ MayWait (c : Thread nD τ) (csem k) () O := by
    unfold levels; exact mayWait (F := F) c (csem k) (lev k) (lv_cell c k ()) O hO
  unfold ctx
  iintro ⟨-, H⟩
  iapply h; iexact H

/-- What device `c` owes, whatever it has waited for. -/
def ow (c : Dev nD) (O : CellTallies nD τ sig Unit) : sProp 𝕄 := iprop(∃ W, owes (c : Thread nD τ) O W)
abbrev tok (c : Dev nD) (k : Fin 13) (d : Fin 31) : sProp 𝕄 := dutyTok ER (cell c k) 0 d
abbrev crd (c : Dev nD) (k : Fin 13) (n : ℕ) : sProp 𝕄 := cred (tallyAt (cell c k) () n)
/-- Device `c` has not begun the round of its semaphore `k`; -/
abbrev fresh (c : Dev nD) (k : Fin 13) : sProp 𝕄 := atPos ER (cell c k) 0 ∅ 0
/-- has finished it. -/
abbrev over (c : Dev nD) (k : Fin 13) : sProp 𝕄 := atPos ER (cell c k) 1 ∅ 0

/-! ## One step -/

theorem signal_step (c n : Dev nD) (r : Fin 31) (hn : n = peer c r) (O : CellTallies nD τ sig Unit) :
    iprop((ctx m K ∗ ow c (O + tallyAt (cell (peer c r) 0) () (amt 0))) ∗ tok (peer c r) 0 r ∗ offers (F := F) c (peer c r) r)
      ⊢ Runs c (semSignalWord n barSem 1#32) (fun _ => ow c O) := by
  subst hn
  unfold ow
  simp only [semSignalWord, Prog.lift]
  iintro ⟨⟨#Hc, %W, Ho⟩, Ht, Hp⟩
  iapply (Rounds.wp_signal 𝒱₀ ER (sched m) (c : Thread nD τ) none (dst := (peer c r : Thread nD τ)) (sem := barSem) (κ := K (peer c r, 0)) (r := 0) (d := r)
      ((duties_cell m (peer c r) 0).symm ▸ Finset.mem_univ r) (amount_cell m (peer c r) 0 r) () O rfl) $$ [Ho Ht Hp]
  · isplitr; · iapply (ctx_inv m K (peer c r) 0); iexact Hc
    isplitl [Ho]; · iexact Ho
    isplitl [Ht]; · iexact Ht
    isplitl [Hp]
    · have e : (sched (F := F) m).payload ((peer c r : Thread nD τ), SemLoc.reg barSem) 0 r = offers c (peer c r) r :=
        (payload_cell m (peer c r) 0 r).trans (by show offers (peer (peer c r) (Fin.rev r)) (peer c r) r = _; rw [peer_rev])
      iapply (Entails.of_eq e.symm); iexact Hp
    iapply (ctx_reached m K (peer c r) 0); iexact Hc
  iintro Ho
  rw [wp_ret]; imodintro
  iexists W; iexact Ho

section Moves

variable {src src' dst dst' : Memref sig .tc .vmem S16x256 .bf16}

theorem send_step (c n p : Dev nD) (hn : n = p) (hs : src = src') (hd : dst = dst') (kS kR : Fin 13) {sS sR : SemLoc sig} (eS : sS = csem kS) (eR : sR = csem kR)
    (dS dR : Fin 31) (hdS : dS ∈ dut kS) (hdR : dR ∈ dut kR) (haS : amt kS = credit) (haR : amt kR = credit) (hN : dst.view.amount sR = credit)
    (q : PosShare TreeShare) (X : Blk F)
    (pS : has c src' q X ⊢ pay m c kS dS) (pR : has p dst' fullShare X ⊢ pay m p kR dR) (O : CellTallies nD τ sig Unit)
    {hsc : (dst : Memref sig (Dev.tc n : Thread nD τ).2.kind .vmem S16x256 .bf16).view.ref.isScScratch = false}
    {hsrc : src.view.WordExact} {hdst : dst.view.WordExact} {hsem : DmaTarget.Typed (nD := nD) .vmem sR (.remote (Dev.tc n : Thread nD τ) dst sS hsc)} :
    iprop((ctx m K ∗ ow c (O + tallyAt (cell p kR) () (amt kR))) ∗ has c src' q X ∗ any p dst' ∗ tok c kS dS ∗ tok p kR dR)
      ⊢ Runs c (Prog.lift (.enqueueDma src (.remote (Dev.tc n : Thread nD τ) dst sS hsc) sR hsrc hdst hsem)) (fun _ => iprop(ow c O ∗ crd c kS credit)) := by
  subst hn hs hd eS eR
  unfold ow any has owns
  simp only [Prog.lift]
  iintro ⟨⟨#Hc, %W, Ho⟩, ⟨%fs, %hfs, Hs⟩, ⟨%fd, Hd⟩, HtS, HtR⟩
  iapply (Rounds.wp_send_pointsTo 𝒱₀ ER (sched m) (c : Thread nD τ) none (κ₁ := K (c, kS)) (κ₂ := K (n, kR))
    (r₁ := 0) (r₂ := 0) (d₁ := dS) (d₂ := dR) (fs := fs) (fd := fd)
    ((duties_cell m c kS).symm ▸ hdS) ((duties_cell m n kR).symm ▸ hdR)
    () () credit hN ((amount_cell m c kS dS).trans haS) ((amount_cell m n kR dR).trans haR) O (congrArg (fun x => O + tallyAt (cell n kR) () x) haR) (W := W)
    (by rw [payload_cell]; exact (has_intro c src q fs X hfs).trans pS)
    (by rw [payload_cell]; exact (has_intro n dst fullShare _ X (by rw [hfs]; exact View.read_write_univ _ _)).trans pR)) $$ [Ho Hs Hd HtS HtR]
  · isplitr; · iapply (ctx_inv m K c kS); iexact Hc
    isplitr; · iapply (ctx_inv m K n kR); iexact Hc
    isplitl [Hs]; · iexact Hs
    isplitl [Hd]; · iexact Hd
    isplitl [Ho]; · iexact Ho
    isplitl [HtS]; · iexact HtS
    isplitr; · iapply (ctx_reached m K c kS); iexact Hc
    isplitl [HtR]; · iexact HtR
    iapply (ctx_reached m K n kR); iexact Hc
  iintro ⟨Hcr, Ho⟩
  rw [wp_ret]; imodintro
  isplitl [Ho]; · iexists W; iexact Ho
  iexact Hcr

theorem copy_step (c : Dev nD) (hs : src = src') (hd : dst = dst') (k : Fin 13) {s : SemLoc sig} (e : s = csem k)
    (hk : (0 : Fin 31) ∈ dut k) (ha : amt k = credit) (hN : dst.view.amount s = credit) (q : PosShare TreeShare) (X : Blk F)
    (hp : iprop(has c dst' fullShare X ∗ has c src' q X) ⊢ pay m c k 0)
    {hsrc : src.view.WordExact} {hdst : dst.view.WordExact} {hsem : DmaTarget.Typed (nD := nD) (τ := τ) (p := .tc) .vmem s (.here dst)} :
    iprop(ctx m K ∗ has c src' q X ∗ any c dst' ∗ tok c k 0)
      ⊢ Runs c (Prog.lift (.enqueueDma src (.here dst) s hsrc hdst hsem)) (fun _ => crd c k credit) := by
  subst hs hd e
  unfold any has owns
  simp only [Prog.lift]
  iintro ⟨#Hc, ⟨%fs, %hfs, Hs⟩, ⟨%fd, Hd⟩, Ht⟩
  iapply (Rounds.wp_copy_pointsTo 𝒱₀ ER (sched m) (c : Thread nD τ) none (κ := K (c, k)) (r := 0) (d := 0) (fs := fs) (fd := fd)
    ((duties_cell m c k).symm ▸ hk) () credit hN ((amount_cell m c k 0).trans ha)
    (by
      rw [payload_cell]
      exact (BIClass.sep_mono (has_intro c dst fullShare _ X (by rw [hfs]; exact View.read_write_univ _ _)) (has_intro c src q fs X hfs)).trans hp)) $$ [Hs Hd Ht]
  · isplitr; · iapply (ctx_inv m K c k); iexact Hc
    isplitl [Hs]; · iexact Hs
    isplitl [Hd]; · iexact Hd
    isplitl [Ht]; · iexact Ht
    iapply (ctx_reached m K c k); iexact Hc
  iintro Hcr
  rw [wp_ret]; imodintro
  iexact Hcr

end Moves

/-- A wait that takes a whole round at once. -/
theorem wait_step (c : Dev nD) (k : Fin 13) {s : SemLoc sig} (e : s = csem k) (w : TpuEff nD τ sig (Elt F) Λ₀ .tc PUnit) (n : ℕ)
    (hw : ∀ Q : PUnit → sProp 𝕄, wpE (defs₀ (F := F)) 𝒱₀ (c : Thread nD τ) none Set.univ w Q = waitSpec (c : Thread nD τ) Set.univ s n Q)
    (hn : n = (dut k).card * amt k) (O : CellTallies nD τ sig Unit) (hO : Above (lev k) O) :
    iprop((ctx m K ∗ ow c O) ∗ crd c k n ∗ fresh c k)
      ⊢ Runs c (Prog.lift w) (fun _ => iprop(ow c O ∗ over c k ∗ bigSep (dut k) (pay m c k))) := by
  subst e
  unfold ow
  simp only [Prog.lift]
  iintro ⟨⟨#Hc, %W, Ho⟩, Hcr, Hat⟩
  iapply (Rounds.wp_wait_rest_token 𝒱₀ ER (sched m) (c : Thread nD τ) none (κ := K (c, k)) hw (Set.mem_univ _) () (O := O) (W := W) (R := 0) (m := 0) (T := ∅)
      (by rw [expect_cell, hn, Nat.zero_add])) $$ [Hcr Ho Hat]
  · isplitr; · iapply (ctx_inv m K c k); iexact Hc
    isplitl [Hcr]; · iexact Hcr
    isplitl [Ho]; · iexact Ho
    isplitr
    · iapply (ctx_wait m K c k O hO); iexact Hc
    iexact Hat
  iintro ⟨Ho, Hat, -, Hp⟩
  rw [wp_ret]; imodintro
  isplitl [Ho]; · iexists _; iexact Ho
  isplitl [Hat]; · iexact Hat
  have e : bigSep ((sched (F := F) m).duties (cell c k) 0 \ ∅) (fun d => (sched (F := F) m).payload (cell c k) 0 d) = bigSep (dut k) (pay m c k) := by
    rw [Finset.sdiff_empty, duties_cell]; exact bigSep_congr fun d _ => payload_cell m c k d
  iapply (Entails.of_eq e); iexact Hp

/-- A semaphore in the middle of its round, a list of one-message waits still ahead. -/
def waiting {α : Type} (c : Dev nD) (k : Fin 13) (l : List α) : sProp 𝕄 :=
  if l.length = 0 then iprop(over c k ∗ bigSep Finset.univ (pay m c k))
  else iprop(⌜l.length ≤ 31⌝ ∗ ∃ T : Finset (Fin 31), atPos ER (cell c k) 0 T ((31 - l.length) * credit) ∗ bigSep T (pay m c k))

theorem waiting_start {α : Type} (c : Dev nD) (k : Fin 13) (l : List α) (hl : l.length = 31) : fresh c k ⊢ waiting m c k l := by
  unfold waiting
  rw [if_neg (by omega), hl, Nat.sub_self, Nat.zero_mul]
  iintro H
  isplitr; · ipureintro; omega
  iexists ∅
  isplitl [H]; · iexact H
  rw [bigSep_empty]; iempintro
theorem waiting_end {α : Type} (c : Dev nD) (k : Fin 13) : waiting m c k ([] : List α) = iprop(over c k ∗ bigSep Finset.univ (pay m c k)) := by
  unfold waiting; exact if_pos rfl

/-- A wait that takes one message's worth of a round of 31. -/
theorem waits_step {α : Type} (c : Dev nD) (k : Fin 13) (hk : k.val < 9) (ha : amt k = credit) {s : SemLoc sig} (e : s = csem k) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ s credit Q)
    (O : CellTallies nD τ sig Unit) (hO : Above (lev k) O) (a : α) (l : List α) :
    iprop(((ctx m K ∗ ow c O) ∗ waiting m c k (a :: l)) ∗ crd c k credit)
      ⊢ Runs c (Prog.lift w) (fun _ => iprop(((ctx m K ∗ ow c O) ∗ waiting m c k l) ∗ emp)) := by
  subst e
  have hd : (sched (F := F) m).duties (cell c k) 0 = Finset.univ := (duties_cell m c k).trans (dut_peers k hk)
  have hE : (sched (F := F) m).expect (cell c k) 0 = 31 * credit := by
    rw [expect_cell, dut_peers k hk, ha, Finset.card_univ, Fintype.card_fin]
  have hp (T : Finset (Fin 31)) : bigSep T (fun d => (sched (F := F) m).payload (cell c k) 0 d) = bigSep T (pay m c k) :=
    bigSep_congr fun d _ => payload_cell m c k d
  unfold ow
  rw [show waiting m c k (a :: l) = iprop(⌜l.length + 1 ≤ 31⌝ ∗ ∃ T : Finset (Fin 31), atPos ER (cell c k) 0 T ((31 - (l.length + 1)) * credit) ∗ bigSep T (pay m c k)) from if_neg (by simp)]
  simp only [Prog.lift]
  iintro ⟨⟨⟨#Hc, %W, Ho⟩, %hl, %T, Hat, HT⟩, Hcr⟩
  by_cases h0 : l.length = 0
  · iapply (Rounds.wp_wait_rest_token 𝒱₀ ER (sched m) (c : Thread nD τ) none (κ := K (c, k)) hw (Set.mem_univ _) () (O := O) (W := W) (R := 0)
        (m := (31 - (l.length + 1)) * credit) (T := T) (by rw [hE, h0]; omega)) $$ [Hcr Ho Hat]
    · isplitr; · iapply (ctx_inv m K c k); iexact Hc
      isplitl [Hcr]; · iexact Hcr
      isplitl [Ho]; · iexact Ho
      isplitr
      · iapply (ctx_wait m K c k O hO); iexact Hc
      iexact Hat
    iintro ⟨Ho, Hat, -, Hp⟩
    rw [wp_ret]; imodintro
    isplitl; rotate_left; · iempintro
    isplitl [Ho]
    · isplitr; · iexact Hc
      iexists _; iexact Ho
    unfold waiting; rw [if_pos h0]
    isplitl [Hat]; · iexact Hat
    ihave Hp := (Entails.of_eq ((congrArg (fun D => bigSep (D \ T) (fun d => (sched (F := F) m).payload (cell c k) 0 d)) hd).trans (hp _))) $$ Hp
    iapply (Entails.of_eq (parted (Finset.subset_univ T) (pay m c k)).symm)
    isplitl [HT] <;> iassumption
  · iapply (Rounds.wp_wait 𝒱₀ ER (sched m) (c : Thread nD τ) none (κ := K (c, k)) hw (Set.mem_univ _) (cr := Finsupp.single () credit) (O := O) (W := W)
        {(csem k, ())} (R := 0) (m := (31 - (l.length + 1)) * credit) (T := T) (by rw [Util.total_single]) (image_single_subset (csem k) () credit)) $$ [Hcr Ho Hat]
    · isplitr; · iapply (ctx_inv m K c k); iexact Hc
      isplitl [Hcr]; · iexact Hcr
      isplitl [Ho]; · iexact Ho
      isplitr
      · iapply (ctx_wait m K c k O hO); iexact Hc
      iexact Hat
    iintro %S ⟨%hS, Ho, Hat, Hp⟩
    rw [wp_ret]; imodintro
    isplitl; rotate_left; · iempintro
    isplitl [Ho]
    · isplitr; · iexact Hc
      iexists _; iexact Ho
    unfold waiting; rw [if_neg h0]
    isplitr; · ipureintro; omega
    iexists S
    have e2 : (31 - (l.length + 1)) * credit + credit = (31 - l.length) * credit := by
      rw [← Nat.succ_mul]; congr 1; omega
    isplitl [Hat]
    · rw [← e2]; iexact Hat
    ihave Hp := (Entails.of_eq (hp _)) $$ Hp
    iapply (Entails.of_eq (parted hS.1 (pay m c k)).symm)
    isplitl [HT] <;> iassumption

/-- 31 one-message waits take the whole round. -/
theorem waits_run (c : Dev nD) (k : Fin 13) (hk : k.val < 9) (ha : amt k = credit) {s : SemLoc sig} (e : s = csem k)
    (w : Fin 31 → TpuEff nD τ sig (Elt F) Λ₀ .tc PUnit)
    (hw : ∀ r, ∀ Q : PUnit → sProp 𝕄, wpE (defs₀ (F := F)) 𝒱₀ (c : Thread nD τ) none Set.univ (w r) Q = waitSpec (c : Thread nD τ) Set.univ s credit Q)
    (O : CellTallies nD τ sig Unit) (hO : Above (lev k) O) :
    iprop((ctx m K ∗ ow c O) ∗ fresh c k ∗ bigSep Finset.univ (fun _ : Fin 31 => crd (F := F) c k credit))
      ⊢ Runs c (each far fun r => Prog.lift (w r)) (fun _ => iprop(ow c O ∗ over c k ∗ bigSep Finset.univ (pay m c k))) := by
  iintro ⟨Hc, Hat, Hcr⟩
  ihave Hw := (far_run c (fun r => Prog.lift (w r)) (fun l => iprop((ctx m K ∗ ow c O) ∗ waiting m c k l)) (fun _ => crd (F := F) c k credit) (fun _ => iprop(emp))
    (fun a l => waits_step m K c k hk ha e (w a) (hw a) O hO a l)) $$ [Hc Hat Hcr]
  · isplitr [Hcr]
    · isplitl [Hc]; · iexact Hc
      iapply (waiting_start m c k far rfl); iexact Hat
    iexact Hcr
  iapply (wp_wand frame _ Set.univ) $$ Hw
  iintro %u ⟨⟨⟨-, Ho⟩, H⟩, -⟩
  isplitl [Ho]; · iexact Ho
  iapply (Entails.of_eq (waiting_end (α := Fin 31) m c k)); iexact H

end Cert.KernelIdeal.Gelu
-- ==== Proof.Stages.lean ====
/-
  The stages of the kernel that move blocks: signals, scatter, collect and drain.
-/
module

public import proofs.«01_k».proof.Proof.Steps

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ)

/-! ## Families over the ring -/

/-- A family over 32 places: the first, and the other 31. -/
theorem headed (Φ : Fin 32 → sProp 𝕄) : bigSep Finset.univ Φ = iprop(Φ 0 ∗ bigSep Finset.univ fun r : Fin 31 => Φ r.succ) := by
  rw [Fin.univ_succ, Finset.cons_eq_insert, BI.bigSep_insert (by simp), BI.bigSep_map]; rfl
/-- A family over 31 distances, counted the other way. -/
theorem reversed (Φ : Fin 31 → sProp 𝕄) : bigSep Finset.univ Φ = bigSep Finset.univ fun r => Φ (Fin.rev r) := BI.bigSep_univ_equiv Fin.revPerm Φ
theorem all_slots (Φ : Fin 32 → sProp 𝕄) : bigSep Finset.univ Φ = iprop(Φ 0 ∗ bigSep Finset.univ fun r : Fin 31 => Φ (lands r)) := by
  rw [headed, reversed]; simp only [lands_eq]
theorem all_peers (c : Dev nD) (Φ : Dev nD → sProp 𝕄) : bigSep Finset.univ Φ = iprop(Φ c ∗ bigSep Finset.univ fun r : Fin 31 => Φ (peer c r)) := by
  rw [BI.bigSep_univ_equiv (fromHere c) Φ, headed]
  show iprop(Φ (aft c 0) ∗ _) = _
  rw [aft_zero]; rfl
theorem all_peers_rev (c : Dev nD) (Φ : Dev nD → sProp 𝕄) : bigSep Finset.univ Φ = iprop(Φ c ∗ bigSep Finset.univ fun r : Fin 31 => Φ (peer c (Fin.rev r))) := by
  rw [all_peers c Φ, reversed]

/-- One program after another. -/
theorem seq_run (c : Dev nD) {p q : Body F PUnit} {P R : sProp 𝕄} {Q : PUnit → sProp 𝕄} (hp : P ⊢ Runs c p (fun _ => R)) (hq : R ⊢ Runs c q Q) :
    P ⊢ Runs c (p >>= fun _ => q) Q := by
  unfold Runs
  rw [wp_bind]
  iintro H
  ihave Hw := hp $$ H
  iapply (wp_wand frame _ Set.univ) $$ Hw
  iintro %u HR
  iapply hq $$ HR

/-! ## The barrier -/

theorem signals_run (c : Dev nD) (O : CellTallies nD τ sig Unit) :
    iprop((ctx m K ∗ ow c (O + due c 0 near)) ∗ bigSep Finset.univ fun r : Fin 31 => iprop(tok (F := F) (peer c r) 0 r ∗ offers c (peer c r) r))
      ⊢ Runs c (signals c) (fun _ => ow c O) := by
  unfold signals
  iintro H
  ihave Hw := (near_run c _ (fun l => iprop(ctx m K ∗ ow c (O + due c 0 l))) (fun r => iprop(tok (peer c r) 0 r ∗ offers c (peer c r) r)) (fun _ => iprop(emp))
    (fun r l => by
      rw [due_cons, ← add_assoc]
      iintro ⟨⟨#Hc, Ho⟩, Ht⟩
      ihave Hw := (signal_step m K c _ r (hop_peer c r) (O + due c 0 l)) $$ [Ho Ht]
      · isplitl [Ho]
        · isplitr; · iexact Hc
          iexact Ho
        iexact Ht
      iapply (wp_wand frame _ Set.univ) $$ Hw
      iintro %u Ho
      isplitl
      · isplitr; · iexact Hc
        iexact Ho
      iempintro)) $$ H
  iapply (wp_wand frame _ Set.univ) $$ Hw
  iintro %u ⟨⟨-, Ho⟩, -⟩
  rw [due_nil, add_zero]
  iexact Ho

theorem barrier_run (c : Dev nD) (O : CellTallies nD τ sig Unit) (hO : Above 1 O) :
    iprop((ctx m K ∗ ow c O) ∗ crd c 0 31 ∗ fresh c 0)
      ⊢ Runs c (semWaitWord barSem 31#32) (fun _ => iprop(ow c O ∗ over c 0 ∗ bigSep Finset.univ fun r : Fin 31 => offers (F := F) (peer c r) c (Fin.rev r))) := by
  iintro H
  ihave Hw := (wait_step m K c 0 sem_bar (.semWait barSem (31#32).toInt) 31 (fun Q => rfl) (by decide) O hO) $$ H
  iapply (wp_wand frame _ Set.univ) $$ Hw
  iintro %u ⟨Ho, Hat, Hp⟩
  isplitl [Ho]; · iexact Ho
  isplitl [Hat]; · iexact Hat
  have e : bigSep (dut 0) (pay m c 0) = bigSep Finset.univ fun r : Fin 31 => offers (F := F) (peer c r) c (Fin.rev r) := by
    rw [dut_peers 0 (by decide), reversed]
    exact bigSep_congr fun r _ => by show offers (peer c (Fin.rev (Fin.rev r))) c (Fin.rev r) = _; rw [Fin.rev_rev]
  iapply (Entails.of_eq e); iexact Hp

/-! ## Scatter -/

abbrev wz : (zM : Memref sig .tc .vmem S512x512 .bf16).IsWhole := Memref.isWhole_whole _
abbrev wo : (oM : Memref sig .tc .vmem S512x512 .bf16).IsWhole := Memref.isWhole_whole _
abbrev wr : (rM : Memref sig .tc .vmem S16x512 .bf16).IsWhole := Memref.isWhole_whole _
abbrev wv : (vM : Memref sig .tc .vmem S2x32x16x256 .bf16).IsWhole := Memref.isWhole_whole _

theorem mem_dut (k : Fin 13) (h : k.val < 9) (d : Fin 31) : d ∈ dut k := by rw [dut_peers k h]; exact Finset.mem_univ d
theorem zero_mem_dut (k : Fin 13) (h : 9 ≤ k.val) : (0 : Fin 31) ∈ dut k := by rw [dut_copy k h]; exact Finset.mem_singleton_self 0

/-- What sending peer `r` its block takes. -/
def need1 (c : Dev nD) (h : Fin 2) (r : Fin 31) : sProp 𝕄 :=
  iprop(has c (blk zM h (peer c r)) fullShare (zblk m c h (peer c r)) ∗ any (peer c r) (slot vM h (lands r)) ∗ tok c (kS1 h) r ∗ tok (peer c r) (kR1 h) r)

theorem send1_run (c : Dev nD) (h : Fin 2) (r : Fin 31) (O : CellTallies nD τ sig Unit) :
    iprop((ctx m K ∗ ow c (O + tallyAt (cell (peer c r) (kR1 h)) () (amt (kR1 h)))) ∗ need1 m c h r)
      ⊢ Runs c (send1 zM wz vM wv cc0_scratch3 cc0_scratch4 h c r) (fun _ => iprop(ow c O ∗ crd c (kS1 h) credit)) := by
  unfold need1
  exact send_step (dst := slot vM h (lands r)) (dst' := slot vM h (lands r)) m K c _ (peer c r) (hop_peer c r) (zTo_eq zM h c r) rfl (kS1 h) (kR1 h) (sem_s1 h) (sem_r1 h) r r
    (mem_dut _ (by show 1 + h.val < 9; omega) r) (mem_dut _ (by show 3 + h.val < 9; omega) r)
    (amt_ne _ (by show 1 + h.val ≠ 0; omega)) (amt_ne _ (by show 3 + h.val ≠ 0; omega)) rfl fullShare (zblk m c h (peer c r))
    (by rw [pay_s1]; exact any_of_has (F := F) c (blk zM h (peer c r)) _)
    (by rw [pay_r1]; unfold got1; rw [aft_lands]) O

theorem keep1_run (c : Dev nD) (h : Fin 2) :
    iprop(ctx m K ∗ has c (blk zM h c) fullShare (zblk m c h c) ∗ any c (slot vM h 0) ∗ tok c (kC1 h) 0)
      ⊢ Runs c (keep1 zM wz vM wv cc0_scratch7 h c) (fun _ => crd (F := F) c (kC1 h) credit) :=
  copy_step (dst := slot vM h 0) (dst' := slot vM h 0) m K c (rows_eq zM h c) rfl (kC1 h) (sem_c1 h) (zero_mem_dut _ (by show 9 ≤ 9 + h.val; omega))
    (amt_ne _ (by show 9 + h.val ≠ 0; omega)) rfl fullShare (zblk m c h c)
    (by
      rw [pay_c1]; unfold got1; rw [aft_zero]
      iintro ⟨Hv, Hz⟩
      isplitl [Hz]
      · iapply (any_of_has (F := F) c (blk zM h c) (zblk m c h c)); iexact Hz
      iexact Hv)

theorem scatter_run (c : Dev nD) (h : Fin 2) (O : CellTallies nD τ sig Unit) :
    iprop((ctx m K ∗ ow c (O + due c (kR1 h) far)) ∗ bigSep Finset.univ (need1 m c h)
        ∗ has c (blk zM h c) fullShare (zblk m c h c) ∗ any c (slot vM h 0) ∗ tok c (kC1 h) 0)
      ⊢ Runs c (scatter zM wz vM wv cc0_scratch3 cc0_scratch4 cc0_scratch7 h c)
          (fun _ => iprop(ow c O ∗ (bigSep Finset.univ fun _ : Fin 31 => crd (F := F) c (kS1 h) credit) ∗ crd c (kC1 h) credit)) := by
  unfold scatter Runs
  rw [wp_bind]
  iintro ⟨⟨#Hc, Ho⟩, Hn, Hk⟩
  ihave Hw := (far_run c _ (fun l => iprop(ctx m K ∗ ow c (O + due c (kR1 h) l))) (need1 m c h) (fun _ => crd (F := F) c (kS1 h) credit)
    (fun r l => by
      rw [due_cons, ← add_assoc]
      iintro ⟨⟨#Hc, Ho⟩, Ht⟩
      ihave Hw := (send1_run m K c h r (O + due c (kR1 h) l)) $$ [Ho Ht]
      · isplitl [Ho]
        · isplitr; · iexact Hc
          iexact Ho
        iexact Ht
      iapply (wp_wand frame _ Set.univ) $$ Hw
      iintro %u ⟨Ho, Hcr⟩
      isplitl [Ho]
      · isplitr; · iexact Hc
        iexact Ho
      iexact Hcr)) $$ [Ho Hn]
  · isplitl [Ho]
    · isplitr; · iexact Hc
      iexact Ho
    iexact Hn
  iapply (wp_wand frame _ Set.univ) $$ Hw
  iintro %u ⟨⟨-, Ho⟩, Hcr⟩
  ihave Hw := (keep1_run m K c h) $$ [Hk]
  · isplitr; · iexact Hc
    iexact Hk
  iapply (wp_wand frame _ Set.univ) $$ Hw
  iintro %u Hk
  isplitl [Ho]
  · rw [due_nil, add_zero]; iexact Ho
  isplitl [Hcr]; · iexact Hcr
  iexact Hk

/-! ## Waiting for a local copy -/

theorem copied_run (c : Dev nD) (k : Fin 13) (hk : 9 ≤ k.val) {s : SemLoc sig} (e : s = csem k) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ s credit Q)
    (O : CellTallies nD τ sig Unit) (hO : Above (lev k) O) :
    iprop((ctx m K ∗ ow c O) ∗ crd c k credit ∗ fresh c k)
      ⊢ Runs c (Prog.lift w) (fun _ => iprop(ow c O ∗ over c k ∗ pay m c k 0)) := by
  iintro H
  ihave Hw := (wait_step m K c k e w credit hw (by rw [dut_copy k hk, Finset.card_singleton, one_mul, amt_ne k (by omega)]) O hO) $$ H
  iapply (wp_wand frame _ Set.univ) $$ Hw
  iintro %u ⟨Ho, Hat, Hp⟩
  isplitl [Ho]; · iexact Ho
  isplitl [Hat]; · iexact Hat
  have e : bigSep (dut k) (pay m c k) = pay m c k 0 := by rw [dut_copy k hk, bigSep_singleton]
  iapply (Entails.of_eq e); iexact Hp

theorem lev_c1 : ∀ h, lev (kC1 h) = 0 := by decide
theorem lev_c2 : ∀ h, lev (kC2 h) = 0 := by decide
theorem lev_s1 : ∀ h, lev (kS1 h) = 0 := by decide
theorem lev_s2 : ∀ h, lev (kS2 h) = 0 := by decide
theorem lev_r1 : ∀ h, lev (kR1 h) = 2 := by decide
theorem lev_r2 : ∀ h, lev (kR2 h) = 3 := by decide

section Waits
variable (c : Dev nD) (h : Fin 2) (O : CellTallies nD τ sig Unit)

theorem kept1_run (hO : Above (lev (kC1 h)) O) : iprop((ctx m K ∗ ow c O) ∗ crd c (kC1 h) credit ∗ fresh c (kC1 h))
    ⊢ Runs c (waitKeep1 zM wz vM wv cc0_scratch7 h c) (fun _ => iprop(ow c O ∗ over c (kC1 h) ∗ pay m c (kC1 h) 0)) :=
  copied_run m K c (kC1 h) (by show 9 ≤ 9 + h.val; omega) (sem_c1 h) _ (by intro Q; rfl) O hO
theorem kept2_run (hO : Above (lev (kC2 h)) O) : iprop((ctx m K ∗ ow c O) ∗ crd c (kC2 h) credit ∗ fresh c (kC2 h))
    ⊢ Runs c (waitKeep2 oM wo rM wr cc0_scratch7 h c) (fun _ => iprop(ow c O ∗ over c (kC2 h) ∗ pay m c (kC2 h) 0)) :=
  copied_run m K c (kC2 h) (by show 9 ≤ 11 + h.val; omega) (sem_c2 h) _ (by intro Q; rfl) O hO

/-- What waiting for 31 messages on one semaphore takes. -/
abbrev before (k : Fin 13) : sProp 𝕄 := iprop((ctx m K ∗ ow c O) ∗ fresh c k ∗ bigSep Finset.univ (fun _ : Fin 31 => crd (F := F) c k credit))
/-- What it gives. -/
abbrev after (k : Fin 13) : sProp 𝕄 := iprop(ow c O ∗ over c k ∗ bigSep Finset.univ (pay m c k))

theorem recv1_run (hO : Above (lev (kR1 h)) O) : before m K c O (kR1 h) ⊢ Runs c (each far fun r => waitRecv1 zM wz vM wv cc0_scratch4 h c r) (fun _ => after m c O (kR1 h)) :=
  waits_run m K c (kR1 h) (by show 3 + h.val < 9; omega) (amt_ne _ (by show 3 + h.val ≠ 0; omega)) (sem_r1 h) _ (by intro r Q; rfl) O hO
theorem recv2_run (hO : Above (lev (kR2 h)) O) : before m K c O (kR2 h) ⊢ Runs c (each far fun r => waitRecv2 oM wo rM wr cc0_scratch6 h c) (fun _ => after m c O (kR2 h)) :=
  waits_run m K c (kR2 h) (by show 7 + h.val < 9; omega) (amt_ne _ (by show 7 + h.val ≠ 0; omega)) (sem_r2 h) _ (by intro r Q; rfl) O hO
theorem sent1_run (hO : Above (lev (kS1 h)) O) : before m K c O (kS1 h) ⊢ Runs c (each far fun r => waitSend1 zM wz vM wv cc0_scratch3 h c r) (fun _ => after m c O (kS1 h)) :=
  waits_run m K c (kS1 h) (by show 1 + h.val < 9; omega) (amt_ne _ (by show 1 + h.val ≠ 0; omega)) (sem_s1 h) _ (by intro r Q; rfl) O hO
theorem sent2_run (hO : Above (lev (kS2 h)) O) : before m K c O (kS2 h) ⊢ Runs c (each far fun r => waitSend2 oM wo rM wr cc0_scratch5 h c) (fun _ => after m c O (kS2 h)) :=
  waits_run m K c (kS2 h) (by show 5 + h.val < 9; omega) (amt_ne _ (by show 5 + h.val ≠ 0; omega)) (sem_s2 h) _ (by intro r Q; rfl) O hO

end Waits

/-! ## Collect and drain -/

theorem collect_run (c : Dev nD) (h : Fin 2) :
    iprop((ctx m K ∗ ow c 0) ∗ crd c (kC2 h) credit ∗ fresh c (kC2 h) ∗ fresh c (kR2 h) ∗ bigSep Finset.univ fun _ : Fin 31 => crd (F := F) c (kR2 h) credit)
      ⊢ Runs c (collect oM wo rM wr cc0_scratch6 cc0_scratch7 h c)
          (fun _ => iprop(ow c 0 ∗ over c (kC2 h) ∗ over c (kR2 h) ∗ left2 m c h 0 ∗ bigSep Finset.univ fun p : Dev nD => got2 m c h p)) := by
  unfold collect Runs
  rw [wp_bind]
  iintro ⟨⟨#Hc, Ho⟩, Hk, Hf, Hf', Hcr⟩
  ihave Hw := (kept2_run m K c h 0 (above_zero _)) $$ [Ho Hk Hf]
  · isplitl [Ho]
    · isplitr; · iexact Hc
      iexact Ho
    isplitl [Hk] <;> iassumption
  iapply (wp_wand frame _ Set.univ) $$ Hw
  iintro %u ⟨Ho, Hov, Hp⟩
  ihave Hw := (recv2_run m K c h 0 (above_zero _)) $$ [Ho Hf' Hcr]
  · isplitl [Ho]
    · isplitr; · iexact Hc
      iexact Ho
    isplitl [Hf'] <;> iassumption
  iapply (wp_wand frame _ Set.univ) $$ Hw
  iintro %u ⟨Ho, Hov', Hps⟩
  isplitl [Ho]; · iexact Ho
  isplitl [Hov]; · iexact Hov
  isplitl [Hov']; · iexact Hov'
  ihave Hp := (Entails.of_eq (pay_c2 m c h 0)) $$ Hp
  icases Hp with ⟨Hl, Hg⟩
  isplitl [Hl]; · iexact Hl
  have e : bigSep Finset.univ (pay m c (kR2 h)) = bigSep Finset.univ fun r : Fin 31 => got2 m c h (peer c (Fin.rev r)) := bigSep_congr fun r _ => pay_r2 m c h r
  ihave Hps := (Entails.of_eq e) $$ Hps
  iapply (Entails.of_eq (all_peers_rev c (fun p => got2 m c h p)).symm)
  isplitl [Hg] <;> iassumption

theorem drain_run (c : Dev nD) (h : Fin 2) :
    iprop((ctx m K ∗ ow c 0) ∗ fresh c (kS1 h) ∗ (bigSep Finset.univ fun _ : Fin 31 => crd (F := F) c (kS1 h) credit)
        ∗ fresh c (kS2 h) ∗ bigSep Finset.univ fun _ : Fin 31 => crd (F := F) c (kS2 h) credit)
      ⊢ Runs c (drain oM wo zM wz rM wr vM wv cc0_scratch3 cc0_scratch5 h c)
          (fun _ => iprop(ow c 0 ∗ over c (kS1 h) ∗ over c (kS2 h) ∗ (bigSep Finset.univ fun r : Fin 31 => left1 (F := F) c h r)
            ∗ bigSep Finset.univ fun r : Fin 31 => left2 m c h r.succ)) := by
  unfold drain Runs
  rw [wp_bind]
  iintro ⟨⟨#Hc, Ho⟩, Hf, Hcr, Hf', Hcr'⟩
  ihave Hw := (sent1_run m K c h 0 (above_zero _)) $$ [Ho Hf Hcr]
  · isplitl [Ho]
    · isplitr; · iexact Hc
      iexact Ho
    isplitl [Hf] <;> iassumption
  iapply (wp_wand frame _ Set.univ) $$ Hw
  iintro %u ⟨Ho, Hov, Hps⟩
  ihave Hw := (sent2_run m K c h 0 (above_zero _)) $$ [Ho Hf' Hcr']
  · isplitl [Ho]
    · isplitr; · iexact Hc
      iexact Ho
    isplitl [Hf'] <;> iassumption
  iapply (wp_wand frame _ Set.univ) $$ Hw
  iintro %u ⟨Ho, Hov', Hps'⟩
  isplitl [Ho]; · iexact Ho
  isplitl [Hov]; · iexact Hov
  isplitl [Hov']; · iexact Hov'
  have e : bigSep Finset.univ (pay m c (kS1 h)) = bigSep Finset.univ fun r : Fin 31 => left1 (F := F) c h r := bigSep_congr fun r _ => pay_s1 m c h r
  have e' : bigSep Finset.univ (pay m c (kS2 h)) = bigSep Finset.univ fun r : Fin 31 => left2 m c h r.succ := bigSep_congr fun r _ => pay_s2 m c h r
  isplitl [Hps]
  · iapply (Entails.of_eq e); iexact Hps
  iapply (Entails.of_eq e'); iexact Hps'

end Cert.KernelIdeal.Gelu
-- ==== Proof.Sum.lean ====
/-
  The stages of the kernel that compute: the product, and one column half's sum and gelu.
-/
module

public import proofs.«01_k».proof.Proof.Stages

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ)

/-! ## The product -/

theorem product_run (c : Dev nD) :
    iprop((((c : Thread nD τ).loc cc0_stg0_0) ↦{fullShare} xA m c) ∗ (((c : Thread nD τ).loc cc0_stg1_0) ↦{fullShare} xB m c) ∗ (∃ f, ((c : Thread nD τ).loc cc0_scratch0) ↦{fullShare} f))
      ⊢ Runs c (product aM bM zM wz) (fun _ => iprop((((c : Thread nD τ).loc cc0_stg0_0) ↦{fullShare} xA m c) ∗ (((c : Thread nD τ).loc cc0_stg1_0) ↦{fullShare} xB m c)
          ∗ bigSep Finset.univ fun t : Fin 2 × Dev nD => has c (blk zM t.1 t.2) fullShare (zblk m c t.1 t.2))) := by
  unfold product Runs
  simp only [Prog.lift]
  iintro ⟨HA, HB, %f, HZ⟩
  iapply (wp_load 𝒱₀ (c : Thread nD τ) none Set.univ (m := aM) (Finset.subset_univ _)) $$ HA
  iintro HA
  iapply (wp_load 𝒱₀ (c : Thread nD τ) none Set.univ (m := bM) (Finset.subset_univ _)) $$ HB
  iintro HB
  iapply (wp_load 𝒱₀ (c : Thread nD τ) none Set.univ (m := zM) (Finset.subset_univ _)) $$ HZ
  iintro HZ
  iapply (wp_store 𝒱₀ (c : Thread nD τ) none Set.univ (m := zM) (r := Rect.unit (s := S512x512) ![0, 0] S512x512.size inb_S512x512_S512x512_0_0) (S := Finset.univ) (Finset.subset_univ _)) $$ HZ
  iintro HZ
  rw [wp_ret]; imodintro
  isplitl [HA]; · iexact HA
  isplitl [HB]; · iexact HB
  have ea : (aM : Memref sig .tc .vmem S512x256 .bf16).view.readAt (Elt F) (Rect.unit (s := S512x256) ![0, 0] S512x256.size inb_S512x256_S512x256_0_0).toLoadRect (xA m c) = xA m c :=
    Memref.readAt_unit_zero (Elt F) cc0_stg0_0 (by decide) _ _
  have eb : (bM : Memref sig .tc .vmem S256x512 .bf16).view.readAt (Elt F) (Rect.unit (s := S256x512) ![0, 0] S256x512.size inb_S256x512_S256x512_0_0).toLoadRect (xB m c) = xB m c :=
    Memref.readAt_unit_zero (Elt F) cc0_stg1_0 (by decide) _ _
  have ez (w : cc0_scratch0.ty.Contents (Elt F)) : ((zM : Memref sig .tc .vmem S512x512 .bf16).access (Rect.unit (s := S512x512) ![0, 0] S512x512.size inb_S512x512_S512x512_0_0)).write (Elt F) f w Finset.univ = w :=
    Memref.write_access_unit_zero_univ (Elt F) cc0_scratch0 (by decide) _ _ _
  have e : (((c : Thread nD τ).loc cc0_scratch0) ↦{fullShare} zval m c : sProp 𝕄) ⊢ bigSep Finset.univ fun t : Fin 2 × Dev nD => has c (blk zM t.1 t.2) fullShare (zblk m c t.1 t.2) := by
    rw [← owns_whole]
    exact owns_rects (c : Thread nD τ) zM fullShare blkRs (fun _ _ => rfl) blk_disjoint blk_cover (zval m c)
  iapply e
  rw [ea, eb, ez]
  iexact HZ

/-! ## One column half -/

theorem load_run (c : Dev nD) (h : Fin 2) (s : Fin 32) (X : Blk F) :
    has c (slot vM h s) fullShare X ⊢ Runs c (loadSlot vM h s) (fun v => iprop(⌜wide v = part X⌝ ∗ has c (slot vM h s) fullShare X)) := by
  unfold loadSlot has owns
  simp only [Prog.lift]
  iintro ⟨%f, %hf, H⟩
  iapply (wp_load 𝒱₀ (c : Thread nD τ) none Set.univ (m := vM) (S := (slot vM h s).view.set) (by
    have e : (slot vM h s).view.set = (vM.view.slice (slotR h s)).set := View.set_reshape _ _
    rw [e, View.set_slice]; exact subset_rfl)) $$ H
  iintro H
  rw [wp_ret]; imodintro
  isplitr
  · ipureintro
    subst hf; rfl
  iexists f
  isplitr; · (ipureintro; exact hf)
  iexact H

theorem load_got (c : Dev nD) (h : Fin 2) (s : Fin 32) :
    got1 m c h s ⊢ Runs c (loadSlot vM h s) (fun v => iprop(⌜wide v = part (zblk m (aft c s) h c)⌝ ∗ got1 m c h s)) := by
  unfold got1; exact load_run c h s (zblk m (aft c s) h c)

theorem sum_run (c : Dev nD) (h : Fin 2) (k : FVec F S16x256 .f32 → Body F PUnit) (Q : PUnit → sProp 𝕄) : ∀ (l : List (Fin 32)) (acc : FVec F S16x256 .f32),
    iprop((bigSep Finset.univ fun s : Fin 32 => got1 m c h s)
      ∗ ((bigSep Finset.univ fun s : Fin 32 => got1 m c h s) -∗ Runs c (k (l.foldl (fun acc s => addf acc (part (zblk m (aft c s) h c))) acc)) Q))
      ⊢ Runs c (addSlots vM h l acc k) Q
  | [], acc => by
    iintro ⟨H, Hk⟩
    iapply Hk $$ H
  | s :: l, acc => by
    unfold addSlots Runs
    rw [wp_bind]
    iintro ⟨H, Hk⟩
    ihave H := (Entails.of_eq (bigSep_univ_at (fun s : Fin 32 => got1 m c h s) s)) $$ H
    icases H with ⟨Hs, H⟩
    ihave Hw := (load_got m c h s) $$ Hs
    iapply (wp_wand frame _ Set.univ) $$ Hw
    iintro %v ⟨%hv, Hs⟩
    iapply (sum_run c h k Q l (addf acc (wide v)))
    isplitl [Hs H]
    · iapply (Entails.of_eq (bigSep_univ_at (fun s : Fin 32 => got1 m c h s) s).symm)
      isplitl [Hs] <;> iassumption
    rw [hv]
    iexact Hk

theorem storeHalf_run (c : Dev nD) (h : Fin 2) (x : FVec F S16x256 .f32) :
    any c (half rM h) ⊢ Runs c (storeHalf rM wr h x) (fun _ => has c (half rM h) fullShare (gelu x)) := by
  unfold storeHalf any
  simp only [Prog.lift]
  iintro ⟨%f, H⟩
  iapply (wp_load 𝒱₀ (c : Thread nD τ) none Set.univ (m := rM) (S := (half rM h).view.set) (by
    show _ ⊆ (rM.view.slice (halfR h)).set
    rw [View.set_slice]; exact subset_rfl)) $$ H
  iintro H
  iapply (wp_store 𝒱₀ (c : Thread nD τ) none Set.univ (m := rM) (r := halfR h) (S := (half rM h).view.set) subset_rfl) $$ H
  iintro H
  rw [wp_ret]; imodintro
  iapply (has_intro c (half rM h) fullShare ((half rM h).view.write (Elt F) f (gelu x) Finset.univ) (gelu x) (View.read_write_univ _ _))
  iexact H

/-- What sending peer `r` the reduced rows takes, besides the rows. -/
def need2 (c : Dev nD) (h : Fin 2) (r : Fin 31) : sProp 𝕄 := iprop(tok c (kS2 h) r ∗ any (peer c r) (blk oM h c) ∗ tok (peer c r) (kR2 h) r)

theorem send2_run (c : Dev nD) (h : Fin 2) (r : Fin 31) (O : CellTallies nD τ sig Unit) :
    iprop((ctx m K ∗ ow c (O + tallyAt (cell (peer c r) (kR2 h)) () (amt (kR2 h)))) ∗ left2 m c h r.succ ∗ need2 c h r)
      ⊢ Runs c (send2 oM wo rM wr cc0_scratch5 cc0_scratch6 h c r) (fun _ => iprop(ow c O ∗ crd c (kS2 h) credit)) := by
  have hw : iprop((ctx m K ∗ ow c (O + tallyAt (cell (peer c r) (kR2 h)) () (amt (kR2 h)))) ∗ has c (half rM h) (shr r.succ) (gblk m c h)
        ∗ any (peer c r) (blk oM h c) ∗ tok c (kS2 h) r ∗ tok (peer c r) (kR2 h) r)
      ⊢ Runs c (send2 oM wo rM wr cc0_scratch5 cc0_scratch6 h c r) (fun _ => iprop(ow c O ∗ crd c (kS2 h) credit)) :=
    send_step (src := half rM h) (src' := half rM h) (dst := rows oM h c) (dst' := blk oM h c) m K c _ (peer c r) (hop_peer c r) rfl (rows_eq oM h c) (kS2 h) (kR2 h) (sem_s2 h) (sem_r2 h) r r
      (mem_dut _ (by show 5 + h.val < 9; omega) r) (mem_dut _ (by show 7 + h.val < 9; omega) r)
      (amt_ne _ (by show 5 + h.val ≠ 0; omega)) (amt_ne _ (by show 7 + h.val ≠ 0; omega)) rfl (shr r.succ) (gblk m c h)
      (by rw [pay_s2]; unfold left2; exact .rfl)
      (by rw [pay_r2]; unfold got2; rw [peer_rev]) O
  unfold left2 need2
  iintro ⟨Hc, Hl, Ht, Ha, Ht'⟩
  iapply hw
  isplitl [Hc]; · iexact Hc
  isplitl [Hl]; · iexact Hl
  isplitl [Ha]; · iexact Ha
  isplitl [Ht] <;> iassumption

theorem keep2_run (c : Dev nD) (h : Fin 2) :
    iprop(ctx m K ∗ left2 m c h 0 ∗ any c (blk oM h c) ∗ tok c (kC2 h) 0)
      ⊢ Runs c (keep2 oM wo rM wr cc0_scratch7 h c) (fun _ => crd (F := F) c (kC2 h) credit) :=
  copy_step (src := half rM h) (src' := half rM h) (dst := rows oM h c) (dst' := blk oM h c) m K c rfl (rows_eq oM h c) (kC2 h) (sem_c2 h) (zero_mem_dut _ (by show 9 ≤ 11 + h.val; omega))
    (amt_ne _ (by show 11 + h.val ≠ 0; omega)) rfl (shr 0) (gblk m c h)
    (by
      rw [pay_c2]; unfold left2 got2
      iintro ⟨Hv, Hz⟩
      isplitl [Hz] <;> iassumption)

/-- The second half of a column half's reduction: the rows are stored and sent. -/
theorem emit_run (c : Dev nD) (h : Fin 2) (O : CellTallies nD τ sig Unit) :
    iprop((ctx m K ∗ ow c (O + due c (kR2 h) far)) ∗ any c (half rM h) ∗ bigSep Finset.univ (need2 c h) ∗ any c (blk oM h c) ∗ tok c (kC2 h) 0)
      ⊢ Runs c (storeHalf rM wr h (gsum m c h) >>= fun _ => keep2 oM wo rM wr cc0_scratch7 h c >>= fun _ => each far fun r => send2 oM wo rM wr cc0_scratch5 cc0_scratch6 h c r)
          (fun _ => iprop(ow c O ∗ crd c (kC2 h) credit ∗ bigSep Finset.univ fun _ : Fin 31 => crd (F := F) c (kS2 h) credit)) := by
  unfold Runs
  rw [wp_bind]
  iintro ⟨⟨#Hc, Ho⟩, Hr, Hn, Ha, Ht⟩
  ihave Hw := (storeHalf_run c h (gsum m c h)) $$ Hr
  iapply (wp_wand frame _ Set.univ) $$ Hw
  iintro %u Hr
  have e : (has c (half rM h) fullShare (gelu (gsum m c h)) : sProp 𝕄) = iprop(left2 m c h 0 ∗ bigSep Finset.univ fun r : Fin 31 => left2 m c h r.succ) :=
    (has_shares c (half rM h) (gblk m c h)).trans (headed _)
  ihave Hr := (Entails.of_eq e) $$ Hr
  icases Hr with ⟨Hr0, Hr⟩
  rw [wp_bind]
  ihave Hw := (keep2_run m K c h) $$ [Hr0 Ha Ht]
  · isplitr; · iexact Hc
    isplitl [Hr0]; · iexact Hr0
    isplitl [Ha] <;> iassumption
  iapply (wp_wand frame _ Set.univ) $$ Hw
  iintro %u Hk
  ihave Hrn := (Entails.of_eq (bigSep_sep' Finset.univ (fun r : Fin 31 => left2 m c h r.succ) (need2 c h)).symm) $$ [Hr Hn]
  · isplitl [Hr] <;> iassumption
  ihave Hw := (far_run c (fun r => send2 oM wo rM wr cc0_scratch5 cc0_scratch6 h c r) (fun l => iprop(ctx m K ∗ ow c (O + due c (kR2 h) l)))
    (fun r => iprop(left2 m c h r.succ ∗ need2 c h r)) (fun _ => crd (F := F) c (kS2 h) credit)
    (fun r l => by
      rw [due_cons, ← add_assoc]
      iintro ⟨⟨#Hc, Ho⟩, Ht⟩
      ihave Hw := (send2_run m K c h r (O + due c (kR2 h) l)) $$ [Ho Ht]
      · isplitl [Ho]
        · isplitr; · iexact Hc
          iexact Ho
        iexact Ht
      iapply (wp_wand frame _ Set.univ) $$ Hw
      iintro %u ⟨Ho, Hcr⟩
      isplitl [Ho]
      · isplitr; · iexact Hc
        iexact Ho
      iexact Hcr)) $$ [Ho Hrn]
  · isplitl [Ho]
    · isplitr; · iexact Hc
      iexact Ho
    iexact Hrn
  iapply (wp_wand frame _ Set.univ) $$ Hw
  iintro %u ⟨⟨-, Ho⟩, Hcr⟩
  isplitl [Ho]
  · rw [due_nil, add_zero]; iexact Ho
  isplitl [Hk] <;> iassumption

theorem reduce_run (c : Dev nD) (h : Fin 2) (O : CellTallies nD τ sig Unit) (hO : Above 2 (O + due c (kR2 h) far)) :
    iprop((ctx m K ∗ ow c (O + due c (kR2 h) far))
        ∗ (crd c (kC1 h) credit ∗ fresh c (kC1 h))
        ∗ (fresh c (kR1 h) ∗ bigSep Finset.univ fun _ : Fin 31 => crd (F := F) c (kR1 h) credit)
        ∗ any c (half rM h) ∗ bigSep Finset.univ (need2 c h) ∗ any c (blk oM h c) ∗ tok c (kC2 h) 0)
      ⊢ Runs c (reduce oM wo zM wz rM wr vM wv cc0_scratch4 cc0_scratch5 cc0_scratch6 cc0_scratch7 h c)
          (fun _ => iprop(ow c O ∗ over c (kC1 h) ∗ over c (kR1 h) ∗ any c (blk zM h c) ∗ (bigSep Finset.univ fun s : Fin 32 => any (F := F) c (slot vM h s))
            ∗ crd c (kC2 h) credit ∗ bigSep Finset.univ fun _ : Fin 31 => crd (F := F) c (kS2 h) credit)) := by
  unfold reduce Runs
  rw [wp_bind]
  iintro ⟨⟨#Hc, Ho⟩, Hk, Hcr, Hrest⟩
  ihave Hw := (kept1_run m K c h _ (above_mono (by rw [lev_c1]; decide) hO)) $$ [Ho Hk]
  · isplitl [Ho]
    · isplitr; · iexact Hc
      iexact Ho
    iexact Hk
  iapply (wp_wand frame _ Set.univ) $$ Hw
  iintro %u ⟨Ho, Hov, Hp⟩
  rw [wp_bind]
  ihave Hw := (recv1_run m K c h _ (by rw [lev_r1]; exact hO)) $$ [Ho Hcr]
  · isplitl [Ho]
    · isplitr; · iexact Hc
      iexact Ho
    iexact Hcr
  iapply (wp_wand frame _ Set.univ) $$ Hw
  iintro %u ⟨Ho, Hov', Hps⟩
  ihave Hp := (Entails.of_eq (pay_c1 m c h 0)) $$ Hp
  icases Hp with ⟨Hz, Hg⟩
  have e : bigSep Finset.univ (pay m c (kR1 h)) = bigSep Finset.univ fun r : Fin 31 => got1 m c h (lands r) := bigSep_congr fun r _ => pay_r1 m c h r
  ihave Hps := (Entails.of_eq e) $$ Hps
  ihave Hg := (Entails.of_eq (all_slots (fun s => got1 m c h s)).symm) $$ [Hg Hps]
  · isplitl [Hg] <;> iassumption
  ihave Hg := (Entails.of_eq (bigSep_univ_at (fun s : Fin 32 => got1 m c h s) 0)) $$ Hg
  icases Hg with ⟨Hg0, Hg⟩
  rw [wp_bind]
  ihave Hw := (load_got m c h 0) $$ Hg0
  iapply (wp_wand frame _ Set.univ) $$ Hw
  iintro %v ⟨%hv, Hg0⟩
  iapply (sum_run m c h)
  isplitl [Hg0 Hg]
  · iapply (Entails.of_eq (bigSep_univ_at (fun s : Fin 32 => got1 m c h s) 0).symm)
    isplitl [Hg0] <;> iassumption
  iintro Hg
  rw [hv]
  ihave Hw := (emit_run m K c h O) $$ [Ho Hrest]
  · isplitl [Ho]
    · isplitr; · iexact Hc
      iexact Ho
    iexact Hrest
  iapply (wp_wand frame _ Set.univ) $$ Hw
  iintro %u ⟨Ho, Hk, Hcr⟩
  isplitl [Ho]; · iexact Ho
  isplitl [Hov]; · iexact Hov
  isplitl [Hov']; · iexact Hov'
  isplitl [Hz]; · iexact Hz
  isplitl [Hg]
  · iapply (show (bigSep Finset.univ fun s : Fin 32 => got1 m c h s) ⊢ bigSep Finset.univ fun s : Fin 32 => any (F := F) c (slot vM h s) from
      bigSep_mono fun s _ => any_of_has (F := F) c (slot vM h s) (zblk m (aft c s) h c))
    iexact Hg
  isplitl [Hk] <;> iassumption

end Cert.KernelIdeal.Gelu
-- ==== Proof.Device.lean ====
/-
  The whole kernel on one device.
-/
module

public import proofs.«01_k».proof.Proof.Sum

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ)

/-! ## What a column half's stages hold -/

section Holdings
variable (c : Dev nD) (h : Fin 2)

/-- One family over the peers. -/
abbrev peers (Φ : Fin 31 → sProp 𝕄) : sProp 𝕄 := bigSep Finset.univ Φ

/-- What device `c` is dealt at launch for column half `h`: the right to send each message, the claims on what it will
    receive, and its semaphores' positions. -/
def dealt : sProp 𝕄 :=
  iprop((tok c (kC1 h) 0 ∗ tok c (kC2 h) 0)
    ∗ peers (F := F) (fun r => tok c (kS1 h) r) ∗ peers (F := F) (fun r => tok (peer c r) (kR1 h) r)
    ∗ peers (F := F) (fun r => tok c (kS2 h) r) ∗ peers (F := F) (fun r => tok (peer c r) (kR2 h) r)
    ∗ peers (F := F) (fun _ => crd c (kR1 h) credit) ∗ peers (F := F) (fun _ => crd c (kR2 h) credit)
    ∗ fresh c (kS1 h) ∗ fresh c (kR1 h) ∗ fresh c (kS2 h) ∗ fresh c (kR2 h) ∗ fresh c (kC1 h) ∗ fresh c (kC2 h))

/-- Kept for reducing, -/
def forReduce : sProp 𝕄 :=
  iprop(fresh c (kC1 h) ∗ (fresh c (kR1 h) ∗ peers (F := F) (fun _ => crd c (kR1 h) credit)) ∗ any c (half rM h) ∗ peers (need2 c h) ∗ any c (blk oM h c) ∗ tok c (kC2 h) 0)
/-- for collecting, -/
def forCollect : sProp 𝕄 := iprop(fresh c (kC2 h) ∗ fresh c (kR2 h) ∗ peers (F := F) (fun _ => crd c (kR2 h) credit))
/-- and for draining. -/
def forDrain : sProp 𝕄 := iprop(fresh (F := F) c (kS1 h) ∗ fresh c (kS2 h))
/-- What reducing gives back. -/
def reduced : sProp 𝕄 := iprop(over c (kC1 h) ∗ over c (kR1 h) ∗ any (F := F) c (blk zM h c) ∗ bigSep Finset.univ fun s : Fin 32 => any (F := F) c (slot vM h s))
/-- What collecting gives back. -/
def collected : sProp 𝕄 := iprop(over c (kC2 h) ∗ over c (kR2 h) ∗ left2 m c h 0 ∗ bigSep Finset.univ fun p : Dev nD => got2 m c h p)

/-- Before the barrier has passed: what the peers will offer is still out. -/
def st0 : sProp 𝕄 :=
  iprop(dealt c h ∗ (bigSep Finset.univ fun p : Dev nD => has c (blk zM h p) fullShare (zblk m c h p))
    ∗ any c (slot vM h 0) ∗ any c (blk oM h c) ∗ any c (half rM h))
/-- What the peers offer. -/
def offered : sProp 𝕄 := peers fun r => iprop(any (F := F) (peer c r) (slot vM h (lands r)) ∗ any (peer c r) (blk oM h c))
def st1 : sProp 𝕄 :=
  iprop((peers (need1 m c h) ∗ has c (blk zM h c) fullShare (zblk m c h c) ∗ any c (slot vM h 0) ∗ tok c (kC1 h) 0)
    ∗ forReduce c h ∗ forCollect c h ∗ forDrain c h)
def st2 : sProp 𝕄 :=
  iprop((peers (F := F) (fun _ => crd c (kS1 h) credit) ∗ crd c (kC1 h) credit) ∗ forReduce c h ∗ forCollect c h ∗ forDrain c h)
def st3 : sProp 𝕄 :=
  iprop(peers (F := F) (fun _ => crd c (kS1 h) credit) ∗ (reduced c h ∗ crd c (kC2 h) credit ∗ peers (F := F) (fun _ => crd c (kS2 h) credit)) ∗ forCollect c h ∗ forDrain c h)
def st4 : sProp 𝕄 :=
  iprop(peers (F := F) (fun _ => crd c (kS1 h) credit) ∗ reduced c h ∗ peers (F := F) (fun _ => crd c (kS2 h) credit) ∗ collected m c h ∗ forDrain c h)
/-- The six semaphores of a column half. -/
def six (Φ : Fin 13 → sProp 𝕄) : sProp 𝕄 := iprop(Φ (kS1 h) ∗ Φ (kR1 h) ∗ Φ (kS2 h) ∗ Φ (kR2 h) ∗ Φ (kC1 h) ∗ Φ (kC2 h))
def st5 : sProp 𝕄 :=
  iprop(six h (over c) ∗ (bigSep Finset.univ fun p : Dev nD => any c (blk zM h p)) ∗ (bigSep Finset.univ fun s : Fin 32 => any (F := F) c (slot vM h s))
    ∗ any c (half rM h) ∗ bigSep Finset.univ fun p : Dev nD => got2 m c h p)

theorem st1_intro : iprop(st0 m c h ∗ offered c h) ⊢ st1 m c h := by
  unfold st0 st1 dealt offered forReduce forCollect forDrain
  have e1 : peers (need1 m c h) = iprop(peers (fun r => has c (blk zM h (peer c r)) fullShare (zblk m c h (peer c r)))
      ∗ peers (fun r => any (peer c r) (slot vM h (lands r))) ∗ peers (fun r => tok c (kS1 h) r) ∗ peers (fun r => tok (peer c r) (kR1 h) r)) := by
    unfold need1 peers; rw [bigSep_sep', bigSep_sep', bigSep_sep']
  have e2 : peers (need2 (F := F) c h) = iprop(peers (fun r => tok c (kS2 h) r) ∗ peers (fun r => any (peer c r) (blk oM h c)) ∗ peers (fun r => tok (peer c r) (kR2 h) r)) := by
    unfold need2 peers; rw [bigSep_sep', bigSep_sep']
  have e3 := all_peers c (fun p => has c (blk zM h p) fullShare (zblk m c h p))
  rw [e1, e2]
  iintro ⟨⟨⟨⟨Hc1, Hc2⟩, Hs1, Hr1, Hs2, Hr2, Hcr1, Hcr2, Hf1, Hf2, Hf3, Hf4, Hf5, Hf6⟩, Hz, Hv, Ho, Hh⟩, Hoff⟩
  ihave Hz := (Entails.of_eq e3) $$ Hz
  icases Hz with ⟨Hz0, Hz⟩
  ihave Hoff := (Entails.of_eq (bigSep_sep' Finset.univ (fun r : Fin 31 => any (F := F) (peer c r) (slot vM h (lands r))) (fun r => any (peer c r) (blk oM h c)))) $$ Hoff
  icases Hoff with ⟨Hoff1, Hoff2⟩
  isplitl [Hz Hoff1 Hs1 Hr1 Hz0 Hv Hc1]
  · isplitl [Hz Hoff1 Hs1 Hr1]
    · isplitl [Hz]; · iexact Hz
      isplitl [Hoff1]; · iexact Hoff1
      isplitl [Hs1] <;> iassumption
    isplitl [Hz0]; · iexact Hz0
    isplitl [Hv] <;> iassumption
  isplitl [Hf5 Hf2 Hcr1 Hh Hs2 Hoff2 Hr2 Ho Hc2]
  · isplitl [Hf5]; · iexact Hf5
    isplitl [Hf2 Hcr1]
    · isplitl [Hf2] <;> iassumption
    isplitl [Hh]; · iexact Hh
    isplitl [Hs2 Hoff2 Hr2]
    · isplitl [Hs2]; · iexact Hs2
      isplitl [Hoff2] <;> iassumption
    isplitl [Ho] <;> iassumption
  isplitl [Hf6 Hf4 Hcr2]
  · isplitl [Hf6]; · iexact Hf6
    isplitl [Hf4] <;> iassumption
  isplitl [Hf1] <;> iassumption

end Holdings

/-! ## Both column halves -/

theorem halves_run (c : Dev nD) (f : Fin 2 → Body F PUnit) (I : List (Fin 2) → sProp 𝕄) (A B : Fin 2 → sProp 𝕄)
    (h : ∀ a l, iprop(I (a :: l) ∗ A a) ⊢ Runs c (f a) (fun _ => iprop(I l ∗ B a))) :
    iprop(I halves ∗ bigSep Finset.univ A) ⊢ Runs c (each halves f) (fun _ => iprop(I [] ∗ bigSep Finset.univ B)) := by
  rw [bigSep_univ_eq_bigSepL halves (by decide) (by decide), bigSep_univ_eq_bigSepL halves (by decide) (by decide)]
  exact each_run c f I A B h halves

/-- What is owed for a list of column halves. -/
def dues (c : Dev nD) (k : Fin 2 → Fin 13) : List (Fin 2) → CellTallies nD τ sig Unit
  | [] => 0
  | h :: l => dues c k l + due c (k h) far

theorem above_dues {n : ℕ} (c : Dev nD) (k : Fin 2 → Fin 13) (hk : ∀ h, n < lev (k h)) : ∀ l, Above n (dues c k l)
  | [] => above_zero n
  | h :: l => above_add (above_dues c k hk l) (above_due c _ _ (hk h))

theorem O₁_eq (c : Dev nD) : O₁ c = dues c kR2 halves + dues c kR1 halves := by
  unfold O₁ halves dues dues dues
  rw [zero_add, zero_add, add_assoc (due c (kR2 1) far + due c (kR2 0) far)]

section Stages
variable (c : Dev nD)

theorem scatters : iprop((ctx m K ∗ ow c (dues c kR2 halves + dues c kR1 halves)) ∗ bigSep Finset.univ (st1 m c))
    ⊢ Runs c (each halves fun h => scatter zM wz vM wv cc0_scratch3 cc0_scratch4 cc0_scratch7 h c)
        (fun _ => iprop((ctx m K ∗ ow c (dues c kR2 halves + dues c kR1 [])) ∗ bigSep Finset.univ (st2 c))) :=
  halves_run c _ (fun l => iprop(ctx m K ∗ ow c (dues c kR2 halves + dues c kR1 l))) (st1 m c) (st2 c) fun h l => by
    unfold st1 st2
    rw [show dues c kR2 halves + dues c kR1 (h :: l) = (dues c kR2 halves + dues c kR1 l) + due c (kR1 h) far from (add_assoc _ _ _).symm]
    iintro ⟨⟨#Hc, Ho⟩, Hn, Hrest⟩
    ihave Hw := (scatter_run m K c h (dues c kR2 halves + dues c kR1 l)) $$ [Ho Hn]
    · isplitl [Ho]
      · isplitr; · iexact Hc
        iexact Ho
      iexact Hn
    iapply (wp_wand frame _ Set.univ) $$ Hw
    iintro %u ⟨Ho, Hcr⟩
    isplitl [Ho]
    · isplitr; · iexact Hc
      iexact Ho
    isplitl [Hcr] <;> iassumption

theorem reduces : iprop((ctx m K ∗ ow c (dues c kR2 halves)) ∗ bigSep Finset.univ (st2 (F := F) c))
    ⊢ Runs c (each halves fun h => reduce oM wo zM wz rM wr vM wv cc0_scratch4 cc0_scratch5 cc0_scratch6 cc0_scratch7 h c)
        (fun _ => iprop((ctx m K ∗ ow c (dues c kR2 [])) ∗ bigSep Finset.univ (st3 c))) :=
  halves_run c _ (fun l => iprop(ctx m K ∗ ow c (dues c kR2 l))) (st2 c) (st3 c) fun h l => by
    unfold st2 st3 forReduce
    iintro ⟨⟨#Hc, Ho⟩, ⟨Hs1, Hk⟩, ⟨Hfk, Hr⟩, Hrest⟩
    ihave Hw := (reduce_run m K c h (dues c kR2 l) (above_dues c kR2 (by decide) (h :: l))) $$ [Ho Hk Hfk Hr]
    · isplitl [Ho]
      · isplitr; · iexact Hc
        iexact Ho
      isplitl [Hk Hfk]
      · isplitl [Hk] <;> iassumption
      iexact Hr
    iapply (wp_wand frame _ Set.univ) $$ Hw
    iintro %u ⟨Ho, H1, H2, H3, H4, H5, H6⟩
    isplitl [Ho]
    · isplitr; · iexact Hc
      iexact Ho
    isplitl [Hs1]; · iexact Hs1
    isplitl [H1 H2 H3 H4 H5 H6]
    · unfold reduced
      isplitl [H1 H2 H3 H4]
      · isplitl [H1]; · iexact H1
        isplitl [H2]; · iexact H2
        isplitl [H3] <;> iassumption
      isplitl [H5] <;> iassumption
    iexact Hrest

theorem collects : iprop((ctx m K ∗ ow c 0) ∗ bigSep Finset.univ (st3 (F := F) c))
    ⊢ Runs c (each halves fun h => collect oM wo rM wr cc0_scratch6 cc0_scratch7 h c)
        (fun _ => iprop((ctx m K ∗ ow c 0) ∗ bigSep Finset.univ (st4 m c))) :=
  halves_run c _ (fun l => iprop(ctx m K ∗ ow c 0)) (st3 c) (st4 m c) fun h l => by
    unfold st3 st4 forCollect collected
    iintro ⟨⟨#Hc, Ho⟩, Hs1, ⟨Hred, Hk, Hs2⟩, ⟨Hf, Hf', Hcr⟩, Hd⟩
    ihave Hw := (collect_run m K c h) $$ [Ho Hk Hf Hf' Hcr]
    · isplitl [Ho]
      · isplitr; · iexact Hc
        iexact Ho
      isplitl [Hk]; · iexact Hk
      isplitl [Hf]; · iexact Hf
      isplitl [Hf'] <;> iassumption
    iapply (wp_wand frame _ Set.univ) $$ Hw
    iintro %u ⟨Ho, H⟩
    isplitl [Ho]
    · isplitr; · iexact Hc
      iexact Ho
    isplitl [Hs1]; · iexact Hs1
    isplitl [Hred]; · iexact Hred
    isplitl [Hs2]; · iexact Hs2
    isplitl [H] <;> iassumption

theorem drains : iprop((ctx m K ∗ ow c 0) ∗ bigSep Finset.univ (st4 m c))
    ⊢ Runs c (each halves fun h => drain oM wo zM wz rM wr vM wv cc0_scratch3 cc0_scratch5 h c)
        (fun _ => iprop((ctx m K ∗ ow c 0) ∗ bigSep Finset.univ (st5 m c))) :=
  halves_run c _ (fun l => iprop(ctx m K ∗ ow c 0)) (st4 m c) (st5 m c) fun h l => by
    unfold st4 st5 reduced collected forDrain six
    iintro ⟨⟨#Hc, Ho⟩, Hs1, ⟨Hv1, Hv2, Hz0, Hv⟩, Hs2, ⟨Hv3, Hv4, Hl, Hg⟩, Hf1, Hf2⟩
    ihave Hw := (drain_run m K c h) $$ [Ho Hs1 Hs2 Hf1 Hf2]
    · isplitl [Ho]
      · isplitr; · iexact Hc
        iexact Ho
      isplitl [Hf1]; · iexact Hf1
      isplitl [Hs1]; · iexact Hs1
      isplitl [Hf2] <;> iassumption
    iapply (wp_wand frame _ Set.univ) $$ Hw
    iintro %u ⟨Ho, Hv5, Hv6, Hz, Hls⟩
    isplitl [Ho]
    · isplitr; · iexact Hc
      iexact Ho
    isplitl [Hv1 Hv2 Hv3 Hv4 Hv5 Hv6]
    · isplitl [Hv5]; · iexact Hv5
      isplitl [Hv2]; · iexact Hv2
      isplitl [Hv6]; · iexact Hv6
      isplitl [Hv4]; · iexact Hv4
      isplitl [Hv1] <;> iassumption
    isplitl [Hz0 Hz]
    · iapply (Entails.of_eq (all_peers c (fun p => any (F := F) c (blk zM h p))).symm)
      isplitl [Hz0]; · iexact Hz0
      iexact Hz
    isplitl [Hv]; · iexact Hv
    isplitl [Hl Hls]
    · have e : iprop(left2 m c h 0 ∗ bigSep Finset.univ fun r : Fin 31 => left2 m c h r.succ) = (has c (half rM h) fullShare (gblk m c h) : sProp 𝕄) :=
        (headed (fun s => left2 m c h s)).symm.trans (has_shares c (half rM h) (gblk m c h)).symm
      iapply (any_of_has (F := F) c (half rM h) (gblk m c h))
      iapply (Entails.of_eq e)
      isplitl [Hl] <;> iassumption
    iexact Hg

end Stages

/-! ## The buffers taken apart and put together -/

section Buffers
variable (c : Dev nD)

theorem any_out : any (F := F) c oM ⊢ iprop((bigSep Finset.univ fun h : Fin 2 => any c (blk oM h c)) ∗ bigSep Finset.univ fun h : Fin 2 => peers fun r => any c (blk oM h (peer c r))) := by
  refine (any_split c oM blkRs (fun _ _ => rfl) blk_disjoint blk_cover).trans (Entails.of_eq ?_)
  rw [BI.bigSep_univ_prod, ← bigSep_sep']
  exact bigSep_congr fun h _ => all_peers c (fun p => any (F := F) c (blk oM h p))
theorem any_recv : any (F := F) c vM ⊢ iprop((bigSep Finset.univ fun h : Fin 2 => any c (slot vM h 0)) ∗ bigSep Finset.univ fun h : Fin 2 => peers fun r => any c (slot vM h r.succ)) := by
  refine (any_split c vM slotRs (fun _ _ => rfl) slot_disjoint slot_cover).trans (Entails.of_eq ?_)
  rw [BI.bigSep_univ_prod, ← bigSep_sep']
  refine bigSep_congr fun h _ => ?_
  rw [← headed (fun s => any (F := F) c (slot vM h s))]
  exact bigSep_congr fun s _ => (any_slot c h s).symm
theorem any_red : any (F := F) c rM ⊢ bigSep Finset.univ fun h : Fin 2 => any c (half rM h) :=
  any_split c rM halfR (fun _ _ => rfl) half_disjoint half_cover

theorem join_z : (bigSep Finset.univ fun h : Fin 2 => bigSep Finset.univ fun p : Dev nD => any (F := F) c (blk zM h p)) ⊢ any c zM := by
  refine (Entails.of_eq (BI.bigSep_univ_prod (fun t : Fin 2 × Dev nD => any (F := F) c (blk zM t.1 t.2))).symm).trans ?_
  exact any_join c zM blkRs (fun _ _ => rfl) blk_disjoint blk_cover
theorem join_recv : (bigSep Finset.univ fun h : Fin 2 => bigSep Finset.univ fun s : Fin 32 => any (F := F) c (slot vM h s)) ⊢ any c vM := by
  refine (Entails.of_eq ?_).trans (any_join c vM slotRs (fun _ _ => rfl) slot_disjoint slot_cover)
  rw [BI.bigSep_univ_prod]
  exact bigSep_congr fun h _ => bigSep_congr fun s _ => any_slot c h s
theorem join_red : (bigSep Finset.univ fun h : Fin 2 => any (F := F) c (half rM h)) ⊢ any c rM :=
  any_join c rM halfR (fun _ _ => rfl) half_disjoint half_cover
theorem join_out : (bigSep Finset.univ fun h : Fin 2 => bigSep Finset.univ fun p : Dev nD => got2 m c h p) ⊢ (((c : Thread nD τ).loc cc0_stg2_0) ↦{fullShare} outv m : sProp 𝕄) := by
  rw [← owns_whole]
  refine (Entails.of_eq ?_).trans (owns_of_rects (c : Thread nD τ) oM fullShare blkRs (fun _ _ => rfl) blk_disjoint blk_cover (outv m))
  rw [BI.bigSep_univ_prod]
  refine bigSep_congr fun h _ => bigSep_congr fun p _ => ?_
  unfold got2
  exact congrArg (has c (blk oM h p) fullShare) (funext fun j => (outv_emb m h p j).symm)

/-- The offers a device makes, by column half. -/
theorem offers_out : iprop((bigSep Finset.univ fun h : Fin 2 => peers fun r => any (F := F) c (slot vM h r.succ)) ∗ bigSep Finset.univ fun h : Fin 2 => peers fun r => any c (blk oM h (peer c r)))
    = peers fun r => offers c (peer c r) r := by
  unfold offers peers
  rw [BI.bigSep_univ_comm (fun (r : Fin 31) (h : Fin 2) => iprop(any (F := F) c (slot vM h r.succ) ∗ any c (blk oM h (peer c r)))), ← bigSep_sep']
  exact bigSep_congr fun h _ => (bigSep_sep' _ _ _).symm
/-- The offers it receives. -/
theorem offers_in : (bigSep Finset.univ fun r : Fin 31 => offers (F := F) (peer c r) c (Fin.rev r)) = bigSep Finset.univ (offered c) := by
  unfold offers offered peers
  rw [BI.bigSep_univ_comm (fun (r : Fin 31) (h : Fin 2) => iprop(any (F := F) (peer c r) (slot vM h (Fin.rev r).succ) ∗ any (peer c r) (blk oM h c)))]
  simp only [lands_eq]

/-- The barrier and the six semaphores of each column half are all thirteen. -/
theorem thirteen (Φ : Fin 13 → sProp 𝕄) : bigSep Finset.univ Φ = iprop(Φ 0 ∗ bigSep Finset.univ fun h : Fin 2 => six h Φ) := by
  rw [bigSep_univ_eq_bigSepL [0, 1, 3, 5, 7, 9, 11, 2, 4, 6, 8, 10, 12] (by decide) (by decide), bigSep_univ_two]
  simp only [bigSepL_cons', bigSepL_nil]
  unfold six
  refine Entails.antisymm ?_ ?_
  · show iprop(Φ 0 ∗ Φ 1 ∗ Φ 3 ∗ Φ 5 ∗ Φ 7 ∗ Φ 9 ∗ Φ 11 ∗ Φ 2 ∗ Φ 4 ∗ Φ 6 ∗ Φ 8 ∗ Φ 10 ∗ Φ 12 ∗ emp)
      ⊢ iprop(Φ 0 ∗ (Φ 1 ∗ Φ 3 ∗ Φ 5 ∗ Φ 7 ∗ Φ 9 ∗ Φ 11) ∗ (Φ 2 ∗ Φ 4 ∗ Φ 6 ∗ Φ 8 ∗ Φ 10 ∗ Φ 12))
    iintro ⟨H0, H1, H3, H5, H7, H9, H11, H2, H4, H6, H8, H10, H12, -⟩
    isplitl [H0]; · iexact H0
    isplitl [H1 H3 H5 H7 H9 H11]
    · isplitl [H1]; · iexact H1
      isplitl [H3]; · iexact H3
      isplitl [H5]; · iexact H5
      isplitl [H7]; · iexact H7
      isplitl [H9] <;> iassumption
    isplitl [H2]; · iexact H2
    isplitl [H4]; · iexact H4
    isplitl [H6]; · iexact H6
    isplitl [H8]; · iexact H8
    isplitl [H10] <;> iassumption
  · show iprop(Φ 0 ∗ (Φ 1 ∗ Φ 3 ∗ Φ 5 ∗ Φ 7 ∗ Φ 9 ∗ Φ 11) ∗ (Φ 2 ∗ Φ 4 ∗ Φ 6 ∗ Φ 8 ∗ Φ 10 ∗ Φ 12))
      ⊢ iprop(Φ 0 ∗ Φ 1 ∗ Φ 3 ∗ Φ 5 ∗ Φ 7 ∗ Φ 9 ∗ Φ 11 ∗ Φ 2 ∗ Φ 4 ∗ Φ 6 ∗ Φ 8 ∗ Φ 10 ∗ Φ 12 ∗ emp)
    iintro ⟨H0, ⟨H1, H3, H5, H7, H9, H11⟩, H2, H4, H6, H8, H10, H12⟩
    isplitl [H0]; · iexact H0
    isplitl [H1]; · iexact H1
    isplitl [H3]; · iexact H3
    isplitl [H5]; · iexact H5
    isplitl [H7]; · iexact H7
    isplitl [H9]; · iexact H9
    isplitl [H11]; · iexact H11
    isplitl [H2]; · iexact H2
    isplitl [H4]; · iexact H4
    isplitl [H6]; · iexact H6
    isplitl [H8]; · iexact H8
    isplitl [H10]; · iexact H10
    isplitl [H12]; · iexact H12
    iempintro

end Buffers

/-! ## The body -/

/-- What device `c` holds of the protocol when the kernel starts. -/
def start (c : Dev nD) : sProp 𝕄 :=
  iprop((ctx m K ∗ ow c (O₀ c)) ∗ crd c 0 31 ∗ fresh c 0 ∗ peers (F := F) (fun r => tok (peer c r) 0 r) ∗ bigSep Finset.univ fun h : Fin 2 => dealt (F := F) c h)
/-- And when it has finished. -/
def finish (c : Dev nD) : sProp 𝕄 := iprop((ctx m K ∗ ow c 0) ∗ bigSep Finset.univ fun k : Fin 13 => over c k)

theorem body_run (c : Dev nD) :
    iprop(start m K c ∗ (((c : Thread nD τ).loc cc0_stg0_0) ↦{fullShare} xA m c) ∗ (((c : Thread nD τ).loc cc0_stg1_0) ↦{fullShare} xB m c) ∗ any c oM
        ∗ (∃ f, ((c : Thread nD τ).loc cc0_scratch0) ↦{fullShare} f) ∗ any c rM ∗ any c vM)
      ⊢ Runs c (bodyAt aM bM oM wo zM wz rM wr vM wv cc0_scratch3 cc0_scratch4 cc0_scratch5 cc0_scratch6 cc0_scratch7 c)
          (fun _ => iprop(finish m K c ∗ (((c : Thread nD τ).loc cc0_stg0_0) ↦{fullShare} xA m c) ∗ (((c : Thread nD τ).loc cc0_stg1_0) ↦{fullShare} xB m c)
            ∗ (((c : Thread nD τ).loc cc0_stg2_0) ↦{fullShare} outv m) ∗ any c zM ∗ any c rM ∗ any c vM)) := by
  unfold bodyAt Runs start finish O₀
  rw [wp_bind]
  iintro ⟨⟨⟨#Hc, Ho⟩, Hcr, Hf, Htb, Hd⟩, HA, HB, Hout, HZ, Hred, Hrecv⟩
  ihave Hout := (any_out c) $$ Hout
  icases Hout with ⟨Hout0, Hout⟩
  ihave Hrecv := (any_recv c) $$ Hrecv
  icases Hrecv with ⟨Hrecv0, Hrecv⟩
  ihave Hred := (any_red c) $$ Hred
  ihave Hoff := (Entails.of_eq (offers_out c)) $$ [Hout Hrecv]
  · isplitl [Hrecv] <;> iassumption
  ihave Hto := (Entails.of_eq (bigSep_sep' Finset.univ (fun r : Fin 31 => tok (F := F) (peer c r) 0 r) (fun r => offers c (peer c r) r)).symm) $$ [Htb Hoff]
  · isplitl [Htb] <;> iassumption
  ihave Hw := (signals_run m K c (O₁ c)) $$ [Ho Hto]
  · isplitl [Ho]
    · isplitr; · iexact Hc
      iexact Ho
    iexact Hto
  iapply (wp_wand frame _ Set.univ) $$ Hw
  iintro %u Ho
  rw [wp_bind]
  ihave Hw := (product_run m c) $$ [HA HB HZ]
  · isplitl [HA]; · iexact HA
    isplitl [HB] <;> iassumption
  iapply (wp_wand frame _ Set.univ) $$ Hw
  iintro %u ⟨HA, HB, HZ⟩
  rw [wp_bind]
  ihave Hw := (barrier_run m K c (O₁ c) (above_O₁ c)) $$ [Ho Hcr Hf]
  · isplitl [Ho]
    · isplitr; · iexact Hc
      iexact Ho
    isplitl [Hcr] <;> iassumption
  iapply (wp_wand frame _ Set.univ) $$ Hw
  iintro %u ⟨Ho, Hover, Hoff⟩
  ihave Hoff := (Entails.of_eq (offers_in c)) $$ Hoff
  ihave HZ := (Entails.of_eq (BI.bigSep_univ_prod (fun t : Fin 2 × Dev nD => has c (blk zM t.1 t.2) fullShare (zblk m c t.1 t.2)))) $$ HZ
  have e0 : iprop((bigSep Finset.univ fun h : Fin 2 => dealt (F := F) c h)
      ∗ (bigSep Finset.univ fun h : Fin 2 => bigSep Finset.univ fun p : Dev nD => has c (blk zM h p) fullShare (zblk m c h p))
      ∗ (bigSep Finset.univ fun h : Fin 2 => any c (slot vM h 0)) ∗ (bigSep Finset.univ fun h : Fin 2 => any c (blk oM h c)) ∗ (bigSep Finset.univ fun h : Fin 2 => any c (half rM h)))
      = bigSep Finset.univ (st0 m c) := by
    unfold st0; rw [bigSep_sep', bigSep_sep', bigSep_sep', bigSep_sep']
  have e1 : iprop(bigSep Finset.univ (st0 m c) ∗ bigSep Finset.univ (offered (F := F) c)) ⊢ bigSep Finset.univ (st1 m c) := by
    rw [← bigSep_sep']; exact bigSep_mono fun h _ => st1_intro m c h
  ihave Hs := e1 $$ [Hd HZ Hrecv0 Hout0 Hred Hoff]
  · isplitr [Hoff]
    · iapply (Entails.of_eq e0)
      isplitl [Hd]; · iexact Hd
      isplitl [HZ]; · iexact HZ
      isplitl [Hrecv0]; · iexact Hrecv0
      isplitl [Hout0] <;> iassumption
    iexact Hoff
  rw [wp_bind, O₁_eq]
  ihave Hw := (scatters m K c) $$ [Ho Hs]
  · isplitl [Ho]
    · isplitr; · iexact Hc
      iexact Ho
    iexact Hs
  iapply (wp_wand frame _ Set.univ) $$ Hw
  iintro %u ⟨⟨-, Ho⟩, Hs⟩
  rw [wp_bind, show dues c kR2 halves + dues c kR1 [] = dues c kR2 halves from add_zero _]
  ihave Hw := (reduces m K c) $$ [Ho Hs]
  · isplitl [Ho]
    · isplitr; · iexact Hc
      iexact Ho
    iexact Hs
  iapply (wp_wand frame _ Set.univ) $$ Hw
  iintro %u ⟨Ho, Hs⟩
  rw [wp_bind]
  ihave Hw := (collects m K c) $$ [Ho Hs]
  · isplitl [Ho]; · iexact Ho
    iexact Hs
  iapply (wp_wand frame _ Set.univ) $$ Hw
  iintro %u Hs
  ihave Hw := (drains m K c) $$ Hs
  iapply (wp_wand frame _ Set.univ) $$ Hw
  iintro %u ⟨Ho, Hs⟩
  have e5 : bigSep Finset.univ (st5 m c) = iprop((bigSep Finset.univ fun h : Fin 2 => six h (over (F := F) c))
      ∗ (bigSep Finset.univ fun h : Fin 2 => bigSep Finset.univ fun p : Dev nD => any c (blk zM h p))
      ∗ (bigSep Finset.univ fun h : Fin 2 => bigSep Finset.univ fun s : Fin 32 => any (F := F) c (slot vM h s))
      ∗ (bigSep Finset.univ fun h : Fin 2 => any c (half rM h)) ∗ bigSep Finset.univ fun h : Fin 2 => bigSep Finset.univ fun p : Dev nD => got2 m c h p) := by
    unfold st5; rw [bigSep_sep', bigSep_sep', bigSep_sep', bigSep_sep']
  ihave Hs := (Entails.of_eq e5) $$ Hs
  icases Hs with ⟨Hov, Hz, Hv, Hr, Hg⟩
  isplitl [Ho Hover Hov]
  · isplitl [Ho]; · iexact Ho
    iapply (Entails.of_eq (thirteen (fun k => over (F := F) c k)).symm)
    isplitl [Hover] <;> iassumption
  isplitl [HA]; · iexact HA
  isplitl [HB]; · iexact HB
  isplitl [Hg]; · (iapply (join_out m c); iexact Hg)
  isplitl [Hz]; · (iapply (join_z c); iexact Hz)
  isplitl [Hr]; · (iapply (join_red c); iexact Hr)
  iapply (join_recv c); iexact Hv

end Cert.KernelIdeal.Gelu
-- ==== Proof.Deal.lean ====
/-
  What the launch deals out: the semaphores under the protocol, the right to send each message, the claims on what arrives.
-/
module

public import proofs.«01_k».proof.Proof.Device
public import Idealize.ShloMosaic.Lib.Rounds.Family

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The right to send -/

/-- Rights made out per receiver, dealt to the senders. -/
theorem around (k : Fin 13) : (bigSep Finset.univ fun c : Dev nD => peers (F := F) fun r => tok c k r)
    = bigSep Finset.univ fun c : Dev nD => peers (F := F) fun r => tok (peer c r) k r := by
  unfold peers
  rw [BI.bigSep_univ_comm (fun (c : Dev nD) (r : Fin 31) => tok (F := F) c k r), BI.bigSep_univ_comm (fun (c : Dev nD) (r : Fin 31) => tok (F := F) (peer c r) k r)]
  exact bigSep_congr fun r _ => BI.bigSep_univ_equiv (turn r) (fun c => tok (F := F) c k r)

/-- The rights of one column half that device `c` sends with. -/
def rights (c : Dev nD) (h : Fin 2) : sProp 𝕄 :=
  iprop((tok c (kC1 h) 0 ∗ tok c (kC2 h) 0)
    ∗ peers (F := F) (fun r => tok c (kS1 h) r) ∗ peers (F := F) (fun r => tok (peer c r) (kR1 h) r)
    ∗ peers (F := F) (fun r => tok c (kS2 h) r) ∗ peers (F := F) (fun r => tok (peer c r) (kR2 h) r))

theorem half_around (h : Fin 2) :
    (bigSep Finset.univ fun c : Dev nD => six h fun k => peers (F := F) fun r => tok c k r) ⊢ bigSep Finset.univ fun c : Dev nD => rights (F := F) c h := by
  unfold six rights
  rw [bigSep_sep', bigSep_sep', bigSep_sep', bigSep_sep', bigSep_sep', bigSep_sep', bigSep_sep', bigSep_sep', bigSep_sep', bigSep_sep', around (kR1 h), around (kR2 h)]
  have hc (k : Fin 13) : (bigSep Finset.univ fun c : Dev nD => peers (F := F) fun r => tok c k r) ⊢ bigSep Finset.univ fun c : Dev nD => tok (F := F) c k 0 :=
    bigSep_mono fun c _ => member (Finset.mem_univ (0 : Fin 31)) (fun r => tok (F := F) c k r)
  iintro ⟨HS1, HR1, HS2, HR2, HC1, HC2⟩
  isplitl [HC1 HC2]
  · isplitl [HC1]
    · iapply (hc (kC1 h)); iexact HC1
    iapply (hc (kC2 h)); iexact HC2
  isplitl [HS1]; · iexact HS1
  isplitl [HR1]; · iexact HR1
  isplitl [HS2] <;> iassumption

/-- All the rights that device `c` sends with. -/
def allRights (c : Dev nD) : sProp 𝕄 := iprop(peers (F := F) (fun r => tok (peer c r) 0 r) ∗ bigSep Finset.univ (rights (F := F) c))

theorem rights_around :
    (bigSep Finset.univ fun c : Dev nD => bigSep Finset.univ fun k : Fin 13 => peers (F := F) fun r => tok c k r) ⊢ bigSep Finset.univ (allRights (F := F)) := by
  have e : (bigSep Finset.univ fun c : Dev nD => bigSep Finset.univ fun k : Fin 13 => peers (F := F) fun r => tok c k r)
      = iprop((bigSep Finset.univ fun c : Dev nD => peers (F := F) fun r => tok (peer c r) 0 r)
          ∗ bigSep Finset.univ fun h : Fin 2 => bigSep Finset.univ fun c : Dev nD => six h fun k => peers (F := F) fun r => tok c k r) := by
    rw [← around, BI.bigSep_univ_comm (fun (h : Fin 2) (c : Dev nD) => six h fun k => peers (F := F) fun r => tok c k r), ← bigSep_sep']
    exact bigSep_congr fun c _ => thirteen (fun k => peers (F := F) fun r => tok c k r)
  have e' : (bigSep Finset.univ (allRights (F := F)) : sProp 𝕄)
      = iprop((bigSep Finset.univ fun c : Dev nD => peers (F := F) fun r => tok (peer c r) 0 r)
          ∗ bigSep Finset.univ fun h : Fin 2 => bigSep Finset.univ fun c : Dev nD => rights c h) := by
    unfold allRights
    rw [bigSep_sep', BI.bigSep_univ_comm (fun (c : Dev nD) (h : Fin 2) => rights (F := F) c h)]
  rw [e, e']
  exact BIClass.sep_mono .rfl (bigSep_mono fun h _ => half_around h)

/-! ## The claims on what arrives -/

theorem crd_list (c : Dev nD) (k : Fin 13) (n : ℕ) : ∀ l : List (Fin 31), bigSepL l (fun _ => crd (F := F) c k n) ⊢ crd c k (l.length * n)
  | [] => by
    show (emp : sProp 𝕄) ⊢ _
    unfold crd
    rw [List.length_nil, Nat.zero_mul, tallyAt_zero, cred_zero]
  | r :: l => by
    rw [bigSepL_cons', List.length_cons, Nat.succ_mul]
    unfold crd
    rw [← tallyAt_add]
    iintro ⟨H, Hl⟩
    iapply (cred_add _ _).2
    isplitl [Hl]; · (iapply (crd_list c k n l); iexact Hl)
    iexact H

theorem due_claims (c : Dev nD) (k : Fin 13) : ∀ l : List (Fin 31),
    (Pipeline.launchCred (fun d => due d k l) c : sProp 𝕄) ⊢ bigSepL l (fun _ => crd (F := F) c k (amt k))
  | [] => by
    show _ ⊢ (emp : sProp 𝕄)
    iintro -; iempintro
  | r :: l => by
    rw [show (fun d => due d k (r :: l)) = fun d => due d k l + tallyAt (cell (peer d r) k) () (amt k) from funext fun d => due_cons d k r l,
      Pipeline.launchCred_add, bigSepL_cons']
    iintro ⟨Hl, H⟩
    isplitl [H]
    · iapply (Pipeline.launchCred_tallyAt (csem k) (fun d => peer d r) (fun d => peer d (Fin.rev r)) (fun d => rev_peer d r) (fun d => peer_rev d r) () (amt k) c)
      iexact H
    iapply (due_claims c k l); iexact Hl

/-- Device `c`'s claims: a signal from each peer, and a block and rows from each, per column half. -/
theorem claims (c : Dev nD) :
    (Pipeline.launchCred O₀ c : sProp 𝕄)
      ⊢ iprop(crd (F := F) c 0 31 ∗ bigSep Finset.univ fun h : Fin 2 => iprop(peers (F := F) (fun _ => crd c (kR1 h) credit) ∗ peers (F := F) (fun _ => crd c (kR2 h) credit))) := by
  have e : (Pipeline.launchCred O₀ c : sProp 𝕄)
      = iprop((((Pipeline.launchCred (fun d => due d (kR2 1) far) c ∗ Pipeline.launchCred (fun d => due d (kR2 0) far) c)
          ∗ Pipeline.launchCred (fun d => due d (kR1 1) far) c) ∗ Pipeline.launchCred (fun d => due d (kR1 0) far) c)
          ∗ Pipeline.launchCred (fun d => due d 0 near) c) := by
    rw [← Pipeline.launchCred_add, ← Pipeline.launchCred_add, ← Pipeline.launchCred_add, ← Pipeline.launchCred_add]
    rfl
  have f (k : Fin 13) (hk : k.val ≠ 0) : (Pipeline.launchCred (fun d => due d k far) c : sProp 𝕄) ⊢ peers (F := F) (fun _ => crd c k credit) := by
    unfold peers
    rw [far_all, ← amt_ne k hk]; exact due_claims c k far
  rw [e, bigSep_univ_two]
  iintro ⟨⟨⟨⟨H21, H20⟩, H11⟩, H10⟩, H0⟩
  isplitl [H0]
  · iapply (crd_list c 0 1 near); iapply (due_claims c 0 near); iexact H0
  isplitl [H10 H20]
  · isplitl [H10]; · (iapply (f (kR1 0) (by decide)); iexact H10)
    iapply (f (kR2 0) (by decide)); iexact H20
  isplitl [H11]; · (iapply (f (kR1 1) (by decide)); iexact H11)
  iapply (f (kR2 1) (by decide)); iexact H21

/-! ## Minting -/

theorem csem_injective : Function.Injective csem := fun k k' h => by
  have := congrArg which h
  rw [which_csem, which_csem] at this
  exact Option.some.inj this
theorem cell_injective : Function.Injective (fun ck : Dev nD × Fin 13 => cell ck.1 ck.2) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨_, cell_injective⟩

theorem right_injective : Function.Injective (fun x : (Dev nD × Fin 13) × Fin 31 => ((cell x.1.1 x.1.2, 0, x.2) : GSem nD τ sig × ℕ × Fin 31)) := by
  rintro ⟨ck, d⟩ ⟨ck', d'⟩ h
  have h1 : ck = ck' := cell_injective (congrArg Prod.fst h)
  have h2 : d = d' := congrArg (fun x : GSem nD τ sig × ℕ × Fin 31 => x.2.2) h
  rw [h1, h2]
def mint : Finset (GSem nD τ sig × ℕ × Fin 31) := Finset.univ.map ⟨_, right_injective⟩

/-- The ghost state the launch begins with: the transfers' of the windows, and the protocol's. -/
def u₀ : UU := (initOf (Pipeline.cells cfgs cellOf_inj) (Pipeline.launchToks cfgs cellOf_inj), initOf allCells mint)

/-- What of it goes to device `c`. -/
def minted (c : Dev nD) : sProp 𝕄 :=
  iprop((bigSep Finset.univ fun k : Fin 13 => roundState ER (sched m) (cell c k) 0)
    ∗ (bigSep Finset.univ fun k : Fin 13 => reached ER (cell c k) 0) ∗ (bigSep Finset.univ fun k : Fin 13 => fresh (F := F) c k)
    ∗ bigSep Finset.univ fun k : Fin 13 => peers (F := F) fun r => tok c k r)

theorem mint_all : BI.own (ER (initOf allCells mint)) ⊢ (|==> bigSep Finset.univ (minted m) : sProp 𝕄) := by
  have hX (Φ : GSem nD τ sig → sProp 𝕄) : bigSep allCells Φ = bigSep Finset.univ fun c : Dev nD => bigSep Finset.univ fun k : Fin 13 => Φ (cell c k) := by
    unfold allCells; rw [BI.bigSep_map, BI.bigSep_univ_prod]; rfl
  have hT : bigSep mint (fun x => (dutyTok ER x.1 x.2.1 x.2.2 : sProp 𝕄))
      = bigSep Finset.univ fun c : Dev nD => bigSep Finset.univ fun k : Fin 13 => peers (F := F) fun r => tok c k r := by
    unfold mint; rw [BI.bigSep_map, BI.bigSep_univ_prod, BI.bigSep_univ_prod]; rfl
  have e : bigSep Finset.univ (minted m) = iprop((bigSep allCells fun g => roundState ER (sched m) g 0) ∗ (bigSep allCells fun g => reached ER g 0)
      ∗ (bigSep allCells fun g => atPos ER g 0 ∅ 0) ∗ bigSep mint (fun x => (dutyTok ER x.1 x.2.1 x.2.2 : sProp 𝕄))) := by
    unfold minted; rw [hT, hX, hX, hX, bigSep_sep', bigSep_sep', bigSep_sep']
  rw [e]; exact Rounds.fund ER (sched m) allCells mint

/-! ## The semaphores go under the protocol -/

/-- The semaphores the kernel allocates: all but the barrier. -/
def osem (k : Fin 12) : SemLoc sig := csem k.succ

theorem ownSemFacts : Pipeline.OwnSemFacts cfg0.spec osem := by decide

theorem unscoped_eq (c : Dev nD) : (unscopedSems0 c : sProp 𝕄) = semVal (cell c 0) 0 := by
  unfold unscopedSems0; rw [bigSep_eq_bigSepL_of_eq [csem 0] (by decide) (by decide)]; rfl
/-- The kernel's own semaphores and the barrier are all thirteen. -/
theorem sems_eq (c : Dev nD) : (bigSep Finset.univ fun k : Fin 13 => semVal (cell c k) 0 : sProp 𝕄)
    = iprop(unscopedSems0 c ∗ Pipeline.ownSems0 (Ix := Unit) (Name := ℕ) (U := UU) (Lvl := ℕ) (Val := Elt F) (τ := τ) osem c) := by
  rw [unscoped_eq]
  unfold Pipeline.ownSems0
  rw [Fin.univ_succ, Finset.cons_eq_insert, BI.bigSep_insert (by simp), BI.bigSep_map]; rfl

/-- What device `c` holds once the protocol is in place, beyond what all know. -/
def own₁ (c : Dev nD) : sProp 𝕄 :=
  iprop((bigSep Finset.univ fun k : Fin 13 => iprop(∃ κ : ℕ, cellInv ER (sched m) κ (cell c k)))
    ∗ (bigSep Finset.univ fun k : Fin 13 => reached ER (cell c k) 0) ∗ (bigSep Finset.univ fun k : Fin 13 => fresh (F := F) c k)
    ∗ bigSep Finset.univ fun k : Fin 13 => peers (F := F) fun r => tok c k r)

theorem enter (c : Dev nD) :
    iprop(Pipeline.ownSems0 (Ix := Unit) (Name := ℕ) (U := UU) (Lvl := ℕ) (Val := Elt F) (τ := τ) osem c ∗ unscopedSems0 c ∗ minted m c) ⊢ |={Set.univ}=> own₁ m c := by
  unfold minted own₁
  iintro ⟨Hos, Hus, Hst, Hre, Hat, Htok⟩
  ihave Hv := (Entails.of_eq (sems_eq c).symm) $$ [Hos Hus]
  · isplitl [Hus] <;> iassumption
  imod (show iprop((bigSep Finset.univ fun k : Fin 13 => semVal (cell c k) 0) ∗ bigSep Finset.univ fun k : Fin 13 => roundState ER (sched m) (cell c k) 0)
      ⊢ (|={Set.univ}=> bigSep Finset.univ fun k : Fin 13 => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hre]; · iexact Hre
  isplitl [Hat] <;> iassumption

/-- The semaphores' protocol, as every device knows it. -/
def known (K : Dev nD × Fin 13 → ℕ) : sProp 𝕄 :=
  bigSep Finset.univ fun ck : Dev nD × Fin 13 => iprop(cellInv ER (sched m) (K ck) (cell ck.1 ck.2) ∗ reached ER (cell ck.1 ck.2) 0)
instance known_persistent (K : Dev nD × Fin 13 → ℕ) : BI.Persistent (known m K) := by unfold known; infer_instance

/-- What device `c` holds after the launch's common step. -/
def own₂ (c : Dev nD) : sProp 𝕄 := iprop(∃ K, known m K ∗ (bigSep Finset.univ fun k : Fin 13 => fresh (F := F) c k) ∗ allRights c)

theorem share_out : bigSep Finset.univ (own₁ m) ⊢ bigSep Finset.univ (own₂ m) := by
  unfold own₁
  rw [bigSep_sep', bigSep_sep', bigSep_sep', ← BI.bigSep_univ_prod (fun ck : Dev nD × Fin 13 => iprop(∃ κ : ℕ, cellInv ER (sched m) κ (cell ck.1 ck.2))),
    ← BI.bigSep_univ_prod (fun ck : Dev nD × Fin 13 => (reached ER (cell ck.1 ck.2) 0 : sProp 𝕄))]
  iintro ⟨HI, Hre, Hat, Htok⟩
  ihave HK := (BI.bigSep_exists_pi Finset.univ (fun (ck : Dev nD × Fin 13) (κ : ℕ) => (cellInv ER (sched m) κ (cell ck.1 ck.2) : sProp 𝕄))) $$ HI
  icases HK with ⟨%K, HI⟩
  ihave Htk := (rights_around (F := F)) $$ Htok
  have e : iprop((bigSep Finset.univ fun ck : Dev nD × Fin 13 => cellInv ER (sched m) (K ck) (cell ck.1 ck.2)) ∗ bigSep Finset.univ fun ck : Dev nD × Fin 13 => reached ER (cell ck.1 ck.2) 0)
      = known m K := by unfold known; rw [bigSep_sep']
  ihave #Hk := (Entails.of_eq e) $$ [HI Hre]
  · isplitl [HI] <;> iassumption
  have g (c : Dev nD) : iprop(known m K ∗ (bigSep Finset.univ fun k : Fin 13 => fresh (F := F) c k) ∗ allRights c) ⊢ own₂ m c := by
    unfold own₂; iintro H; iexists K; iexact H
  iapply (bigSep_with_persistent (R := known m K) (Φ := fun c => iprop((bigSep Finset.univ fun k : Fin 13 => fresh (F := F) c k) ∗ allRights c)) fun c _ => g c)
  isplitr; · iexact Hk
  iapply (Entails.of_eq (bigSep_sep' Finset.univ (fun c : Dev nD => bigSep Finset.univ fun k : Fin 13 => fresh (F := F) c k) allRights).symm)
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (own₂ m) :=
  ((bigSep_mono fun c _ => enter m c).trans (bigSep_fupd _ _)).trans (BI.fupd_mono (share_out m))

/-! ## Ready to run -/

/-- What device `c` holds when its kernel starts, but for what it owes. -/
def ready (c : Dev nD) : sProp 𝕄 :=
  iprop(∃ K, ctx m K ∗ crd c 0 31 ∗ fresh c 0 ∗ peers (F := F) (fun r => tok (peer c r) 0 r) ∗ bigSep Finset.univ fun h : Fin 2 => dealt (F := F) c h)

theorem dealt_intro (c : Dev nD) (h : Fin 2) :
    iprop(rights c h ∗ (peers (F := F) (fun _ => crd c (kR1 h) credit) ∗ peers (F := F) (fun _ => crd c (kR2 h) credit)) ∗ six h (fresh (F := F) c)) ⊢ dealt c h := by
  unfold rights six dealt
  iintro ⟨⟨HC, HS1, HR1, HS2, HR2⟩, ⟨Hc1, Hc2⟩, H⟩
  isplitl [HC]; · iexact HC
  isplitl [HS1]; · iexact HS1
  isplitl [HR1]; · iexact HR1
  isplitl [HS2]; · iexact HS2
  isplitl [HR2]; · iexact HR2
  isplitl [Hc1]; · iexact Hc1
  isplitl [Hc2] <;> iassumption

theorem ready_intro (c : Dev nD) : iprop(own₂ m c ∗ Pipeline.launchCred O₀ c ∗ levels (F := F)) ⊢ ready m c := by
  unfold own₂ allRights ready
  iintro ⟨⟨%K, #Hk, Hf, Hr0, Hr⟩, Hcr, #Hl⟩
  ihave Hcr := (claims (F := F) c) $$ Hcr
  icases Hcr with ⟨Hc0, Hc⟩
  ihave Hf := (Entails.of_eq (thirteen (fun k => fresh (F := F) c k))) $$ Hf
  icases Hf with ⟨Hf0, Hf⟩
  iexists K
  isplitr
  · unfold ctx; isplitl; · (unfold known; iexact Hk)
    iexact Hl
  isplitl [Hc0]; · iexact Hc0
  isplitl [Hf0]; · iexact Hf0
  isplitl [Hr0]; · iexact Hr0
  have e : iprop((bigSep Finset.univ (rights (F := F) c)) ∗ (bigSep Finset.univ fun h : Fin 2 => iprop(peers (F := F) (fun _ => crd c (kR1 h) credit) ∗ peers (F := F) (fun _ => crd c (kR2 h) credit)))
      ∗ bigSep Finset.univ fun h : Fin 2 => six h (fresh (F := F) c)) ⊢ bigSep Finset.univ fun h : Fin 2 => dealt (F := F) c h := by
    rw [← bigSep_sep', ← bigSep_sep']; exact bigSep_mono fun h _ => dealt_intro c h
  iapply e
  isplitl [Hr]; · iexact Hr
  isplitl [Hc] <;> iassumption

end Cert.KernelIdeal.Gelu
-- ==== Proof.Launch.lean ====
/-
  The launch on the whole mesh.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

noncomputable section

namespace Cert.KernelIdeal.Gelu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

/-! ## What the kernel starts from and leaves -/

/-- Before the body: ready, and the scratch buffers at any contents. -/
def atStart (c : Dev nD) : sProp 𝕄 :=
  iprop(ready m c ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- After it: every semaphore at zero, and the scratch buffers at any contents. -/
def atEnd (c : Dev nD) : sProp 𝕄 :=
  iprop((bigSep Finset.univ fun k : Fin 13 => semVal (cell c k) 0)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

theorem any_whole (c : Dev nD) (b : Ref sig .tc) (hb : b.space = .vmem) :
    (iprop(∃ f, (View.whole b).loc (c : Thread nD τ) ↦[(View.whole b).set]{fullShare} f) : sProp 𝕄)
      = iprop(∃ f, ((c : Thread nD τ).loc b) ↦{fullShare} f) := by
  rw [View.set_whole]

theorem any_scratch0 (c : Dev nD) : (any c zM : sProp 𝕄) = iprop(∃ f, ((c : Thread nD τ).loc cc0_scratch0) ↦{fullShare} f) := any_whole c cc0_scratch0 rfl
theorem any_scratch1 (c : Dev nD) : (any c rM : sProp 𝕄) = iprop(∃ f, ((c : Thread nD τ).loc cc0_scratch1) ↦{fullShare} f) := any_whole c cc0_scratch1 rfl
theorem any_scratch2 (c : Dev nD) : (any c vM : sProp 𝕄) = iprop(∃ f, ((c : Thread nD τ).loc cc0_scratch2) ↦{fullShare} f) := any_whole c cc0_scratch2 rfl
theorem any_stage2 (c : Dev nD) : (any c oM : sProp 𝕄) = iprop(∃ f, ((c : Thread nD τ).loc cc0_stg2_0) ↦{fullShare} f) := any_whole c cc0_stg2_0 rfl

/-- What the windows hold, and what the kernel owes, before and after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => xB m c
    | ⟨2, _⟩ => outv m
  Φ t := match t with
    | ⟨0, _⟩ => atStart m c
    | ⟨_ + 1, _⟩ => atEnd c
  q _ := fullShare
  owed t := match t with
    | ⟨0, _⟩ => O₀ c
    | ⟨_ + 1, _⟩ => 0

theorem chain_W (Φ : Fin cfg0.W → sProp 𝕄) : bigSep Finset.univ Φ = iprop(Φ (0 : Fin 3) ∗ Φ (1 : Fin 3) ∗ Φ (2 : Fin 3)) := bigSep_W0 Φ

/-- A whole staging buffer at contents `X`. -/
abbrev stage (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stage c b X := by
  unfold owns stage; simp only [Memref.view_whole, View.read_whole, View.set_whole]

/-- Every semaphore's round over, its count is zero again. -/
theorem close_all (K : Dev nD × Fin 13 → ℕ) (c : Dev nD) :
    iprop(ctx m K ∗ bigSep Finset.univ fun k : Fin 13 => over (F := F) c k) ⊢ |={Set.univ}=> bigSep Finset.univ fun k : Fin 13 => (semVal (cell c k) 0 : sProp 𝕄) := by
  have h (k : Fin 13) : iprop(ctx m K ∗ over c k) ⊢ iprop(cellInv ER (sched m) (K (c, k)) (cell c k) ∗ atPos ER (cell c k) 1 ∅ 0) := by
    iintro ⟨#Hc, H⟩
    isplitr; · (iapply (ctx_inv m K c k); iexact Hc)
    iexact H
  have hc := Rounds.cells_close ER (sched m) Finset.univ (cell c) (fun k => K (c, k)) (Es := Set.univ) (fun _ _ => Set.mem_univ _) (fun _ _ h => h) (fun _ => 1)
    (fun k _ => duties_later m (cell c k))
  exact (bigSep_with_persistent (R := ctx m K) fun k _ => h k).trans hc

def given (c : Dev nD) : sProp 𝕄 :=
  iprop(atStart m c ∗ (dats m ρ 0 c).owesAt () t0_0.castSucc
    ∗ (∃ d, stage c cc0_stg0_0 ((dats m ρ 0 c).before (0 : Fin 3) t0_0 d))
    ∗ (∃ d, stage c cc0_stg1_0 ((dats m ρ 0 c).before (1 : Fin 3) t0_0 d))
    ∗ (∃ d, stage c cc0_stg2_0 ((dats m ρ 0 c).before (2 : Fin 3) t0_0 d)))
def left (c : Dev nD) : sProp 𝕄 :=
  iprop(atEnd c ∗ (dats m ρ 0 c).owesAt () t0_0.succ ∗ stage c cc0_stg0_0 (xA m c) ∗ stage c cc0_stg1_0 (xB m c) ∗ stage c cc0_stg2_0 (outv m))

set_option maxRecDepth 200000 in
/-- The body's obligation on device `c`. -/
theorem body_obligation (c : Dev nD) : BodyObligation (dats (F := F) m ρ 0 c) (defs₀ (F := F)) 𝒱₀ () Set.univ := fun t => by
  rw [fin_N0 t]
  rw [chain_W, chain_W]
  simp only [owns_stage]
  show given m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scratch7) (fun _ => left m ρ c)
  rw [body_eq]
  simp only [Prog.lift, Prog.bind_op, Prog.bind_ret, wp_deviceId]
  unfold given atStart ready Dat.owesAt Pipeline.owesWithin
  iintro ⟨⟨⟨%K, #Hctx, Hcr, Hf, Ht, Hd⟩, HZ, Hred, Hrecv⟩, ⟨%W, %hW, HO⟩, ⟨%d0, %g0, %hg0, HA⟩, ⟨%d1, %g1, %hg1, HB⟩, ⟨%d2, %g2, %hg2, HC⟩⟩
  have h0 : g0 = xA m c := by rw [hg0]; unfold Dat.before; rw [if_pos (fetch0_0 t0_0)]; rfl
  have h1 : g1 = xB m c := by rw [hg1]; unfold Dat.before; rw [if_pos (fetch0_1 t0_0)]; rfl
  subst h0 h1
  ihave Hout := (Entails.of_eq (any_stage2 (F := F) c).symm) $$ [HC]
  · iexists g2; iexact HC
  ihave Hred := (Entails.of_eq (any_scratch1 (F := F) c).symm) $$ Hred
  ihave Hrecv := (Entails.of_eq (any_scratch2 (F := F) c).symm) $$ Hrecv
  ihave Hw := (body_run m K c) $$ [HO Hcr Hf Ht Hd HA HB Hout HZ Hred Hrecv]
  · unfold start ow
    isplitl [HO Hcr Hf Ht Hd]
    · isplitl [HO]
      · isplitr; · iexact Hctx
        iexists W; iexact HO
      isplitl [Hcr]; · iexact Hcr
      isplitl [Hf]; · iexact Hf
      isplitl [Ht] <;> iassumption
    isplitl [HA]; · iexact HA
    isplitl [HB]; · iexact HB
    isplitl [Hout]; · iexact Hout
    isplitl [HZ]; · iexact HZ
    isplitl [Hred] <;> iassumption
  iapply wp_fupd
  iapply (wp_wand frame _ Set.univ) $$ Hw
  unfold finish ow
  iintro %u ⟨⟨⟨-, ⟨%W', HO⟩⟩, Hover⟩, HA, HB, HC, HZ, Hred, Hrecv⟩
  imod (close_all m K c) $$ [Hover] with Hz
  · isplitr; · iexact Hctx
    iexact Hover
  imodintro
  unfold left atEnd Dat.owesAt Pipeline.owesWithin
  isplitl [Hz HZ Hred Hrecv]
  · isplitl [Hz]; · iexact Hz
    isplitl [HZ]; · (iapply (Entails.of_eq (any_scratch0 (F := F) c)); iexact HZ)
    isplitl [Hred]; · (iapply (Entails.of_eq (any_scratch1 (F := F) c)); iexact Hred)
    iapply (Entails.of_eq (any_scratch2 (F := F) c)); iexact Hrecv
  isplitl [HO]
  · iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact HC

/-! ## The run -/

theorem share_eq (c : Dev nD) (w : Fin cfg0.W) : (dats m ρ 0 c).share w = fullShare := by unfold Dat.share; split <;> rfl

theorem begin_with (c : Dev nD) :
    iprop(Pipeline.unscopedRestP Pipeline.Prefetch.none cfg0.spec c (fun b => m ((c : Thread nD τ).loc b)) ∗ levAts L lv
        ∗ Pipeline.launchCred O₀ c ∗ prngReg c (ρ c) ∗ own₂ m c)
      ⊢ |={Set.univ}=> iprop(ready m c ∗ emp) := by
  iintro ⟨-, Hl, Hcr, -, Ho⟩
  imodintro
  isplitl
  · iapply (ready_intro m c)
    isplitl [Ho]; · iexact Ho
    isplitl [Hcr]; · iexact Hcr
    unfold levels; iexact Hl
  iempintro

theorem enter_body (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m c from rfl, scopedRest0_eq]
  unfold atStart
  iintro ⟨Hr, -, Hs⟩
  isplitl [Hr] <;> iassumption

theorem leave_body (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = atEnd c from rfl, scopedRest0_eq]
  unfold atEnd
  rw [sems_eq]
  iintro ⟨⟨Hu, Ho⟩, Hs⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> rfl) _ (by
      rcases t with ⟨_ | _, ht⟩
      · exact above_O₀ c
      · exact above_zero 0)

/-- The arrays when the program ends. -/
def final (c : Dev nD) (w : Fin cfg0.W) : Buf (Elt F) ((cfg0.win w).arr.view.loc (c : Thread nD τ)) := (dats m ρ 0 c).arrAt w cfg0.N

/-- Every array ends at its computed contents. -/
def Ends : PUnit × MemSt nD τ sig (Elt F) → Prop := fun r =>
  ∀ c : Dev nD, ∀ w : Fin cfg0.W, r.2.mem ((cfg0.win w).arr.view.loc (c : Thread nD τ)) = final m ρ c w

set_option maxRecDepth 200000 in
/-- From any memory with zero counters the program terminates, every array at its computed contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m) (G' := own₂ m) (u₀ := u₀)
    (hu₀ := by
      unfold u₀
      iintro Hu
      ihave H := (ownU_pair _ _) $$ Hu
      icases H with ⟨HP, HX⟩
      imod (mint_all m) $$ HX with HG
      imodintro
      isplitl [HP] <;> iassumption)
    (hglob := glob m)
    (hA := fun _ _ => rfl) (hpf := fun _ k => k.elim0)
    (X := ready m) (Y := fun c => unscopedSems0 c) (Z := fun _ => iprop(emp))
    (hX := begin_with m ρ) (hin := enter_body m ρ) (hout := leave_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_0 (c : Dev nD) : final m ρ c (0 : Fin 3) = m ((c : Thread nD τ).loc main_arg0) := (dats (F := F) m ρ 0 c).arrAt_in (0 : Fin 3) rfl _
theorem final_1 (c : Dev nD) : final m ρ c (1 : Fin 3) = m ((c : Thread nD τ).loc main_arg1) := (dats (F := F) m ρ 0 c).arrAt_in (1 : Fin 3) rfl _

theorem final_2 (c : Dev nD) : final m ρ c (2 : Fin 3) = outv m := by
  have e : (win0_2.blk (0 : Fin 1)).view.read (Elt F) (final m ρ c (2 : Fin 3)) = outv m := by
    unfold final
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  rwa [show (win0_2.blk (0 : Fin 1)).view.read (Elt F) (final m ρ c (2 : Fin 3)) = final m ρ c (2 : Fin 3) from
    Memref.read_access_unit_zero (Elt F) main_v1 hz (fun a => by fin_cases a <;> decide) _] at e

/-- A device's operands are the whole of its argument arrays. -/
theorem xA_eq (c : Dev nD) : xA m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem xB_eq (c : Dev nD) : xB m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

end Cert.KernelIdeal.Gelu
-- ==== Proof.Frame.lean ====
/-
  The frame of the kernel over any float values, and that the kernel's own frame says the same of its text.
-/
module

public import proofs.«01_k».proof.Defs
public import proofs.«01_k».proof.Proof.Gen.Kernel
public import proofs.«01_k».proof.Proof.Launch
public import Idealize.ShloMosaic.Lib.Pipeline.Regions

@[expose] public section

noncomputable section

namespace Cert.KernelIdeal.Gelu

open Cert.KernelIdeal Cert.KernelIdeal.Gen
open Idealize.ShloMosaic Idealize.ShloMosaic.TcCoe Idealize.SL.Sem

/-- From any memory, the kernel terminates, leaves its arguments as they were and every counter at zero. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

variable {F : FTy → Type} [FloatOps F]

/-- What every window's array holds at the end, read off for the three arrays. -/
theorem ends_arrays (m : (ℓ : Loc nD τ sig) → Buf (Elt F) ℓ) (ρ : Dev nD → PrngReg) {r : PUnit × MemSt nD τ sig (Elt F)} (h : Ends m ρ r) (c : Dev nD) :
    r.2.mem ((c.tc : Thread nD τ).loc main_v1) = outv m
    ∧ r.2.mem ((c.tc : Thread nD τ).loc main_arg0) = m ((c.tc : Thread nD τ).loc main_arg0)
    ∧ r.2.mem ((c.tc : Thread nD τ).loc main_arg1) = m ((c.tc : Thread nD τ).loc main_arg1) :=
  ⟨(h c (2 : Fin 3)).trans (final_2 m ρ c), (h c (0 : Fin 3)).trans (final_0 m ρ c), (h c (1 : Fin 3)).trans (final_1 m ρ c)⟩

theorem framed : Framed F := fun m g _ =>
  (θ_run defs _ _).mono (fun _ h => ⟨fun c => (ends_arrays m g h.1 c).2, h.2⟩) (run_main m g)

/-- The printed kernel and its ideal copy are one text. -/
theorem same : Cert.quiescent_Kernel (hKernel := Cert.Kernel.Gen.facts) = Framed Bits := by chain_rfl

end Cert.KernelIdeal.Gelu
-- ==== Proof.Value.lean ====
/-
  The result at exact values: gelu of the sum of all devices' products, which is gelu of the whole product.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.IdealHost
public import Idealize.ShloMosaic.Lib.Pipeline.Value
public import Idealize.ShloMosaic.PureOps.Ideal.Laws

@[expose] public section

noncomputable section

namespace Cert.KernelIdeal.Gelu

open Cert.KernelIdeal Cert.KernelIdeal.Gen
open Idealize.ShloMosaic Idealize.ShloMosaic.TcCoe Idealize.ShloMosaic.ValueIdx

/-- The activation of one element. -/
def act (x : EReal) : EReal :=
  Ideal.ofBits .f32 0x3F000000#32 * x
    * (Ideal.ofBits .f32 0x3F800000#32
      + Ideal.tanh (Ideal.ofBits .f32 0x3F4C422A#32 * (x + Ideal.ofBits .f32 0x3D372713#32 * x * x * x)))

theorem gelu_apply (x : FVec Ideal S16x256 .f32) (j : S16x256.Idx) : gelu x j = act (x j) := by
  unfold gelu; rw [shapeCast_self]; rfl

variable (m : (ℓ : Loc nD τ sig) → Buf (Elt Ideal) ℓ)

/-- Elements of device `p`'s blocks and of its product. -/
def elA (p : Dev nD) (a : Fin 512) (k : Fin 256) : EReal := (xA m p : FVec Ideal S512x256 .bf16) (ix2 a k)
def elB (p : Dev nD) (k : Fin 256) (b : Fin 512) : EReal := (xB m p : FVec Ideal S256x512 .bf16) (ix2 k b)
def elZ (p : Dev nD) (i : S512x512.Idx) : EReal := (zval m p : FVec Ideal S512x512 .bf16) i

theorem zval_apply (p : Dev nD) (a b : Fin 512) :
    elZ m p (ix2 a b) = ∑ k : Fin 256, elA m p a k * elB m p k b := by
  have e := Ideal.matmul_plain_apply (M := 512) (K := 256) (N := 512) (φ₁ := .bf16) (φ₂ := .bf16) none (xA m p : FVec Ideal ⟨2, ![512, 256]⟩ .bf16) (xB m p : FVec Ideal ⟨2, ![256, 512]⟩ .bf16)
    (constant S512x512 .f32 0x00000000#32) a b
  unfold elZ zval k0_pay1
  simp only [shapeCast_self]
  refine Eq.trans e ?_
  rw [show (constant (F := Ideal) S512x512 .f32 0x00000000#32 (ix2 a b) : EReal) = 0 from Ideal.ofBits_zero_f32, zero_add]
  rfl

/-- Adding up in a row is the sum, element by element. -/
theorem fold_apply (f : Fin 32 → FVec Ideal S16x256 .f32) (j : S16x256.Idx) : ∀ (l : List (Fin 32)) (x : FVec Ideal S16x256 .f32),
    ((l.foldl (fun acc s => addf acc (f s)) x) j : EReal) = (x j : EReal) + (l.map fun s => (f s j : EReal)).sum
  | [], x => by rw [List.foldl_nil, List.map_nil, List.sum_nil]; exact (add_zero _).symm
  | s :: l, x => by
    rw [List.foldl_cons, fold_apply f j l, List.map_cons, List.sum_cons, ← add_assoc]; rfl

theorem sum_slots (f : Fin 32 → EReal) : f 0 + (slots.map f).sum = ∑ s : Fin 32, f s := by
  rw [Fin.sum_univ_def, show List.finRange 32 = 0 :: slots from by decide, List.map_cons, List.sum_cons]

/-- An element of the summed product. -/
theorem gsum_apply (c : Dev nD) (h : Fin 2) (j : S16x256.Idx) :
    (gsum m c h j : EReal) = ∑ p : Dev nD, elZ m p ((blkR h c).emb j) := by
  unfold gsum
  rw [fold_apply (fun s => part (zblk m (aft c s) h c)) j]
  refine (sum_slots fun s => (part (zblk m (aft c s) h c) j : EReal)).trans ?_
  exact Equiv.sum_comp (fromHere c) fun p => elZ m p ((blkR h c).emb j)

/-- An element of the result. -/
theorem outv_apply (a b : Fin 512) :
    (outv m (ix2 a b) : EReal) = act (∑ p : Dev nD, ∑ k : Fin 256, elA m p a k * elB m p k b) := by
  have ha : a.val < 512 := a.isLt
  have hb : b.val < 512 := b.isLt
  let c : Dev nD := ⟨a.val / 16, by show _ < 32; omega⟩
  let h : Fin 2 := ⟨b.val / 256, by omega⟩
  let j : S16x256.Idx := bix (a.val % 16) (b.val % 256) (Nat.mod_lt _ (by decide)) (Nat.mod_lt _ (by decide))
  have e : (blkR h c).emb j = ix2 a b := by
    funext x
    match x with
    | ⟨0, _⟩ => exact Fin.ext ((emb_blk0 h c j).trans (by show 16 * (a.val / 16) + a.val % 16 = a.val; omega))
    | ⟨1, _⟩ => exact Fin.ext ((emb_blk1 h c j).trans (by show 256 * (b.val / 256) + b.val % 256 = b.val; omega))
  rw [← e, outv_emb]
  unfold gblk
  rw [gelu_apply, gsum_apply, e]
  exact congrArg act (Finset.sum_congr rfl fun p _ => zval_apply m p a b)

/-- A sum over a long axis, block by block. -/
theorem sum_blocks (f : Fin (32 * 256) → EReal) : ∑ K, f K = ∑ p : Fin 32, ∑ k : Fin 256, f (finProdFinEquiv (p, k)) := by
  rw [← Equiv.sum_comp finProdFinEquiv, Fintype.sum_prod_type]

/-- The activation of the product of two whole arrays, element by element. -/
def refv (A : FVec Ideal Cert.ReferenceIdeal.S512x8192 .bf16) (B : FVec Ideal Cert.ReferenceIdeal.S8192x512 .bf16) : FVec Ideal Cert.ReferenceIdeal.S512x512 .bf16 :=
  fun i => act (∑ K : Fin 8192, (A (ix2 (i 0) K) : EReal) * (B (ix2 K (i 1)) : EReal))

/-- From the blocks of two arrays, every device computes the activation of the whole product. -/
theorem outv_eq (A : FVec Ideal Cert.ReferenceIdeal.S512x8192 .bf16) (B : FVec Ideal Cert.ReferenceIdeal.S8192x512 .bf16)
    (hA : ∀ c : Dev nD, m ((c : Thread nD τ).loc main_arg0) = Layout.block ⟨2, ![512, 256]⟩ ⟨2, ![512, 8192]⟩ 1 32 c A)
    (hB : ∀ c : Dev nD, m ((c : Thread nD τ).loc main_arg1) = Layout.block ⟨2, ![256, 512]⟩ ⟨2, ![8192, 512]⟩ 0 32 c B) : outv m = refv A B := by
  funext i
  obtain ⟨a, b, rfl⟩ : ∃ a b : Fin 512, i = ix2 a b := ⟨i 0, i 1, eq_ix2 i⟩
  refine (outv_apply m a b).trans (congrArg act ?_)
  refine Eq.trans ?_ (sum_blocks fun K => (A (ix2 a K) : EReal) * (B (ix2 K b) : EReal)).symm
  refine Finset.sum_congr rfl fun p _ => Finset.sum_congr rfl fun k _ => ?_
  unfold elA elB
  rw [xA_eq, xB_eq, hA p, hB p]
  refine congrArg₂ (fun x y : EReal => x * y) (congrArg A ?_) (congrArg B ?_)
  · funext x
    match x with
    | ⟨0, _⟩ => rfl
    | ⟨1, _⟩ => exact Fin.ext (by show p.val * 256 + k.val = k.val + 256 * p.val; omega)
  · funext x
    match x with
    | ⟨0, _⟩ => exact Fin.ext (by show p.val * 256 + k.val = k.val + 256 * p.val; omega)
    | ⟨1, _⟩ => rfl

end Cert.KernelIdeal.Gelu

namespace Cert.ReferenceIdeal.Gelu

open Cert.ReferenceIdeal Cert.ReferenceIdeal.Gen
open Idealize.ShloMosaic Idealize.ShloMosaic.TcCoe Idealize.ShloMosaic.ValueIdx Idealize.SL.Sem
open Cert.KernelIdeal.Gelu (act refv)

/-- The reference's product. -/
def prod (A : FVec Ideal S512x8192 .bf16) (B : FVec Ideal S8192x512 .bf16) : FVec Ideal S512x512 .f32 :=
  Host.dotGeneral dot_S512x8192_S8192x512_S512x512_1_0_0_1_n_n none (extf .f32 A bitsLt_bf16_f32) (extf .f32 B bitsLt_bf16_f32)

theorem prod_apply (A : FVec Ideal S512x8192 .bf16) (B : FVec Ideal S8192x512 .bf16) (a b : Fin 512) :
    (prod A B (ix2 a b) : EReal) = ∑ K : Fin 8192, (A (ix2 a K) : EReal) * (B (ix2 K b) : EReal) :=
  StackMember.dotGeneral_plain_apply (m := 512) (n := 512) (k := 8192) none (extf .f32 A bitsLt_bf16_f32 : FVec Ideal ⟨2, ![512, 8192]⟩ .f32)
    (extf .f32 B bitsLt_bf16_f32 : FVec Ideal ⟨2, ![8192, 512]⟩ .f32) a b

/-- What the reference does after the product is the activation of each element. -/
theorem tail_apply (Z : FVec Ideal S512x512 .f32) (i : S512x512.Idx) :
    (truncf .bf16 (mulf (mulf (broadcastInDim S512x512 ![] bcast_S_S512x512 (constant S_ .f32 0x3F000000#32)) Z)
      (addf (broadcastInDim S512x512 ![] bcast_S_S512x512 (constant S_ .f32 0x3F800000#32))
        (Host.tanh (mulf (broadcastInDim S512x512 ![] bcast_S_S512x512 (constant S_ .f32 0x3F4C422A#32))
          (addf Z (mulf (mulf (mulf (broadcastInDim S512x512 ![] bcast_S_S512x512 (constant S_ .f32 0x3D372713#32)) Z) Z) Z)))))) bitsLt_bf16_f32
      : FVec Ideal S512x512 .bf16) i = act (Z i) := rfl

/-- The reference terminates, its result the activation of its arguments' product; the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext i
      obtain ⟨a, b, rfl⟩ : ∃ a b : Fin 512, i = ix2 a b := ⟨i 0, i 1, eq_ix2 i⟩
      exact (tail_apply (prod _ _) (ix2 a b)).trans (congrArg act (prod_apply _ _ a b))), (h c).2⟩)
    (Cert.ReferenceIdeal.Value.run (F := Ideal) m ρ)

end Cert.ReferenceIdeal.Gelu
-- ==== Proof.lean ====
/-
  The claims: the kernel, its ideal copy and the reference terminate with their arguments unchanged and every counter at
  zero; the ideal copy is the kernel's own text; and on every device the result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its arguments unchanged; it has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Gelu.run m g)

/-- Every device ends holding gelu of the whole product, which is what the reference computes. -/
theorem value : Cert.algebraic_KernelIdeal_ReferenceIdeal (hKernelIdeal := Cert.KernelIdeal.Gen.facts)
    (hReferenceIdeal := Cert.ReferenceIdeal.Gen.facts) := fun m g m' g' _ hblk =>
  ⟨Cert.KernelIdeal.Gelu.refv _ _,
    (θ_run Cert.KernelIdeal.defs _ _).mono (fun r h c =>
      have e := Cert.KernelIdeal.Gelu.ends_arrays m g h.1 c
      ⟨e.1.trans (Cert.KernelIdeal.Gelu.outv_eq m _ _ (fun d => (hblk d).1) (fun d => (hblk d).2)), e.2⟩)
      (Cert.KernelIdeal.Gelu.run_main m g),
    (θ_run Cert.ReferenceIdeal.defs _ _).mono (fun r h => h 0) (Cert.ReferenceIdeal.Gelu.run m' g')⟩

/-- All five claims. -/
theorem claim : Cert.Claim := ⟨Cert.Kernel.Gen.facts, Cert.KernelIdeal.Gen.facts, Cert.ReferenceIdeal.Gen.facts,
  Cert.KernelIdeal.Gelu.same ▸ Cert.KernelIdeal.Gelu.framed, Cert.KernelIdeal.Gelu.framed, frame_reference, trivial, value⟩

end Cert.Proof

end
